-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![65536, 1024]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S65536x1024 : Shape := ⟨2, ![65536, 1024]⟩
abbrev S_ : Shape := ⟨0, ![]⟩
abbrev S3x4 : Shape := ⟨2, ![3, 4]⟩
abbrev S1x1 : Shape := ⟨2, ![1, 1]⟩
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S65536x1024, .f32⟩
  | _, _ => ⟨S16384x1024, .f32⟩

abbrev bufScoped : (cs : CoreSpace) → Fin (nBuf (.core cs)) → Bool
  | _, _ => false

abbrev semScoped : Fin 1 → Bool
  | ⟨0, _⟩ => false
  | _ => false

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  (ofTc nBuf bufTy 1 97 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v24 : BitVec 32 := Scalar.muli v2 c16_i32_11
  let v25 : BitVec 32 := Scalar.addi c0_i32_12 v24
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v26 : BitVec 32 := Scalar.muli v5 c4_i32_13
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v13 : BitVec 32 := Scalar.addi v8 c1_i32_4
  let c4_i32_5 : BitVec 32 := 4#32
  let c0_i32 : BitVec 32 := 0#32
  let v14 : BitVec 1 := Scalar.cmpi .eq c4_i32_5 c0_i32
  let c1_i32_6 : BitVec 32 := 1#32
  let v15 : BitVec 32 := Scalar.select v14 c1_i32_6 c4_i32_5
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c1_i32_14 : BitVec 32 := 1#32
  let v28 : BitVec 32 := Scalar.muli v23 c1_i32_14
  let v29 : BitVec 32 := Scalar.addi v27 v28
  v29.toNat
def k0_dev2 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v41 : BitVec 32 := Scalar.muli v2 c16_i32_23
  let v42 : BitVec 32 := Scalar.addi c0_i32_24 v41
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_25 : BitVec 32 := 4#32
  let v43 : BitVec 32 := Scalar.muli v5 c4_i32_25
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let v30 : BitVec 32 := Scalar.addi v8 c2_i32_15
  let c4_i32_16 : BitVec 32 := 4#32
  let c0_i32_17 : BitVec 32 := 0#32
  let v31 : BitVec 1 := Scalar.cmpi .eq c4_i32_16 c0_i32_17
  let c1_i32_18 : BitVec 32 := 1#32
  let v32 : BitVec 32 := Scalar.select v31 c1_i32_18 c4_i32_16
  let v33 : BitVec 32 := Scalar.remsi v30 v32
  let c0_i32_20 : BitVec 32 := 0#32
  let v35 : BitVec 1 := Scalar.cmpi .slt v33 c0_i32_20
  let c0_i32_21 : BitVec 32 := 0#32
  let v36 : BitVec 1 := Scalar.cmpi .slt v32 c0_i32_21
  let v37 : BitVec 1 := Scalar.xori v35 v36
  let c0_i32_19 : BitVec 32 := 0#32
  let v34 : BitVec 1 := Scalar.cmpi .ne v33 c0_i32_19
  let v38 : BitVec 1 := Scalar.andi v37 v34
  let v39 : BitVec 32 := Scalar.addi v33 v32
  let v40 : BitVec 32 := Scalar.select v38 v39 v33
  let c1_i32_26 : BitVec 32 := 1#32
  let v45 : BitVec 32 := Scalar.muli v40 c1_i32_26
  let v46 : BitVec 32 := Scalar.addi v44 v45
  v46.toNat
def k0_dev3 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v58 : BitVec 32 := Scalar.muli v2 c16_i32_34
  let v59 : BitVec 32 := Scalar.addi c0_i32_35 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_36 : BitVec 32 := 4#32
  let v60 : BitVec 32 := Scalar.muli v5 c4_i32_36
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v47 : BitVec 32 := Scalar.addi v8 c3_i32
  let c4_i32_27 : BitVec 32 := 4#32
  let c0_i32_28 : BitVec 32 := 0#32
  let v48 : BitVec 1 := Scalar.cmpi .eq c4_i32_27 c0_i32_28
  let c1_i32_29 : BitVec 32 := 1#32
  let v49 : BitVec 32 := Scalar.select v48 c1_i32_29 c4_i32_27
  let v50 : BitVec 32 := Scalar.remsi v47 v49
  let c0_i32_31 : BitVec 32 := 0#32
  let v52 : BitVec 1 := Scalar.cmpi .slt v50 c0_i32_31
  let c0_i32_32 : BitVec 32 := 0#32
  let v53 : BitVec 1 := Scalar.cmpi .slt v49 c0_i32_32
  let v54 : BitVec 1 := Scalar.xori v52 v53
  let c0_i32_30 : BitVec 32 := 0#32
  let v51 : BitVec 1 := Scalar.cmpi .ne v50 c0_i32_30
  let v55 : BitVec 1 := Scalar.andi v54 v51
  let v56 : BitVec 32 := Scalar.addi v50 v49
  let v57 : BitVec 32 := Scalar.select v55 v56 v50
  let c1_i32_37 : BitVec 32 := 1#32
  let v62 : BitVec 32 := Scalar.muli v57 c1_i32_37
  let v63 : BitVec 32 := Scalar.addi v61 v62
  v63.toNat
def k0_dev4 (d0 : Dev nD) : Nat :=
  let c0_i32_40 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_39 : BitVec 32 := 16#32
  let v64 : BitVec 32 := Scalar.muli v9 c16_i32_39
  let v65 : BitVec 32 := Scalar.addi c0_i32_40 v64
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_41 : BitVec 32 := 4#32
  let v66 : BitVec 32 := Scalar.muli v5 c4_i32_41
  let v67 : BitVec 32 := Scalar.addi v65 v66
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v68 : BitVec 32 := Scalar.muli v8 c1_i32_42
  let v69 : BitVec 32 := Scalar.addi v67 v68
  v69.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c16384_i32 : BitVec 32 := 16384#32
  let v70 : BitVec 32 := Scalar.muli v8 c16384_i32
  let c0_i32_44 : BitVec 32 := 0#32
  ![v70.toNat, 0]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_75 : BitVec 32 := 3#32
  let v118 : BitVec 1 := Scalar.cmpi .slt v8 c3_i32_75
  let c0_i32_45 : BitVec 32 := 0#32
  let v72 : BitVec 32 := Scalar.subi v8 c0_i32_45
  let c0_i32_76 : BitVec 32 := 0#32
  let v119 : BitVec 1 := Scalar.cmpi .sge v72 c0_i32_76
  let v120 : BitVec 1 := Scalar.andi v118 v119
  let v126 : BitVec 32 := Scalar.extui v120
  let c0_i32_81 : BitVec 32 := 0#32
  let v127 : BitVec 1 := Scalar.cmpi .ne v126 c0_i32_81
  v127

def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_45 : BitVec 32 := 0#32
  let v72 : BitVec 32 := Scalar.subi v8 c0_i32_45
  let c4_i32_51 : BitVec 32 := 4#32
  let c0_i32_52 : BitVec 32 := 0#32
  let v78 : BitVec 1 := Scalar.cmpi .eq c4_i32_51 c0_i32_52
  let c1_i32_53 : BitVec 32 := 1#32
  let v79 : BitVec 32 := Scalar.select v78 c1_i32_53 c4_i32_51
  let v80 : BitVec 32 := Scalar.remsi v72 v79
  let c0_i32_55 : BitVec 32 := 0#32
  let v82 : BitVec 1 := Scalar.cmpi .slt v80 c0_i32_55
  let c0_i32_56 : BitVec 32 := 0#32
  let v83 : BitVec 1 := Scalar.cmpi .slt v79 c0_i32_56
  let v84 : BitVec 1 := Scalar.xori v82 v83
  let c0_i32_54 : BitVec 32 := 0#32
  let v81 : BitVec 1 := Scalar.cmpi .ne v80 c0_i32_54
  let v85 : BitVec 1 := Scalar.andi v84 v81
  let v86 : BitVec 32 := Scalar.addi v80 v79
  let v87 : BitVec 32 := Scalar.select v85 v86 v80
  let c16384_i32_323 : BitVec 32 := 16384#32
  let v530 : BitVec 32 := Scalar.muli v87 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v531 : BitVec 32 := Scalar.addi v530 v10
  let c0_i32_324 : BitVec 32 := 0#32
  let v532 : BitVec 32 := Scalar.addi v531 c0_i32_324
  let c0_i32_334 : BitVec 32 := 0#32
  ![v532.toNat, 0]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let c0_i32_322 : BitVec 32 := 0#32
  let v529 : BitVec 32 := Scalar.addi v10 c0_i32_322
  let c0_i32_335 : BitVec 32 := 0#32
  ![v529.toNat, 0]
def k0_dev5 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v534 : BitVec 32 := Scalar.muli v2 c16_i32_330
  let v535 : BitVec 32 := Scalar.addi c0_i32_331 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v536 : BitVec 32 := Scalar.muli v5 c4_i32_332
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v533 : BitVec 32 := Scalar.addi v8 c1_i32_325
  let c1_i32_333 : BitVec 32 := 1#32
  let v538 : BitVec 32 := Scalar.muli v533 c1_i32_333
  let v539 : BitVec 32 := Scalar.addi v537 v538
  v539.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_77 : BitVec 32 := 0#32
  let v121 : BitVec 1 := Scalar.cmpi .sgt v8 c0_i32_77
  let c0_i32_46 : BitVec 32 := 0#32
  let v73 : BitVec 32 := Scalar.addi v8 c0_i32_46
  let c3_i32_78 : BitVec 32 := 3#32
  let v122 : BitVec 1 := Scalar.cmpi .sle v73 c3_i32_78
  let v123 : BitVec 1 := Scalar.andi v121 v122
  let v128 : BitVec 32 := Scalar.extui v123
  let c0_i32_82 : BitVec 32 := 0#32
  let v129 : BitVec 1 := Scalar.cmpi .ne v128 c0_i32_82
  v129

def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_46 : BitVec 32 := 0#32
  let v73 : BitVec 32 := Scalar.addi v8 c0_i32_46
  let c4_i32_57 : BitVec 32 := 4#32
  let c0_i32_58 : BitVec 32 := 0#32
  let v88 : BitVec 1 := Scalar.cmpi .eq c4_i32_57 c0_i32_58
  let c1_i32_59 : BitVec 32 := 1#32
  let v89 : BitVec 32 := Scalar.select v88 c1_i32_59 c4_i32_57
  let v90 : BitVec 32 := Scalar.remsi v73 v89
  let c0_i32_61 : BitVec 32 := 0#32
  let v92 : BitVec 1 := Scalar.cmpi .slt v90 c0_i32_61
  let c0_i32_62 : BitVec 32 := 0#32
  let v93 : BitVec 1 := Scalar.cmpi .slt v89 c0_i32_62
  let v94 : BitVec 1 := Scalar.xori v92 v93
  let c0_i32_60 : BitVec 32 := 0#32
  let v91 : BitVec 1 := Scalar.cmpi .ne v90 c0_i32_60
  let v95 : BitVec 1 := Scalar.andi v94 v91
  let v96 : BitVec 32 := Scalar.addi v90 v89
  let v97 : BitVec 32 := Scalar.select v95 v96 v90
  let c16384_i32_323 : BitVec 32 := 16384#32
  let v530 : BitVec 32 := Scalar.muli v97 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v531 : BitVec 32 := Scalar.addi v530 v10
  let c0_i32_324 : BitVec 32 := 0#32
  let v532 : BitVec 32 := Scalar.addi v531 c0_i32_324
  let c0_i32_334 : BitVec 32 := 0#32
  ![v532.toNat, 0]
def k0_off5 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let c0_i32_322 : BitVec 32 := 0#32
  let v529 : BitVec 32 := Scalar.addi v10 c0_i32_322
  let c0_i32_335 : BitVec 32 := 0#32
  ![v529.toNat, 0]
def k0_dev6 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v534 : BitVec 32 := Scalar.muli v2 c16_i32_330
  let v535 : BitVec 32 := Scalar.addi c0_i32_331 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v536 : BitVec 32 := Scalar.muli v5 c4_i32_332
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v533 : BitVec 32 := Scalar.subi v8 c1_i32_325
  let c1_i32_333 : BitVec 32 := 1#32
  let v538 : BitVec 32 := Scalar.muli v533 c1_i32_333
  let v539 : BitVec 32 := Scalar.addi v537 v538
  v539.toNat
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v74 : BitVec 32 := Scalar.subi v8 c1_i32_47
  let c0_i32_48 : BitVec 32 := 0#32
  let v75 : BitVec 32 := Scalar.subi v74 c0_i32_48
  let c0_i32_79 : BitVec 32 := 0#32
  let v124 : BitVec 1 := Scalar.cmpi .sge v75 c0_i32_79
  let v130 : BitVec 32 := Scalar.extui v124
  let c0_i32_83 : BitVec 32 := 0#32
  let v131 : BitVec 1 := Scalar.cmpi .ne v130 c0_i32_83
  v131

def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v74 : BitVec 32 := Scalar.subi v8 c1_i32_47
  let c0_i32_48 : BitVec 32 := 0#32
  let v75 : BitVec 32 := Scalar.subi v74 c0_i32_48
  let c4_i32_63 : BitVec 32 := 4#32
  let c0_i32_64 : BitVec 32 := 0#32
  let v98 : BitVec 1 := Scalar.cmpi .eq c4_i32_63 c0_i32_64
  let c1_i32_65 : BitVec 32 := 1#32
  let v99 : BitVec 32 := Scalar.select v98 c1_i32_65 c4_i32_63
  let v100 : BitVec 32 := Scalar.remsi v75 v99
  let c0_i32_67 : BitVec 32 := 0#32
  let v102 : BitVec 1 := Scalar.cmpi .slt v100 c0_i32_67
  let c0_i32_68 : BitVec 32 := 0#32
  let v103 : BitVec 1 := Scalar.cmpi .slt v99 c0_i32_68
  let v104 : BitVec 1 := Scalar.xori v102 v103
  let c0_i32_66 : BitVec 32 := 0#32
  let v101 : BitVec 1 := Scalar.cmpi .ne v100 c0_i32_66
  let v105 : BitVec 1 := Scalar.andi v104 v101
  let v106 : BitVec 32 := Scalar.addi v100 v99
  let v107 : BitVec 32 := Scalar.select v105 v106 v100
  let c16384_i32_324 : BitVec 32 := 16384#32
  let v532 : BitVec 32 := Scalar.muli v107 c16384_i32_324
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c0_i32_325 : BitVec 32 := 0#32
  let v534 : BitVec 32 := Scalar.addi v533 c0_i32_325
  let c0_i32_335 : BitVec 32 := 0#32
  ![v534.toNat, 0]
def k0_dev7 (d0 : Dev nD) : Nat :=
  let c0_i32_346 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_345 : BitVec 32 := 16#32
  let v552 : BitVec 32 := Scalar.muli v9 c16_i32_345
  let v553 : BitVec 32 := Scalar.addi c0_i32_346 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v554 : BitVec 32 := Scalar.muli v5 c4_i32_347
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v556 : BitVec 32 := Scalar.muli v8 c1_i32_348
  let v557 : BitVec 32 := Scalar.addi v555 v556
  v557.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v76 : BitVec 32 := Scalar.addi v8 c1_i32_49
  let c0_i32_50 : BitVec 32 := 0#32
  let v77 : BitVec 32 := Scalar.addi v76 c0_i32_50
  let c3_i32_80 : BitVec 32 := 3#32
  let v125 : BitVec 1 := Scalar.cmpi .sle v77 c3_i32_80
  let v132 : BitVec 32 := Scalar.extui v125
  let c0_i32_84 : BitVec 32 := 0#32
  let v133 : BitVec 1 := Scalar.cmpi .ne v132 c0_i32_84
  v133

def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v76 : BitVec 32 := Scalar.addi v8 c1_i32_49
  let c0_i32_50 : BitVec 32 := 0#32
  let v77 : BitVec 32 := Scalar.addi v76 c0_i32_50
  let c4_i32_69 : BitVec 32 := 4#32
  let c0_i32_70 : BitVec 32 := 0#32
  let v108 : BitVec 1 := Scalar.cmpi .eq c4_i32_69 c0_i32_70
  let c1_i32_71 : BitVec 32 := 1#32
  let v109 : BitVec 32 := Scalar.select v108 c1_i32_71 c4_i32_69
  let v110 : BitVec 32 := Scalar.remsi v77 v109
  let c0_i32_73 : BitVec 32 := 0#32
  let v112 : BitVec 1 := Scalar.cmpi .slt v110 c0_i32_73
  let c0_i32_74 : BitVec 32 := 0#32
  let v113 : BitVec 1 := Scalar.cmpi .slt v109 c0_i32_74
  let v114 : BitVec 1 := Scalar.xori v112 v113
  let c0_i32_72 : BitVec 32 := 0#32
  let v111 : BitVec 1 := Scalar.cmpi .ne v110 c0_i32_72
  let v115 : BitVec 1 := Scalar.andi v114 v111
  let v116 : BitVec 32 := Scalar.addi v110 v109
  let v117 : BitVec 32 := Scalar.select v115 v116 v110
  let c16384_i32_324 : BitVec 32 := 16384#32
  let v532 : BitVec 32 := Scalar.muli v117 c16384_i32_324
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c0_i32_325 : BitVec 32 := 0#32
  let v534 : BitVec 32 := Scalar.addi v533 c0_i32_325
  let c0_i32_335 : BitVec 32 := 0#32
  ![v534.toNat, 0]
def k0_dev8 (d0 : Dev nD) : Nat :=
  let c0_i32_346 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_345 : BitVec 32 := 16#32
  let v552 : BitVec 32 := Scalar.muli v9 c16_i32_345
  let v553 : BitVec 32 := Scalar.addi c0_i32_346 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v554 : BitVec 32 := Scalar.muli v5 c4_i32_347
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v556 : BitVec 32 := Scalar.muli v8 c1_i32_348
  let v557 : BitVec 32 := Scalar.addi v555 v556
  v557.toNat
def k0_cond5 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_75 : BitVec 32 := 3#32
  let v118 : BitVec 1 := Scalar.cmpi .slt v8 c3_i32_75
  let c0_i32_45 : BitVec 32 := 0#32
  let v72 : BitVec 32 := Scalar.subi v8 c0_i32_45
  let c0_i32_76 : BitVec 32 := 0#32
  let v119 : BitVec 1 := Scalar.cmpi .sge v72 c0_i32_76
  let v120 : BitVec 1 := Scalar.andi v118 v119
  let v134 : BitVec 32 := Scalar.extui v120
  let c0_i32_85 : BitVec 32 := 0#32
  let v135 : BitVec 1 := Scalar.cmpi .ne v134 c0_i32_85
  v135

def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_45 : BitVec 32 := 0#32
  let v72 : BitVec 32 := Scalar.subi v8 c0_i32_45
  let c4_i32_51 : BitVec 32 := 4#32
  let c0_i32_52 : BitVec 32 := 0#32
  let v78 : BitVec 1 := Scalar.cmpi .eq c4_i32_51 c0_i32_52
  let c1_i32_53 : BitVec 32 := 1#32
  let v79 : BitVec 32 := Scalar.select v78 c1_i32_53 c4_i32_51
  let v80 : BitVec 32 := Scalar.remsi v72 v79
  let c0_i32_55 : BitVec 32 := 0#32
  let v82 : BitVec 1 := Scalar.cmpi .slt v80 c0_i32_55
  let c0_i32_56 : BitVec 32 := 0#32
  let v83 : BitVec 1 := Scalar.cmpi .slt v79 c0_i32_56
  let v84 : BitVec 1 := Scalar.xori v82 v83
  let c0_i32_54 : BitVec 32 := 0#32
  let v81 : BitVec 1 := Scalar.cmpi .ne v80 c0_i32_54
  let v85 : BitVec 1 := Scalar.andi v84 v81
  let v86 : BitVec 32 := Scalar.addi v80 v79
  let v87 : BitVec 32 := Scalar.select v85 v86 v80
  let c16384_i32_322 : BitVec 32 := 16384#32
  let v530 : BitVec 32 := Scalar.muli v87 c16384_i32_322
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v531 : BitVec 32 := Scalar.addi v530 v10
  let c2048_i32_323 : BitVec 32 := 2048#32
  let v532 : BitVec 32 := Scalar.addi v531 c2048_i32_323
  let c0_i32_333 : BitVec 32 := 0#32
  ![v532.toNat, 0]
def k0_off9 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let c2048_i32 : BitVec 32 := 2048#32
  let v529 : BitVec 32 := Scalar.addi v10 c2048_i32
  let c0_i32_334 : BitVec 32 := 0#32
  ![v529.toNat, 0]
def k0_dev9 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v534 : BitVec 32 := Scalar.muli v2 c16_i32_329
  let v535 : BitVec 32 := Scalar.addi c0_i32_330 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v536 : BitVec 32 := Scalar.muli v5 c4_i32_331
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v533 : BitVec 32 := Scalar.addi v8 c1_i32_324
  let c1_i32_332 : BitVec 32 := 1#32
  let v538 : BitVec 32 := Scalar.muli v533 c1_i32_332
  let v539 : BitVec 32 := Scalar.addi v537 v538
  v539.toNat
def k0_cond6 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_77 : BitVec 32 := 0#32
  let v121 : BitVec 1 := Scalar.cmpi .sgt v8 c0_i32_77
  let c0_i32_46 : BitVec 32 := 0#32
  let v73 : BitVec 32 := Scalar.addi v8 c0_i32_46
  let c3_i32_78 : BitVec 32 := 3#32
  let v122 : BitVec 1 := Scalar.cmpi .sle v73 c3_i32_78
  let v123 : BitVec 1 := Scalar.andi v121 v122
  let v136 : BitVec 32 := Scalar.extui v123
  let c0_i32_86 : BitVec 32 := 0#32
  let v137 : BitVec 1 := Scalar.cmpi .ne v136 c0_i32_86
  v137

def k0_off10 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_46 : BitVec 32 := 0#32
  let v73 : BitVec 32 := Scalar.addi v8 c0_i32_46
  let c4_i32_57 : BitVec 32 := 4#32
  let c0_i32_58 : BitVec 32 := 0#32
  let v88 : BitVec 1 := Scalar.cmpi .eq c4_i32_57 c0_i32_58
  let c1_i32_59 : BitVec 32 := 1#32
  let v89 : BitVec 32 := Scalar.select v88 c1_i32_59 c4_i32_57
  let v90 : BitVec 32 := Scalar.remsi v73 v89
  let c0_i32_61 : BitVec 32 := 0#32
  let v92 : BitVec 1 := Scalar.cmpi .slt v90 c0_i32_61
  let c0_i32_62 : BitVec 32 := 0#32
  let v93 : BitVec 1 := Scalar.cmpi .slt v89 c0_i32_62
  let v94 : BitVec 1 := Scalar.xori v92 v93
  let c0_i32_60 : BitVec 32 := 0#32
  let v91 : BitVec 1 := Scalar.cmpi .ne v90 c0_i32_60
  let v95 : BitVec 1 := Scalar.andi v94 v91
  let v96 : BitVec 32 := Scalar.addi v90 v89
  let v97 : BitVec 32 := Scalar.select v95 v96 v90
  let c16384_i32_322 : BitVec 32 := 16384#32
  let v530 : BitVec 32 := Scalar.muli v97 c16384_i32_322
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v531 : BitVec 32 := Scalar.addi v530 v10
  let c2048_i32_323 : BitVec 32 := 2048#32
  let v532 : BitVec 32 := Scalar.addi v531 c2048_i32_323
  let c0_i32_333 : BitVec 32 := 0#32
  ![v532.toNat, 0]
def k0_off11 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let c2048_i32 : BitVec 32 := 2048#32
  let v529 : BitVec 32 := Scalar.addi v10 c2048_i32
  let c0_i32_334 : BitVec 32 := 0#32
  ![v529.toNat, 0]
def k0_dev10 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v534 : BitVec 32 := Scalar.muli v2 c16_i32_329
  let v535 : BitVec 32 := Scalar.addi c0_i32_330 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v536 : BitVec 32 := Scalar.muli v5 c4_i32_331
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v533 : BitVec 32 := Scalar.subi v8 c1_i32_324
  let c1_i32_332 : BitVec 32 := 1#32
  let v538 : BitVec 32 := Scalar.muli v533 c1_i32_332
  let v539 : BitVec 32 := Scalar.addi v537 v538
  v539.toNat
def k0_cond7 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v74 : BitVec 32 := Scalar.subi v8 c1_i32_47
  let c0_i32_48 : BitVec 32 := 0#32
  let v75 : BitVec 32 := Scalar.subi v74 c0_i32_48
  let c0_i32_79 : BitVec 32 := 0#32
  let v124 : BitVec 1 := Scalar.cmpi .sge v75 c0_i32_79
  let v138 : BitVec 32 := Scalar.extui v124
  let c0_i32_87 : BitVec 32 := 0#32
  let v139 : BitVec 1 := Scalar.cmpi .ne v138 c0_i32_87
  v139

def k0_off12 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v74 : BitVec 32 := Scalar.subi v8 c1_i32_47
  let c0_i32_48 : BitVec 32 := 0#32
  let v75 : BitVec 32 := Scalar.subi v74 c0_i32_48
  let c4_i32_63 : BitVec 32 := 4#32
  let c0_i32_64 : BitVec 32 := 0#32
  let v98 : BitVec 1 := Scalar.cmpi .eq c4_i32_63 c0_i32_64
  let c1_i32_65 : BitVec 32 := 1#32
  let v99 : BitVec 32 := Scalar.select v98 c1_i32_65 c4_i32_63
  let v100 : BitVec 32 := Scalar.remsi v75 v99
  let c0_i32_67 : BitVec 32 := 0#32
  let v102 : BitVec 1 := Scalar.cmpi .slt v100 c0_i32_67
  let c0_i32_68 : BitVec 32 := 0#32
  let v103 : BitVec 1 := Scalar.cmpi .slt v99 c0_i32_68
  let v104 : BitVec 1 := Scalar.xori v102 v103
  let c0_i32_66 : BitVec 32 := 0#32
  let v101 : BitVec 1 := Scalar.cmpi .ne v100 c0_i32_66
  let v105 : BitVec 1 := Scalar.andi v104 v101
  let v106 : BitVec 32 := Scalar.addi v100 v99
  let v107 : BitVec 32 := Scalar.select v105 v106 v100
  let c16384_i32_323 : BitVec 32 := 16384#32
  let v532 : BitVec 32 := Scalar.muli v107 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c2048_i32_324 : BitVec 32 := 2048#32
  let v534 : BitVec 32 := Scalar.addi v533 c2048_i32_324
  let c0_i32_334 : BitVec 32 := 0#32
  ![v534.toNat, 0]
def k0_dev11 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond8 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v76 : BitVec 32 := Scalar.addi v8 c1_i32_49
  let c0_i32_50 : BitVec 32 := 0#32
  let v77 : BitVec 32 := Scalar.addi v76 c0_i32_50
  let c3_i32_80 : BitVec 32 := 3#32
  let v125 : BitVec 1 := Scalar.cmpi .sle v77 c3_i32_80
  let v140 : BitVec 32 := Scalar.extui v125
  let c0_i32_88 : BitVec 32 := 0#32
  let v141 : BitVec 1 := Scalar.cmpi .ne v140 c0_i32_88
  v141

def k0_off13 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v76 : BitVec 32 := Scalar.addi v8 c1_i32_49
  let c0_i32_50 : BitVec 32 := 0#32
  let v77 : BitVec 32 := Scalar.addi v76 c0_i32_50
  let c4_i32_69 : BitVec 32 := 4#32
  let c0_i32_70 : BitVec 32 := 0#32
  let v108 : BitVec 1 := Scalar.cmpi .eq c4_i32_69 c0_i32_70
  let c1_i32_71 : BitVec 32 := 1#32
  let v109 : BitVec 32 := Scalar.select v108 c1_i32_71 c4_i32_69
  let v110 : BitVec 32 := Scalar.remsi v77 v109
  let c0_i32_73 : BitVec 32 := 0#32
  let v112 : BitVec 1 := Scalar.cmpi .slt v110 c0_i32_73
  let c0_i32_74 : BitVec 32 := 0#32
  let v113 : BitVec 1 := Scalar.cmpi .slt v109 c0_i32_74
  let v114 : BitVec 1 := Scalar.xori v112 v113
  let c0_i32_72 : BitVec 32 := 0#32
  let v111 : BitVec 1 := Scalar.cmpi .ne v110 c0_i32_72
  let v115 : BitVec 1 := Scalar.andi v114 v111
  let v116 : BitVec 32 := Scalar.addi v110 v109
  let v117 : BitVec 32 := Scalar.select v115 v116 v110
  let c16384_i32_323 : BitVec 32 := 16384#32
  let v532 : BitVec 32 := Scalar.muli v117 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c2048_i32_324 : BitVec 32 := 2048#32
  let v534 : BitVec 32 := Scalar.addi v533 c2048_i32_324
  let c0_i32_334 : BitVec 32 := 0#32
  ![v534.toNat, 0]
def k0_dev12 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond9 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_75 : BitVec 32 := 3#32
  let v118 : BitVec 1 := Scalar.cmpi .slt v8 c3_i32_75
  let c0_i32_45 : BitVec 32 := 0#32
  let v72 : BitVec 32 := Scalar.subi v8 c0_i32_45
  let c0_i32_76 : BitVec 32 := 0#32
  let v119 : BitVec 1 := Scalar.cmpi .sge v72 c0_i32_76
  let v120 : BitVec 1 := Scalar.andi v118 v119
  let v142 : BitVec 32 := Scalar.extui v120
  let c0_i32_89 : BitVec 32 := 0#32
  let v143 : BitVec 1 := Scalar.cmpi .ne v142 c0_i32_89
  v143

def k0_off14 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_45 : BitVec 32 := 0#32
  let v72 : BitVec 32 := Scalar.subi v8 c0_i32_45
  let c4_i32_51 : BitVec 32 := 4#32
  let c0_i32_52 : BitVec 32 := 0#32
  let v78 : BitVec 1 := Scalar.cmpi .eq c4_i32_51 c0_i32_52
  let c1_i32_53 : BitVec 32 := 1#32
  let v79 : BitVec 32 := Scalar.select v78 c1_i32_53 c4_i32_51
  let v80 : BitVec 32 := Scalar.remsi v72 v79
  let c0_i32_55 : BitVec 32 := 0#32
  let v82 : BitVec 1 := Scalar.cmpi .slt v80 c0_i32_55
  let c0_i32_56 : BitVec 32 := 0#32
  let v83 : BitVec 1 := Scalar.cmpi .slt v79 c0_i32_56
  let v84 : BitVec 1 := Scalar.xori v82 v83
  let c0_i32_54 : BitVec 32 := 0#32
  let v81 : BitVec 1 := Scalar.cmpi .ne v80 c0_i32_54
  let v85 : BitVec 1 := Scalar.andi v84 v81
  let v86 : BitVec 32 := Scalar.addi v80 v79
  let v87 : BitVec 32 := Scalar.select v85 v86 v80
  let c16384_i32_322 : BitVec 32 := 16384#32
  let v530 : BitVec 32 := Scalar.muli v87 c16384_i32_322
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v531 : BitVec 32 := Scalar.addi v530 v10
  let c4096_i32_323 : BitVec 32 := 4096#32
  let v532 : BitVec 32 := Scalar.addi v531 c4096_i32_323
  let c0_i32_333 : BitVec 32 := 0#32
  ![v532.toNat, 0]
def k0_off15 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let c4096_i32 : BitVec 32 := 4096#32
  let v529 : BitVec 32 := Scalar.addi v10 c4096_i32
  let c0_i32_334 : BitVec 32 := 0#32
  ![v529.toNat, 0]
def k0_dev13 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v534 : BitVec 32 := Scalar.muli v2 c16_i32_329
  let v535 : BitVec 32 := Scalar.addi c0_i32_330 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v536 : BitVec 32 := Scalar.muli v5 c4_i32_331
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v533 : BitVec 32 := Scalar.addi v8 c1_i32_324
  let c1_i32_332 : BitVec 32 := 1#32
  let v538 : BitVec 32 := Scalar.muli v533 c1_i32_332
  let v539 : BitVec 32 := Scalar.addi v537 v538
  v539.toNat
def k0_cond10 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_77 : BitVec 32 := 0#32
  let v121 : BitVec 1 := Scalar.cmpi .sgt v8 c0_i32_77
  let c0_i32_46 : BitVec 32 := 0#32
  let v73 : BitVec 32 := Scalar.addi v8 c0_i32_46
  let c3_i32_78 : BitVec 32 := 3#32
  let v122 : BitVec 1 := Scalar.cmpi .sle v73 c3_i32_78
  let v123 : BitVec 1 := Scalar.andi v121 v122
  let v144 : BitVec 32 := Scalar.extui v123
  let c0_i32_90 : BitVec 32 := 0#32
  let v145 : BitVec 1 := Scalar.cmpi .ne v144 c0_i32_90
  v145

def k0_off16 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_46 : BitVec 32 := 0#32
  let v73 : BitVec 32 := Scalar.addi v8 c0_i32_46
  let c4_i32_57 : BitVec 32 := 4#32
  let c0_i32_58 : BitVec 32 := 0#32
  let v88 : BitVec 1 := Scalar.cmpi .eq c4_i32_57 c0_i32_58
  let c1_i32_59 : BitVec 32 := 1#32
  let v89 : BitVec 32 := Scalar.select v88 c1_i32_59 c4_i32_57
  let v90 : BitVec 32 := Scalar.remsi v73 v89
  let c0_i32_61 : BitVec 32 := 0#32
  let v92 : BitVec 1 := Scalar.cmpi .slt v90 c0_i32_61
  let c0_i32_62 : BitVec 32 := 0#32
  let v93 : BitVec 1 := Scalar.cmpi .slt v89 c0_i32_62
  let v94 : BitVec 1 := Scalar.xori v92 v93
  let c0_i32_60 : BitVec 32 := 0#32
  let v91 : BitVec 1 := Scalar.cmpi .ne v90 c0_i32_60
  let v95 : BitVec 1 := Scalar.andi v94 v91
  let v96 : BitVec 32 := Scalar.addi v90 v89
  let v97 : BitVec 32 := Scalar.select v95 v96 v90
  let c16384_i32_322 : BitVec 32 := 16384#32
  let v530 : BitVec 32 := Scalar.muli v97 c16384_i32_322
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v531 : BitVec 32 := Scalar.addi v530 v10
  let c4096_i32_323 : BitVec 32 := 4096#32
  let v532 : BitVec 32 := Scalar.addi v531 c4096_i32_323
  let c0_i32_333 : BitVec 32 := 0#32
  ![v532.toNat, 0]
def k0_off17 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let c4096_i32 : BitVec 32 := 4096#32
  let v529 : BitVec 32 := Scalar.addi v10 c4096_i32
  let c0_i32_334 : BitVec 32 := 0#32
  ![v529.toNat, 0]
def k0_dev14 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v534 : BitVec 32 := Scalar.muli v2 c16_i32_329
  let v535 : BitVec 32 := Scalar.addi c0_i32_330 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v536 : BitVec 32 := Scalar.muli v5 c4_i32_331
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v533 : BitVec 32 := Scalar.subi v8 c1_i32_324
  let c1_i32_332 : BitVec 32 := 1#32
  let v538 : BitVec 32 := Scalar.muli v533 c1_i32_332
  let v539 : BitVec 32 := Scalar.addi v537 v538
  v539.toNat
def k0_cond11 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v74 : BitVec 32 := Scalar.subi v8 c1_i32_47
  let c0_i32_48 : BitVec 32 := 0#32
  let v75 : BitVec 32 := Scalar.subi v74 c0_i32_48
  let c0_i32_79 : BitVec 32 := 0#32
  let v124 : BitVec 1 := Scalar.cmpi .sge v75 c0_i32_79
  let v146 : BitVec 32 := Scalar.extui v124
  let c0_i32_91 : BitVec 32 := 0#32
  let v147 : BitVec 1 := Scalar.cmpi .ne v146 c0_i32_91
  v147

def k0_off18 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v74 : BitVec 32 := Scalar.subi v8 c1_i32_47
  let c0_i32_48 : BitVec 32 := 0#32
  let v75 : BitVec 32 := Scalar.subi v74 c0_i32_48
  let c4_i32_63 : BitVec 32 := 4#32
  let c0_i32_64 : BitVec 32 := 0#32
  let v98 : BitVec 1 := Scalar.cmpi .eq c4_i32_63 c0_i32_64
  let c1_i32_65 : BitVec 32 := 1#32
  let v99 : BitVec 32 := Scalar.select v98 c1_i32_65 c4_i32_63
  let v100 : BitVec 32 := Scalar.remsi v75 v99
  let c0_i32_67 : BitVec 32 := 0#32
  let v102 : BitVec 1 := Scalar.cmpi .slt v100 c0_i32_67
  let c0_i32_68 : BitVec 32 := 0#32
  let v103 : BitVec 1 := Scalar.cmpi .slt v99 c0_i32_68
  let v104 : BitVec 1 := Scalar.xori v102 v103
  let c0_i32_66 : BitVec 32 := 0#32
  let v101 : BitVec 1 := Scalar.cmpi .ne v100 c0_i32_66
  let v105 : BitVec 1 := Scalar.andi v104 v101
  let v106 : BitVec 32 := Scalar.addi v100 v99
  let v107 : BitVec 32 := Scalar.select v105 v106 v100
  let c16384_i32_323 : BitVec 32 := 16384#32
  let v532 : BitVec 32 := Scalar.muli v107 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c4096_i32_324 : BitVec 32 := 4096#32
  let v534 : BitVec 32 := Scalar.addi v533 c4096_i32_324
  let c0_i32_334 : BitVec 32 := 0#32
  ![v534.toNat, 0]
def k0_dev15 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond12 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v76 : BitVec 32 := Scalar.addi v8 c1_i32_49
  let c0_i32_50 : BitVec 32 := 0#32
  let v77 : BitVec 32 := Scalar.addi v76 c0_i32_50
  let c3_i32_80 : BitVec 32 := 3#32
  let v125 : BitVec 1 := Scalar.cmpi .sle v77 c3_i32_80
  let v148 : BitVec 32 := Scalar.extui v125
  let c0_i32_92 : BitVec 32 := 0#32
  let v149 : BitVec 1 := Scalar.cmpi .ne v148 c0_i32_92
  v149

def k0_off19 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v76 : BitVec 32 := Scalar.addi v8 c1_i32_49
  let c0_i32_50 : BitVec 32 := 0#32
  let v77 : BitVec 32 := Scalar.addi v76 c0_i32_50
  let c4_i32_69 : BitVec 32 := 4#32
  let c0_i32_70 : BitVec 32 := 0#32
  let v108 : BitVec 1 := Scalar.cmpi .eq c4_i32_69 c0_i32_70
  let c1_i32_71 : BitVec 32 := 1#32
  let v109 : BitVec 32 := Scalar.select v108 c1_i32_71 c4_i32_69
  let v110 : BitVec 32 := Scalar.remsi v77 v109
  let c0_i32_73 : BitVec 32 := 0#32
  let v112 : BitVec 1 := Scalar.cmpi .slt v110 c0_i32_73
  let c0_i32_74 : BitVec 32 := 0#32
  let v113 : BitVec 1 := Scalar.cmpi .slt v109 c0_i32_74
  let v114 : BitVec 1 := Scalar.xori v112 v113
  let c0_i32_72 : BitVec 32 := 0#32
  let v111 : BitVec 1 := Scalar.cmpi .ne v110 c0_i32_72
  let v115 : BitVec 1 := Scalar.andi v114 v111
  let v116 : BitVec 32 := Scalar.addi v110 v109
  let v117 : BitVec 32 := Scalar.select v115 v116 v110
  let c16384_i32_323 : BitVec 32 := 16384#32
  let v532 : BitVec 32 := Scalar.muli v117 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c4096_i32_324 : BitVec 32 := 4096#32
  let v534 : BitVec 32 := Scalar.addi v533 c4096_i32_324
  let c0_i32_334 : BitVec 32 := 0#32
  ![v534.toNat, 0]
def k0_dev16 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond13 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_75 : BitVec 32 := 3#32
  let v118 : BitVec 1 := Scalar.cmpi .slt v8 c3_i32_75
  let c0_i32_45 : BitVec 32 := 0#32
  let v72 : BitVec 32 := Scalar.subi v8 c0_i32_45
  let c0_i32_76 : BitVec 32 := 0#32
  let v119 : BitVec 1 := Scalar.cmpi .sge v72 c0_i32_76
  let v120 : BitVec 1 := Scalar.andi v118 v119
  let v150 : BitVec 32 := Scalar.extui v120
  let c0_i32_93 : BitVec 32 := 0#32
  let v151 : BitVec 1 := Scalar.cmpi .ne v150 c0_i32_93
  v151

def k0_off20 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_45 : BitVec 32 := 0#32
  let v72 : BitVec 32 := Scalar.subi v8 c0_i32_45
  let c4_i32_51 : BitVec 32 := 4#32
  let c0_i32_52 : BitVec 32 := 0#32
  let v78 : BitVec 1 := Scalar.cmpi .eq c4_i32_51 c0_i32_52
  let c1_i32_53 : BitVec 32 := 1#32
  let v79 : BitVec 32 := Scalar.select v78 c1_i32_53 c4_i32_51
  let v80 : BitVec 32 := Scalar.remsi v72 v79
  let c0_i32_55 : BitVec 32 := 0#32
  let v82 : BitVec 1 := Scalar.cmpi .slt v80 c0_i32_55
  let c0_i32_56 : BitVec 32 := 0#32
  let v83 : BitVec 1 := Scalar.cmpi .slt v79 c0_i32_56
  let v84 : BitVec 1 := Scalar.xori v82 v83
  let c0_i32_54 : BitVec 32 := 0#32
  let v81 : BitVec 1 := Scalar.cmpi .ne v80 c0_i32_54
  let v85 : BitVec 1 := Scalar.andi v84 v81
  let v86 : BitVec 32 := Scalar.addi v80 v79
  let v87 : BitVec 32 := Scalar.select v85 v86 v80
  let c16384_i32_322 : BitVec 32 := 16384#32
  let v530 : BitVec 32 := Scalar.muli v87 c16384_i32_322
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v531 : BitVec 32 := Scalar.addi v530 v10
  let c6144_i32_323 : BitVec 32 := 6144#32
  let v532 : BitVec 32 := Scalar.addi v531 c6144_i32_323
  let c0_i32_333 : BitVec 32 := 0#32
  ![v532.toNat, 0]
def k0_off21 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let c6144_i32 : BitVec 32 := 6144#32
  let v529 : BitVec 32 := Scalar.addi v10 c6144_i32
  let c0_i32_334 : BitVec 32 := 0#32
  ![v529.toNat, 0]
def k0_dev17 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v534 : BitVec 32 := Scalar.muli v2 c16_i32_329
  let v535 : BitVec 32 := Scalar.addi c0_i32_330 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v536 : BitVec 32 := Scalar.muli v5 c4_i32_331
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v533 : BitVec 32 := Scalar.addi v8 c1_i32_324
  let c1_i32_332 : BitVec 32 := 1#32
  let v538 : BitVec 32 := Scalar.muli v533 c1_i32_332
  let v539 : BitVec 32 := Scalar.addi v537 v538
  v539.toNat
def k0_cond14 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_77 : BitVec 32 := 0#32
  let v121 : BitVec 1 := Scalar.cmpi .sgt v8 c0_i32_77
  let c0_i32_46 : BitVec 32 := 0#32
  let v73 : BitVec 32 := Scalar.addi v8 c0_i32_46
  let c3_i32_78 : BitVec 32 := 3#32
  let v122 : BitVec 1 := Scalar.cmpi .sle v73 c3_i32_78
  let v123 : BitVec 1 := Scalar.andi v121 v122
  let v152 : BitVec 32 := Scalar.extui v123
  let c0_i32_94 : BitVec 32 := 0#32
  let v153 : BitVec 1 := Scalar.cmpi .ne v152 c0_i32_94
  v153

def k0_off22 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_46 : BitVec 32 := 0#32
  let v73 : BitVec 32 := Scalar.addi v8 c0_i32_46
  let c4_i32_57 : BitVec 32 := 4#32
  let c0_i32_58 : BitVec 32 := 0#32
  let v88 : BitVec 1 := Scalar.cmpi .eq c4_i32_57 c0_i32_58
  let c1_i32_59 : BitVec 32 := 1#32
  let v89 : BitVec 32 := Scalar.select v88 c1_i32_59 c4_i32_57
  let v90 : BitVec 32 := Scalar.remsi v73 v89
  let c0_i32_61 : BitVec 32 := 0#32
  let v92 : BitVec 1 := Scalar.cmpi .slt v90 c0_i32_61
  let c0_i32_62 : BitVec 32 := 0#32
  let v93 : BitVec 1 := Scalar.cmpi .slt v89 c0_i32_62
  let v94 : BitVec 1 := Scalar.xori v92 v93
  let c0_i32_60 : BitVec 32 := 0#32
  let v91 : BitVec 1 := Scalar.cmpi .ne v90 c0_i32_60
  let v95 : BitVec 1 := Scalar.andi v94 v91
  let v96 : BitVec 32 := Scalar.addi v90 v89
  let v97 : BitVec 32 := Scalar.select v95 v96 v90
  let c16384_i32_322 : BitVec 32 := 16384#32
  let v530 : BitVec 32 := Scalar.muli v97 c16384_i32_322
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v531 : BitVec 32 := Scalar.addi v530 v10
  let c6144_i32_323 : BitVec 32 := 6144#32
  let v532 : BitVec 32 := Scalar.addi v531 c6144_i32_323
  let c0_i32_333 : BitVec 32 := 0#32
  ![v532.toNat, 0]
def k0_off23 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let c6144_i32 : BitVec 32 := 6144#32
  let v529 : BitVec 32 := Scalar.addi v10 c6144_i32
  let c0_i32_334 : BitVec 32 := 0#32
  ![v529.toNat, 0]
def k0_dev18 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v534 : BitVec 32 := Scalar.muli v2 c16_i32_329
  let v535 : BitVec 32 := Scalar.addi c0_i32_330 v534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v536 : BitVec 32 := Scalar.muli v5 c4_i32_331
  let v537 : BitVec 32 := Scalar.addi v535 v536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_324 : BitVec 32 := 1#32
  let v533 : BitVec 32 := Scalar.subi v8 c1_i32_324
  let c1_i32_332 : BitVec 32 := 1#32
  let v538 : BitVec 32 := Scalar.muli v533 c1_i32_332
  let v539 : BitVec 32 := Scalar.addi v537 v538
  v539.toNat
def k0_cond15 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v74 : BitVec 32 := Scalar.subi v8 c1_i32_47
  let c0_i32_48 : BitVec 32 := 0#32
  let v75 : BitVec 32 := Scalar.subi v74 c0_i32_48
  let c0_i32_79 : BitVec 32 := 0#32
  let v124 : BitVec 1 := Scalar.cmpi .sge v75 c0_i32_79
  let v154 : BitVec 32 := Scalar.extui v124
  let c0_i32_95 : BitVec 32 := 0#32
  let v155 : BitVec 1 := Scalar.cmpi .ne v154 c0_i32_95
  v155

def k0_off24 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v74 : BitVec 32 := Scalar.subi v8 c1_i32_47
  let c0_i32_48 : BitVec 32 := 0#32
  let v75 : BitVec 32 := Scalar.subi v74 c0_i32_48
  let c4_i32_63 : BitVec 32 := 4#32
  let c0_i32_64 : BitVec 32 := 0#32
  let v98 : BitVec 1 := Scalar.cmpi .eq c4_i32_63 c0_i32_64
  let c1_i32_65 : BitVec 32 := 1#32
  let v99 : BitVec 32 := Scalar.select v98 c1_i32_65 c4_i32_63
  let v100 : BitVec 32 := Scalar.remsi v75 v99
  let c0_i32_67 : BitVec 32 := 0#32
  let v102 : BitVec 1 := Scalar.cmpi .slt v100 c0_i32_67
  let c0_i32_68 : BitVec 32 := 0#32
  let v103 : BitVec 1 := Scalar.cmpi .slt v99 c0_i32_68
  let v104 : BitVec 1 := Scalar.xori v102 v103
  let c0_i32_66 : BitVec 32 := 0#32
  let v101 : BitVec 1 := Scalar.cmpi .ne v100 c0_i32_66
  let v105 : BitVec 1 := Scalar.andi v104 v101
  let v106 : BitVec 32 := Scalar.addi v100 v99
  let v107 : BitVec 32 := Scalar.select v105 v106 v100
  let c16384_i32_323 : BitVec 32 := 16384#32
  let v532 : BitVec 32 := Scalar.muli v107 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c6144_i32_324 : BitVec 32 := 6144#32
  let v534 : BitVec 32 := Scalar.addi v533 c6144_i32_324
  let c0_i32_334 : BitVec 32 := 0#32
  ![v534.toNat, 0]
def k0_dev19 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond16 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v76 : BitVec 32 := Scalar.addi v8 c1_i32_49
  let c0_i32_50 : BitVec 32 := 0#32
  let v77 : BitVec 32 := Scalar.addi v76 c0_i32_50
  let c3_i32_80 : BitVec 32 := 3#32
  let v125 : BitVec 1 := Scalar.cmpi .sle v77 c3_i32_80
  let v156 : BitVec 32 := Scalar.extui v125
  let c0_i32_96 : BitVec 32 := 0#32
  let v157 : BitVec 1 := Scalar.cmpi .ne v156 c0_i32_96
  v157

def k0_off25 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v76 : BitVec 32 := Scalar.addi v8 c1_i32_49
  let c0_i32_50 : BitVec 32 := 0#32
  let v77 : BitVec 32 := Scalar.addi v76 c0_i32_50
  let c4_i32_69 : BitVec 32 := 4#32
  let c0_i32_70 : BitVec 32 := 0#32
  let v108 : BitVec 1 := Scalar.cmpi .eq c4_i32_69 c0_i32_70
  let c1_i32_71 : BitVec 32 := 1#32
  let v109 : BitVec 32 := Scalar.select v108 c1_i32_71 c4_i32_69
  let v110 : BitVec 32 := Scalar.remsi v77 v109
  let c0_i32_73 : BitVec 32 := 0#32
  let v112 : BitVec 1 := Scalar.cmpi .slt v110 c0_i32_73
  let c0_i32_74 : BitVec 32 := 0#32
  let v113 : BitVec 1 := Scalar.cmpi .slt v109 c0_i32_74
  let v114 : BitVec 1 := Scalar.xori v112 v113
  let c0_i32_72 : BitVec 32 := 0#32
  let v111 : BitVec 1 := Scalar.cmpi .ne v110 c0_i32_72
  let v115 : BitVec 1 := Scalar.andi v114 v111
  let v116 : BitVec 32 := Scalar.addi v110 v109
  let v117 : BitVec 32 := Scalar.select v115 v116 v110
  let c16384_i32_323 : BitVec 32 := 16384#32
  let v532 : BitVec 32 := Scalar.muli v117 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c6144_i32_324 : BitVec 32 := 6144#32
  let v534 : BitVec 32 := Scalar.addi v533 c6144_i32_324
  let c0_i32_334 : BitVec 32 := 0#32
  ![v534.toNat, 0]
def k0_dev20 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond17 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_127 : BitVec 32 := 3#32
  let v204 : BitVec 1 := Scalar.cmpi .slt v8 c3_i32_127
  let c1_i32_97 : BitVec 32 := 1#32
  let v158 : BitVec 32 := Scalar.subi v8 c1_i32_97
  let c0_i32_128 : BitVec 32 := 0#32
  let v205 : BitVec 1 := Scalar.cmpi .sge v158 c0_i32_128
  let v206 : BitVec 1 := Scalar.andi v204 v205
  let v212 : BitVec 32 := Scalar.extui v206
  let c0_i32_133 : BitVec 32 := 0#32
  let v213 : BitVec 1 := Scalar.cmpi .ne v212 c0_i32_133
  v213

def k0_off26 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v158 : BitVec 32 := Scalar.subi v8 c1_i32_97
  let c4_i32_103 : BitVec 32 := 4#32
  let c0_i32_104 : BitVec 32 := 0#32
  let v164 : BitVec 1 := Scalar.cmpi .eq c4_i32_103 c0_i32_104
  let c1_i32_105 : BitVec 32 := 1#32
  let v165 : BitVec 32 := Scalar.select v164 c1_i32_105 c4_i32_103
  let v166 : BitVec 32 := Scalar.remsi v158 v165
  let c0_i32_107 : BitVec 32 := 0#32
  let v168 : BitVec 1 := Scalar.cmpi .slt v166 c0_i32_107
  let c0_i32_108 : BitVec 32 := 0#32
  let v169 : BitVec 1 := Scalar.cmpi .slt v165 c0_i32_108
  let v170 : BitVec 1 := Scalar.xori v168 v169
  let c0_i32_106 : BitVec 32 := 0#32
  let v167 : BitVec 1 := Scalar.cmpi .ne v166 c0_i32_106
  let v171 : BitVec 1 := Scalar.andi v170 v167
  let v172 : BitVec 32 := Scalar.addi v166 v165
  let v173 : BitVec 32 := Scalar.select v171 v172 v166
  let c16384_i32_324 : BitVec 32 := 16384#32
  let v532 : BitVec 32 := Scalar.muli v173 c16384_i32_324
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c0_i32_325 : BitVec 32 := 0#32
  let v534 : BitVec 32 := Scalar.addi v533 c0_i32_325
  let c0_i32_335 : BitVec 32 := 0#32
  ![v534.toNat, 0]
def k0_dev21 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v536 : BitVec 32 := Scalar.muli v2 c16_i32_331
  let v537 : BitVec 32 := Scalar.addi c0_i32_332 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v538 : BitVec 32 := Scalar.muli v5 c4_i32_333
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v535 : BitVec 32 := Scalar.addi v8 c1_i32_326
  let c1_i32_334 : BitVec 32 := 1#32
  let v540 : BitVec 32 := Scalar.muli v535 c1_i32_334
  let v541 : BitVec 32 := Scalar.addi v539 v540
  v541.toNat
def k0_cond18 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_129 : BitVec 32 := 0#32
  let v207 : BitVec 1 := Scalar.cmpi .sgt v8 c0_i32_129
  let c1_i32_98 : BitVec 32 := 1#32
  let v159 : BitVec 32 := Scalar.addi v8 c1_i32_98
  let c3_i32_130 : BitVec 32 := 3#32
  let v208 : BitVec 1 := Scalar.cmpi .sle v159 c3_i32_130
  let v209 : BitVec 1 := Scalar.andi v207 v208
  let v214 : BitVec 32 := Scalar.extui v209
  let c0_i32_134 : BitVec 32 := 0#32
  let v215 : BitVec 1 := Scalar.cmpi .ne v214 c0_i32_134
  v215

def k0_off27 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v159 : BitVec 32 := Scalar.addi v8 c1_i32_98
  let c4_i32_109 : BitVec 32 := 4#32
  let c0_i32_110 : BitVec 32 := 0#32
  let v174 : BitVec 1 := Scalar.cmpi .eq c4_i32_109 c0_i32_110
  let c1_i32_111 : BitVec 32 := 1#32
  let v175 : BitVec 32 := Scalar.select v174 c1_i32_111 c4_i32_109
  let v176 : BitVec 32 := Scalar.remsi v159 v175
  let c0_i32_113 : BitVec 32 := 0#32
  let v178 : BitVec 1 := Scalar.cmpi .slt v176 c0_i32_113
  let c0_i32_114 : BitVec 32 := 0#32
  let v179 : BitVec 1 := Scalar.cmpi .slt v175 c0_i32_114
  let v180 : BitVec 1 := Scalar.xori v178 v179
  let c0_i32_112 : BitVec 32 := 0#32
  let v177 : BitVec 1 := Scalar.cmpi .ne v176 c0_i32_112
  let v181 : BitVec 1 := Scalar.andi v180 v177
  let v182 : BitVec 32 := Scalar.addi v176 v175
  let v183 : BitVec 32 := Scalar.select v181 v182 v176
  let c16384_i32_324 : BitVec 32 := 16384#32
  let v532 : BitVec 32 := Scalar.muli v183 c16384_i32_324
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c0_i32_325 : BitVec 32 := 0#32
  let v534 : BitVec 32 := Scalar.addi v533 c0_i32_325
  let c0_i32_335 : BitVec 32 := 0#32
  ![v534.toNat, 0]
def k0_dev22 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v536 : BitVec 32 := Scalar.muli v2 c16_i32_331
  let v537 : BitVec 32 := Scalar.addi c0_i32_332 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v538 : BitVec 32 := Scalar.muli v5 c4_i32_333
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v535 : BitVec 32 := Scalar.subi v8 c1_i32_326
  let c1_i32_334 : BitVec 32 := 1#32
  let v540 : BitVec 32 := Scalar.muli v535 c1_i32_334
  let v541 : BitVec 32 := Scalar.addi v539 v540
  v541.toNat
def k0_cond19 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v160 : BitVec 32 := Scalar.subi v8 c1_i32_99
  let c1_i32_100 : BitVec 32 := 1#32
  let v161 : BitVec 32 := Scalar.subi v160 c1_i32_100
  let c0_i32_131 : BitVec 32 := 0#32
  let v210 : BitVec 1 := Scalar.cmpi .sge v161 c0_i32_131
  let v216 : BitVec 32 := Scalar.extui v210
  let c0_i32_135 : BitVec 32 := 0#32
  let v217 : BitVec 1 := Scalar.cmpi .ne v216 c0_i32_135
  v217

def k0_off28 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v160 : BitVec 32 := Scalar.subi v8 c1_i32_99
  let c1_i32_100 : BitVec 32 := 1#32
  let v161 : BitVec 32 := Scalar.subi v160 c1_i32_100
  let c4_i32_115 : BitVec 32 := 4#32
  let c0_i32_116 : BitVec 32 := 0#32
  let v184 : BitVec 1 := Scalar.cmpi .eq c4_i32_115 c0_i32_116
  let c1_i32_117 : BitVec 32 := 1#32
  let v185 : BitVec 32 := Scalar.select v184 c1_i32_117 c4_i32_115
  let v186 : BitVec 32 := Scalar.remsi v161 v185
  let c0_i32_119 : BitVec 32 := 0#32
  let v188 : BitVec 1 := Scalar.cmpi .slt v186 c0_i32_119
  let c0_i32_120 : BitVec 32 := 0#32
  let v189 : BitVec 1 := Scalar.cmpi .slt v185 c0_i32_120
  let v190 : BitVec 1 := Scalar.xori v188 v189
  let c0_i32_118 : BitVec 32 := 0#32
  let v187 : BitVec 1 := Scalar.cmpi .ne v186 c0_i32_118
  let v191 : BitVec 1 := Scalar.andi v190 v187
  let v192 : BitVec 32 := Scalar.addi v186 v185
  let v193 : BitVec 32 := Scalar.select v191 v192 v186
  let c16384_i32_324 : BitVec 32 := 16384#32
  let v532 : BitVec 32 := Scalar.muli v193 c16384_i32_324
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c0_i32_325 : BitVec 32 := 0#32
  let v534 : BitVec 32 := Scalar.addi v533 c0_i32_325
  let c0_i32_335 : BitVec 32 := 0#32
  ![v534.toNat, 0]
def k0_dev23 (d0 : Dev nD) : Nat :=
  let c0_i32_346 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_345 : BitVec 32 := 16#32
  let v552 : BitVec 32 := Scalar.muli v9 c16_i32_345
  let v553 : BitVec 32 := Scalar.addi c0_i32_346 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v554 : BitVec 32 := Scalar.muli v5 c4_i32_347
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v556 : BitVec 32 := Scalar.muli v8 c1_i32_348
  let v557 : BitVec 32 := Scalar.addi v555 v556
  v557.toNat
def k0_cond20 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v162 : BitVec 32 := Scalar.addi v8 c1_i32_101
  let c1_i32_102 : BitVec 32 := 1#32
  let v163 : BitVec 32 := Scalar.addi v162 c1_i32_102
  let c3_i32_132 : BitVec 32 := 3#32
  let v211 : BitVec 1 := Scalar.cmpi .sle v163 c3_i32_132
  let v218 : BitVec 32 := Scalar.extui v211
  let c0_i32_136 : BitVec 32 := 0#32
  let v219 : BitVec 1 := Scalar.cmpi .ne v218 c0_i32_136
  v219

def k0_off29 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v162 : BitVec 32 := Scalar.addi v8 c1_i32_101
  let c1_i32_102 : BitVec 32 := 1#32
  let v163 : BitVec 32 := Scalar.addi v162 c1_i32_102
  let c4_i32_121 : BitVec 32 := 4#32
  let c0_i32_122 : BitVec 32 := 0#32
  let v194 : BitVec 1 := Scalar.cmpi .eq c4_i32_121 c0_i32_122
  let c1_i32_123 : BitVec 32 := 1#32
  let v195 : BitVec 32 := Scalar.select v194 c1_i32_123 c4_i32_121
  let v196 : BitVec 32 := Scalar.remsi v163 v195
  let c0_i32_125 : BitVec 32 := 0#32
  let v198 : BitVec 1 := Scalar.cmpi .slt v196 c0_i32_125
  let c0_i32_126 : BitVec 32 := 0#32
  let v199 : BitVec 1 := Scalar.cmpi .slt v195 c0_i32_126
  let v200 : BitVec 1 := Scalar.xori v198 v199
  let c0_i32_124 : BitVec 32 := 0#32
  let v197 : BitVec 1 := Scalar.cmpi .ne v196 c0_i32_124
  let v201 : BitVec 1 := Scalar.andi v200 v197
  let v202 : BitVec 32 := Scalar.addi v196 v195
  let v203 : BitVec 32 := Scalar.select v201 v202 v196
  let c16384_i32_324 : BitVec 32 := 16384#32
  let v532 : BitVec 32 := Scalar.muli v203 c16384_i32_324
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c0_i32_325 : BitVec 32 := 0#32
  let v534 : BitVec 32 := Scalar.addi v533 c0_i32_325
  let c0_i32_335 : BitVec 32 := 0#32
  ![v534.toNat, 0]
def k0_dev24 (d0 : Dev nD) : Nat :=
  let c0_i32_346 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_345 : BitVec 32 := 16#32
  let v552 : BitVec 32 := Scalar.muli v9 c16_i32_345
  let v553 : BitVec 32 := Scalar.addi c0_i32_346 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v554 : BitVec 32 := Scalar.muli v5 c4_i32_347
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v556 : BitVec 32 := Scalar.muli v8 c1_i32_348
  let v557 : BitVec 32 := Scalar.addi v555 v556
  v557.toNat
def k0_cond21 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_127 : BitVec 32 := 3#32
  let v204 : BitVec 1 := Scalar.cmpi .slt v8 c3_i32_127
  let c1_i32_97 : BitVec 32 := 1#32
  let v158 : BitVec 32 := Scalar.subi v8 c1_i32_97
  let c0_i32_128 : BitVec 32 := 0#32
  let v205 : BitVec 1 := Scalar.cmpi .sge v158 c0_i32_128
  let v206 : BitVec 1 := Scalar.andi v204 v205
  let v220 : BitVec 32 := Scalar.extui v206
  let c0_i32_137 : BitVec 32 := 0#32
  let v221 : BitVec 1 := Scalar.cmpi .ne v220 c0_i32_137
  v221

def k0_off30 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v158 : BitVec 32 := Scalar.subi v8 c1_i32_97
  let c4_i32_103 : BitVec 32 := 4#32
  let c0_i32_104 : BitVec 32 := 0#32
  let v164 : BitVec 1 := Scalar.cmpi .eq c4_i32_103 c0_i32_104
  let c1_i32_105 : BitVec 32 := 1#32
  let v165 : BitVec 32 := Scalar.select v164 c1_i32_105 c4_i32_103
  let v166 : BitVec 32 := Scalar.remsi v158 v165
  let c0_i32_107 : BitVec 32 := 0#32
  let v168 : BitVec 1 := Scalar.cmpi .slt v166 c0_i32_107
  let c0_i32_108 : BitVec 32 := 0#32
  let v169 : BitVec 1 := Scalar.cmpi .slt v165 c0_i32_108
  let v170 : BitVec 1 := Scalar.xori v168 v169
  let c0_i32_106 : BitVec 32 := 0#32
  let v167 : BitVec 1 := Scalar.cmpi .ne v166 c0_i32_106
  let v171 : BitVec 1 := Scalar.andi v170 v167
  let v172 : BitVec 32 := Scalar.addi v166 v165
  let v173 : BitVec 32 := Scalar.select v171 v172 v166
  let c16384_i32_323 : BitVec 32 := 16384#32
  let v532 : BitVec 32 := Scalar.muli v173 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c2048_i32_324 : BitVec 32 := 2048#32
  let v534 : BitVec 32 := Scalar.addi v533 c2048_i32_324
  let c0_i32_334 : BitVec 32 := 0#32
  ![v534.toNat, 0]
def k0_dev25 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.addi v8 c1_i32_325
  let c1_i32_333 : BitVec 32 := 1#32
  let v540 : BitVec 32 := Scalar.muli v535 c1_i32_333
  let v541 : BitVec 32 := Scalar.addi v539 v540
  v541.toNat
def k0_cond22 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_129 : BitVec 32 := 0#32
  let v207 : BitVec 1 := Scalar.cmpi .sgt v8 c0_i32_129
  let c1_i32_98 : BitVec 32 := 1#32
  let v159 : BitVec 32 := Scalar.addi v8 c1_i32_98
  let c3_i32_130 : BitVec 32 := 3#32
  let v208 : BitVec 1 := Scalar.cmpi .sle v159 c3_i32_130
  let v209 : BitVec 1 := Scalar.andi v207 v208
  let v222 : BitVec 32 := Scalar.extui v209
  let c0_i32_138 : BitVec 32 := 0#32
  let v223 : BitVec 1 := Scalar.cmpi .ne v222 c0_i32_138
  v223

def k0_off31 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v159 : BitVec 32 := Scalar.addi v8 c1_i32_98
  let c4_i32_109 : BitVec 32 := 4#32
  let c0_i32_110 : BitVec 32 := 0#32
  let v174 : BitVec 1 := Scalar.cmpi .eq c4_i32_109 c0_i32_110
  let c1_i32_111 : BitVec 32 := 1#32
  let v175 : BitVec 32 := Scalar.select v174 c1_i32_111 c4_i32_109
  let v176 : BitVec 32 := Scalar.remsi v159 v175
  let c0_i32_113 : BitVec 32 := 0#32
  let v178 : BitVec 1 := Scalar.cmpi .slt v176 c0_i32_113
  let c0_i32_114 : BitVec 32 := 0#32
  let v179 : BitVec 1 := Scalar.cmpi .slt v175 c0_i32_114
  let v180 : BitVec 1 := Scalar.xori v178 v179
  let c0_i32_112 : BitVec 32 := 0#32
  let v177 : BitVec 1 := Scalar.cmpi .ne v176 c0_i32_112
  let v181 : BitVec 1 := Scalar.andi v180 v177
  let v182 : BitVec 32 := Scalar.addi v176 v175
  let v183 : BitVec 32 := Scalar.select v181 v182 v176
  let c16384_i32_323 : BitVec 32 := 16384#32
  let v532 : BitVec 32 := Scalar.muli v183 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c2048_i32_324 : BitVec 32 := 2048#32
  let v534 : BitVec 32 := Scalar.addi v533 c2048_i32_324
  let c0_i32_334 : BitVec 32 := 0#32
  ![v534.toNat, 0]
def k0_dev26 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.subi v8 c1_i32_325
  let c1_i32_333 : BitVec 32 := 1#32
  let v540 : BitVec 32 := Scalar.muli v535 c1_i32_333
  let v541 : BitVec 32 := Scalar.addi v539 v540
  v541.toNat
def k0_cond23 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v160 : BitVec 32 := Scalar.subi v8 c1_i32_99
  let c1_i32_100 : BitVec 32 := 1#32
  let v161 : BitVec 32 := Scalar.subi v160 c1_i32_100
  let c0_i32_131 : BitVec 32 := 0#32
  let v210 : BitVec 1 := Scalar.cmpi .sge v161 c0_i32_131
  let v224 : BitVec 32 := Scalar.extui v210
  let c0_i32_139 : BitVec 32 := 0#32
  let v225 : BitVec 1 := Scalar.cmpi .ne v224 c0_i32_139
  v225

def k0_off32 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v160 : BitVec 32 := Scalar.subi v8 c1_i32_99
  let c1_i32_100 : BitVec 32 := 1#32
  let v161 : BitVec 32 := Scalar.subi v160 c1_i32_100
  let c4_i32_115 : BitVec 32 := 4#32
  let c0_i32_116 : BitVec 32 := 0#32
  let v184 : BitVec 1 := Scalar.cmpi .eq c4_i32_115 c0_i32_116
  let c1_i32_117 : BitVec 32 := 1#32
  let v185 : BitVec 32 := Scalar.select v184 c1_i32_117 c4_i32_115
  let v186 : BitVec 32 := Scalar.remsi v161 v185
  let c0_i32_119 : BitVec 32 := 0#32
  let v188 : BitVec 1 := Scalar.cmpi .slt v186 c0_i32_119
  let c0_i32_120 : BitVec 32 := 0#32
  let v189 : BitVec 1 := Scalar.cmpi .slt v185 c0_i32_120
  let v190 : BitVec 1 := Scalar.xori v188 v189
  let c0_i32_118 : BitVec 32 := 0#32
  let v187 : BitVec 1 := Scalar.cmpi .ne v186 c0_i32_118
  let v191 : BitVec 1 := Scalar.andi v190 v187
  let v192 : BitVec 32 := Scalar.addi v186 v185
  let v193 : BitVec 32 := Scalar.select v191 v192 v186
  let c16384_i32_323 : BitVec 32 := 16384#32
  let v532 : BitVec 32 := Scalar.muli v193 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c2048_i32_324 : BitVec 32 := 2048#32
  let v534 : BitVec 32 := Scalar.addi v533 c2048_i32_324
  let c0_i32_334 : BitVec 32 := 0#32
  ![v534.toNat, 0]
def k0_dev27 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond24 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v162 : BitVec 32 := Scalar.addi v8 c1_i32_101
  let c1_i32_102 : BitVec 32 := 1#32
  let v163 : BitVec 32 := Scalar.addi v162 c1_i32_102
  let c3_i32_132 : BitVec 32 := 3#32
  let v211 : BitVec 1 := Scalar.cmpi .sle v163 c3_i32_132
  let v226 : BitVec 32 := Scalar.extui v211
  let c0_i32_140 : BitVec 32 := 0#32
  let v227 : BitVec 1 := Scalar.cmpi .ne v226 c0_i32_140
  v227

def k0_off33 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v162 : BitVec 32 := Scalar.addi v8 c1_i32_101
  let c1_i32_102 : BitVec 32 := 1#32
  let v163 : BitVec 32 := Scalar.addi v162 c1_i32_102
  let c4_i32_121 : BitVec 32 := 4#32
  let c0_i32_122 : BitVec 32 := 0#32
  let v194 : BitVec 1 := Scalar.cmpi .eq c4_i32_121 c0_i32_122
  let c1_i32_123 : BitVec 32 := 1#32
  let v195 : BitVec 32 := Scalar.select v194 c1_i32_123 c4_i32_121
  let v196 : BitVec 32 := Scalar.remsi v163 v195
  let c0_i32_125 : BitVec 32 := 0#32
  let v198 : BitVec 1 := Scalar.cmpi .slt v196 c0_i32_125
  let c0_i32_126 : BitVec 32 := 0#32
  let v199 : BitVec 1 := Scalar.cmpi .slt v195 c0_i32_126
  let v200 : BitVec 1 := Scalar.xori v198 v199
  let c0_i32_124 : BitVec 32 := 0#32
  let v197 : BitVec 1 := Scalar.cmpi .ne v196 c0_i32_124
  let v201 : BitVec 1 := Scalar.andi v200 v197
  let v202 : BitVec 32 := Scalar.addi v196 v195
  let v203 : BitVec 32 := Scalar.select v201 v202 v196
  let c16384_i32_323 : BitVec 32 := 16384#32
  let v532 : BitVec 32 := Scalar.muli v203 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c2048_i32_324 : BitVec 32 := 2048#32
  let v534 : BitVec 32 := Scalar.addi v533 c2048_i32_324
  let c0_i32_334 : BitVec 32 := 0#32
  ![v534.toNat, 0]
def k0_dev28 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond25 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_127 : BitVec 32 := 3#32
  let v204 : BitVec 1 := Scalar.cmpi .slt v8 c3_i32_127
  let c1_i32_97 : BitVec 32 := 1#32
  let v158 : BitVec 32 := Scalar.subi v8 c1_i32_97
  let c0_i32_128 : BitVec 32 := 0#32
  let v205 : BitVec 1 := Scalar.cmpi .sge v158 c0_i32_128
  let v206 : BitVec 1 := Scalar.andi v204 v205
  let v228 : BitVec 32 := Scalar.extui v206
  let c0_i32_141 : BitVec 32 := 0#32
  let v229 : BitVec 1 := Scalar.cmpi .ne v228 c0_i32_141
  v229

def k0_off34 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v158 : BitVec 32 := Scalar.subi v8 c1_i32_97
  let c4_i32_103 : BitVec 32 := 4#32
  let c0_i32_104 : BitVec 32 := 0#32
  let v164 : BitVec 1 := Scalar.cmpi .eq c4_i32_103 c0_i32_104
  let c1_i32_105 : BitVec 32 := 1#32
  let v165 : BitVec 32 := Scalar.select v164 c1_i32_105 c4_i32_103
  let v166 : BitVec 32 := Scalar.remsi v158 v165
  let c0_i32_107 : BitVec 32 := 0#32
  let v168 : BitVec 1 := Scalar.cmpi .slt v166 c0_i32_107
  let c0_i32_108 : BitVec 32 := 0#32
  let v169 : BitVec 1 := Scalar.cmpi .slt v165 c0_i32_108
  let v170 : BitVec 1 := Scalar.xori v168 v169
  let c0_i32_106 : BitVec 32 := 0#32
  let v167 : BitVec 1 := Scalar.cmpi .ne v166 c0_i32_106
  let v171 : BitVec 1 := Scalar.andi v170 v167
  let v172 : BitVec 32 := Scalar.addi v166 v165
  let v173 : BitVec 32 := Scalar.select v171 v172 v166
  let c16384_i32_323 : BitVec 32 := 16384#32
  let v532 : BitVec 32 := Scalar.muli v173 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c4096_i32_324 : BitVec 32 := 4096#32
  let v534 : BitVec 32 := Scalar.addi v533 c4096_i32_324
  let c0_i32_334 : BitVec 32 := 0#32
  ![v534.toNat, 0]
def k0_dev29 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.addi v8 c1_i32_325
  let c1_i32_333 : BitVec 32 := 1#32
  let v540 : BitVec 32 := Scalar.muli v535 c1_i32_333
  let v541 : BitVec 32 := Scalar.addi v539 v540
  v541.toNat
def k0_cond26 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_129 : BitVec 32 := 0#32
  let v207 : BitVec 1 := Scalar.cmpi .sgt v8 c0_i32_129
  let c1_i32_98 : BitVec 32 := 1#32
  let v159 : BitVec 32 := Scalar.addi v8 c1_i32_98
  let c3_i32_130 : BitVec 32 := 3#32
  let v208 : BitVec 1 := Scalar.cmpi .sle v159 c3_i32_130
  let v209 : BitVec 1 := Scalar.andi v207 v208
  let v230 : BitVec 32 := Scalar.extui v209
  let c0_i32_142 : BitVec 32 := 0#32
  let v231 : BitVec 1 := Scalar.cmpi .ne v230 c0_i32_142
  v231

def k0_off35 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v159 : BitVec 32 := Scalar.addi v8 c1_i32_98
  let c4_i32_109 : BitVec 32 := 4#32
  let c0_i32_110 : BitVec 32 := 0#32
  let v174 : BitVec 1 := Scalar.cmpi .eq c4_i32_109 c0_i32_110
  let c1_i32_111 : BitVec 32 := 1#32
  let v175 : BitVec 32 := Scalar.select v174 c1_i32_111 c4_i32_109
  let v176 : BitVec 32 := Scalar.remsi v159 v175
  let c0_i32_113 : BitVec 32 := 0#32
  let v178 : BitVec 1 := Scalar.cmpi .slt v176 c0_i32_113
  let c0_i32_114 : BitVec 32 := 0#32
  let v179 : BitVec 1 := Scalar.cmpi .slt v175 c0_i32_114
  let v180 : BitVec 1 := Scalar.xori v178 v179
  let c0_i32_112 : BitVec 32 := 0#32
  let v177 : BitVec 1 := Scalar.cmpi .ne v176 c0_i32_112
  let v181 : BitVec 1 := Scalar.andi v180 v177
  let v182 : BitVec 32 := Scalar.addi v176 v175
  let v183 : BitVec 32 := Scalar.select v181 v182 v176
  let c16384_i32_323 : BitVec 32 := 16384#32
  let v532 : BitVec 32 := Scalar.muli v183 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c4096_i32_324 : BitVec 32 := 4096#32
  let v534 : BitVec 32 := Scalar.addi v533 c4096_i32_324
  let c0_i32_334 : BitVec 32 := 0#32
  ![v534.toNat, 0]
def k0_dev30 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.subi v8 c1_i32_325
  let c1_i32_333 : BitVec 32 := 1#32
  let v540 : BitVec 32 := Scalar.muli v535 c1_i32_333
  let v541 : BitVec 32 := Scalar.addi v539 v540
  v541.toNat
def k0_cond27 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v160 : BitVec 32 := Scalar.subi v8 c1_i32_99
  let c1_i32_100 : BitVec 32 := 1#32
  let v161 : BitVec 32 := Scalar.subi v160 c1_i32_100
  let c0_i32_131 : BitVec 32 := 0#32
  let v210 : BitVec 1 := Scalar.cmpi .sge v161 c0_i32_131
  let v232 : BitVec 32 := Scalar.extui v210
  let c0_i32_143 : BitVec 32 := 0#32
  let v233 : BitVec 1 := Scalar.cmpi .ne v232 c0_i32_143
  v233

def k0_off36 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v160 : BitVec 32 := Scalar.subi v8 c1_i32_99
  let c1_i32_100 : BitVec 32 := 1#32
  let v161 : BitVec 32 := Scalar.subi v160 c1_i32_100
  let c4_i32_115 : BitVec 32 := 4#32
  let c0_i32_116 : BitVec 32 := 0#32
  let v184 : BitVec 1 := Scalar.cmpi .eq c4_i32_115 c0_i32_116
  let c1_i32_117 : BitVec 32 := 1#32
  let v185 : BitVec 32 := Scalar.select v184 c1_i32_117 c4_i32_115
  let v186 : BitVec 32 := Scalar.remsi v161 v185
  let c0_i32_119 : BitVec 32 := 0#32
  let v188 : BitVec 1 := Scalar.cmpi .slt v186 c0_i32_119
  let c0_i32_120 : BitVec 32 := 0#32
  let v189 : BitVec 1 := Scalar.cmpi .slt v185 c0_i32_120
  let v190 : BitVec 1 := Scalar.xori v188 v189
  let c0_i32_118 : BitVec 32 := 0#32
  let v187 : BitVec 1 := Scalar.cmpi .ne v186 c0_i32_118
  let v191 : BitVec 1 := Scalar.andi v190 v187
  let v192 : BitVec 32 := Scalar.addi v186 v185
  let v193 : BitVec 32 := Scalar.select v191 v192 v186
  let c16384_i32_323 : BitVec 32 := 16384#32
  let v532 : BitVec 32 := Scalar.muli v193 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c4096_i32_324 : BitVec 32 := 4096#32
  let v534 : BitVec 32 := Scalar.addi v533 c4096_i32_324
  let c0_i32_334 : BitVec 32 := 0#32
  ![v534.toNat, 0]
def k0_dev31 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond28 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v162 : BitVec 32 := Scalar.addi v8 c1_i32_101
  let c1_i32_102 : BitVec 32 := 1#32
  let v163 : BitVec 32 := Scalar.addi v162 c1_i32_102
  let c3_i32_132 : BitVec 32 := 3#32
  let v211 : BitVec 1 := Scalar.cmpi .sle v163 c3_i32_132
  let v234 : BitVec 32 := Scalar.extui v211
  let c0_i32_144 : BitVec 32 := 0#32
  let v235 : BitVec 1 := Scalar.cmpi .ne v234 c0_i32_144
  v235

def k0_off37 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v162 : BitVec 32 := Scalar.addi v8 c1_i32_101
  let c1_i32_102 : BitVec 32 := 1#32
  let v163 : BitVec 32 := Scalar.addi v162 c1_i32_102
  let c4_i32_121 : BitVec 32 := 4#32
  let c0_i32_122 : BitVec 32 := 0#32
  let v194 : BitVec 1 := Scalar.cmpi .eq c4_i32_121 c0_i32_122
  let c1_i32_123 : BitVec 32 := 1#32
  let v195 : BitVec 32 := Scalar.select v194 c1_i32_123 c4_i32_121
  let v196 : BitVec 32 := Scalar.remsi v163 v195
  let c0_i32_125 : BitVec 32 := 0#32
  let v198 : BitVec 1 := Scalar.cmpi .slt v196 c0_i32_125
  let c0_i32_126 : BitVec 32 := 0#32
  let v199 : BitVec 1 := Scalar.cmpi .slt v195 c0_i32_126
  let v200 : BitVec 1 := Scalar.xori v198 v199
  let c0_i32_124 : BitVec 32 := 0#32
  let v197 : BitVec 1 := Scalar.cmpi .ne v196 c0_i32_124
  let v201 : BitVec 1 := Scalar.andi v200 v197
  let v202 : BitVec 32 := Scalar.addi v196 v195
  let v203 : BitVec 32 := Scalar.select v201 v202 v196
  let c16384_i32_323 : BitVec 32 := 16384#32
  let v532 : BitVec 32 := Scalar.muli v203 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c4096_i32_324 : BitVec 32 := 4096#32
  let v534 : BitVec 32 := Scalar.addi v533 c4096_i32_324
  let c0_i32_334 : BitVec 32 := 0#32
  ![v534.toNat, 0]
def k0_dev32 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond29 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_127 : BitVec 32 := 3#32
  let v204 : BitVec 1 := Scalar.cmpi .slt v8 c3_i32_127
  let c1_i32_97 : BitVec 32 := 1#32
  let v158 : BitVec 32 := Scalar.subi v8 c1_i32_97
  let c0_i32_128 : BitVec 32 := 0#32
  let v205 : BitVec 1 := Scalar.cmpi .sge v158 c0_i32_128
  let v206 : BitVec 1 := Scalar.andi v204 v205
  let v236 : BitVec 32 := Scalar.extui v206
  let c0_i32_145 : BitVec 32 := 0#32
  let v237 : BitVec 1 := Scalar.cmpi .ne v236 c0_i32_145
  v237

def k0_off38 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v158 : BitVec 32 := Scalar.subi v8 c1_i32_97
  let c4_i32_103 : BitVec 32 := 4#32
  let c0_i32_104 : BitVec 32 := 0#32
  let v164 : BitVec 1 := Scalar.cmpi .eq c4_i32_103 c0_i32_104
  let c1_i32_105 : BitVec 32 := 1#32
  let v165 : BitVec 32 := Scalar.select v164 c1_i32_105 c4_i32_103
  let v166 : BitVec 32 := Scalar.remsi v158 v165
  let c0_i32_107 : BitVec 32 := 0#32
  let v168 : BitVec 1 := Scalar.cmpi .slt v166 c0_i32_107
  let c0_i32_108 : BitVec 32 := 0#32
  let v169 : BitVec 1 := Scalar.cmpi .slt v165 c0_i32_108
  let v170 : BitVec 1 := Scalar.xori v168 v169
  let c0_i32_106 : BitVec 32 := 0#32
  let v167 : BitVec 1 := Scalar.cmpi .ne v166 c0_i32_106
  let v171 : BitVec 1 := Scalar.andi v170 v167
  let v172 : BitVec 32 := Scalar.addi v166 v165
  let v173 : BitVec 32 := Scalar.select v171 v172 v166
  let c16384_i32_323 : BitVec 32 := 16384#32
  let v532 : BitVec 32 := Scalar.muli v173 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c6144_i32_324 : BitVec 32 := 6144#32
  let v534 : BitVec 32 := Scalar.addi v533 c6144_i32_324
  let c0_i32_334 : BitVec 32 := 0#32
  ![v534.toNat, 0]
def k0_dev33 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.addi v8 c1_i32_325
  let c1_i32_333 : BitVec 32 := 1#32
  let v540 : BitVec 32 := Scalar.muli v535 c1_i32_333
  let v541 : BitVec 32 := Scalar.addi v539 v540
  v541.toNat
def k0_cond30 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_129 : BitVec 32 := 0#32
  let v207 : BitVec 1 := Scalar.cmpi .sgt v8 c0_i32_129
  let c1_i32_98 : BitVec 32 := 1#32
  let v159 : BitVec 32 := Scalar.addi v8 c1_i32_98
  let c3_i32_130 : BitVec 32 := 3#32
  let v208 : BitVec 1 := Scalar.cmpi .sle v159 c3_i32_130
  let v209 : BitVec 1 := Scalar.andi v207 v208
  let v238 : BitVec 32 := Scalar.extui v209
  let c0_i32_146 : BitVec 32 := 0#32
  let v239 : BitVec 1 := Scalar.cmpi .ne v238 c0_i32_146
  v239

def k0_off39 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_98 : BitVec 32 := 1#32
  let v159 : BitVec 32 := Scalar.addi v8 c1_i32_98
  let c4_i32_109 : BitVec 32 := 4#32
  let c0_i32_110 : BitVec 32 := 0#32
  let v174 : BitVec 1 := Scalar.cmpi .eq c4_i32_109 c0_i32_110
  let c1_i32_111 : BitVec 32 := 1#32
  let v175 : BitVec 32 := Scalar.select v174 c1_i32_111 c4_i32_109
  let v176 : BitVec 32 := Scalar.remsi v159 v175
  let c0_i32_113 : BitVec 32 := 0#32
  let v178 : BitVec 1 := Scalar.cmpi .slt v176 c0_i32_113
  let c0_i32_114 : BitVec 32 := 0#32
  let v179 : BitVec 1 := Scalar.cmpi .slt v175 c0_i32_114
  let v180 : BitVec 1 := Scalar.xori v178 v179
  let c0_i32_112 : BitVec 32 := 0#32
  let v177 : BitVec 1 := Scalar.cmpi .ne v176 c0_i32_112
  let v181 : BitVec 1 := Scalar.andi v180 v177
  let v182 : BitVec 32 := Scalar.addi v176 v175
  let v183 : BitVec 32 := Scalar.select v181 v182 v176
  let c16384_i32_323 : BitVec 32 := 16384#32
  let v532 : BitVec 32 := Scalar.muli v183 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c6144_i32_324 : BitVec 32 := 6144#32
  let v534 : BitVec 32 := Scalar.addi v533 c6144_i32_324
  let c0_i32_334 : BitVec 32 := 0#32
  ![v534.toNat, 0]
def k0_dev34 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.subi v8 c1_i32_325
  let c1_i32_333 : BitVec 32 := 1#32
  let v540 : BitVec 32 := Scalar.muli v535 c1_i32_333
  let v541 : BitVec 32 := Scalar.addi v539 v540
  v541.toNat
def k0_cond31 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v160 : BitVec 32 := Scalar.subi v8 c1_i32_99
  let c1_i32_100 : BitVec 32 := 1#32
  let v161 : BitVec 32 := Scalar.subi v160 c1_i32_100
  let c0_i32_131 : BitVec 32 := 0#32
  let v210 : BitVec 1 := Scalar.cmpi .sge v161 c0_i32_131
  let v240 : BitVec 32 := Scalar.extui v210
  let c0_i32_147 : BitVec 32 := 0#32
  let v241 : BitVec 1 := Scalar.cmpi .ne v240 c0_i32_147
  v241

def k0_off40 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v160 : BitVec 32 := Scalar.subi v8 c1_i32_99
  let c1_i32_100 : BitVec 32 := 1#32
  let v161 : BitVec 32 := Scalar.subi v160 c1_i32_100
  let c4_i32_115 : BitVec 32 := 4#32
  let c0_i32_116 : BitVec 32 := 0#32
  let v184 : BitVec 1 := Scalar.cmpi .eq c4_i32_115 c0_i32_116
  let c1_i32_117 : BitVec 32 := 1#32
  let v185 : BitVec 32 := Scalar.select v184 c1_i32_117 c4_i32_115
  let v186 : BitVec 32 := Scalar.remsi v161 v185
  let c0_i32_119 : BitVec 32 := 0#32
  let v188 : BitVec 1 := Scalar.cmpi .slt v186 c0_i32_119
  let c0_i32_120 : BitVec 32 := 0#32
  let v189 : BitVec 1 := Scalar.cmpi .slt v185 c0_i32_120
  let v190 : BitVec 1 := Scalar.xori v188 v189
  let c0_i32_118 : BitVec 32 := 0#32
  let v187 : BitVec 1 := Scalar.cmpi .ne v186 c0_i32_118
  let v191 : BitVec 1 := Scalar.andi v190 v187
  let v192 : BitVec 32 := Scalar.addi v186 v185
  let v193 : BitVec 32 := Scalar.select v191 v192 v186
  let c16384_i32_323 : BitVec 32 := 16384#32
  let v532 : BitVec 32 := Scalar.muli v193 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c6144_i32_324 : BitVec 32 := 6144#32
  let v534 : BitVec 32 := Scalar.addi v533 c6144_i32_324
  let c0_i32_334 : BitVec 32 := 0#32
  ![v534.toNat, 0]
def k0_dev35 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond32 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v162 : BitVec 32 := Scalar.addi v8 c1_i32_101
  let c1_i32_102 : BitVec 32 := 1#32
  let v163 : BitVec 32 := Scalar.addi v162 c1_i32_102
  let c3_i32_132 : BitVec 32 := 3#32
  let v211 : BitVec 1 := Scalar.cmpi .sle v163 c3_i32_132
  let v242 : BitVec 32 := Scalar.extui v211
  let c0_i32_148 : BitVec 32 := 0#32
  let v243 : BitVec 1 := Scalar.cmpi .ne v242 c0_i32_148
  v243

def k0_off41 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v162 : BitVec 32 := Scalar.addi v8 c1_i32_101
  let c1_i32_102 : BitVec 32 := 1#32
  let v163 : BitVec 32 := Scalar.addi v162 c1_i32_102
  let c4_i32_121 : BitVec 32 := 4#32
  let c0_i32_122 : BitVec 32 := 0#32
  let v194 : BitVec 1 := Scalar.cmpi .eq c4_i32_121 c0_i32_122
  let c1_i32_123 : BitVec 32 := 1#32
  let v195 : BitVec 32 := Scalar.select v194 c1_i32_123 c4_i32_121
  let v196 : BitVec 32 := Scalar.remsi v163 v195
  let c0_i32_125 : BitVec 32 := 0#32
  let v198 : BitVec 1 := Scalar.cmpi .slt v196 c0_i32_125
  let c0_i32_126 : BitVec 32 := 0#32
  let v199 : BitVec 1 := Scalar.cmpi .slt v195 c0_i32_126
  let v200 : BitVec 1 := Scalar.xori v198 v199
  let c0_i32_124 : BitVec 32 := 0#32
  let v197 : BitVec 1 := Scalar.cmpi .ne v196 c0_i32_124
  let v201 : BitVec 1 := Scalar.andi v200 v197
  let v202 : BitVec 32 := Scalar.addi v196 v195
  let v203 : BitVec 32 := Scalar.select v201 v202 v196
  let c16384_i32_323 : BitVec 32 := 16384#32
  let v532 : BitVec 32 := Scalar.muli v203 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c6144_i32_324 : BitVec 32 := 6144#32
  let v534 : BitVec 32 := Scalar.addi v533 c6144_i32_324
  let c0_i32_334 : BitVec 32 := 0#32
  ![v534.toNat, 0]
def k0_dev36 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond33 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_179 : BitVec 32 := 3#32
  let v290 : BitVec 1 := Scalar.cmpi .slt v8 c3_i32_179
  let c2_i32_149 : BitVec 32 := 2#32
  let v244 : BitVec 32 := Scalar.subi v8 c2_i32_149
  let c0_i32_180 : BitVec 32 := 0#32
  let v291 : BitVec 1 := Scalar.cmpi .sge v244 c0_i32_180
  let v292 : BitVec 1 := Scalar.andi v290 v291
  let v298 : BitVec 32 := Scalar.extui v292
  let c0_i32_185 : BitVec 32 := 0#32
  let v299 : BitVec 1 := Scalar.cmpi .ne v298 c0_i32_185
  v299

def k0_off42 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_149 : BitVec 32 := 2#32
  let v244 : BitVec 32 := Scalar.subi v8 c2_i32_149
  let c4_i32_155 : BitVec 32 := 4#32
  let c0_i32_156 : BitVec 32 := 0#32
  let v250 : BitVec 1 := Scalar.cmpi .eq c4_i32_155 c0_i32_156
  let c1_i32_157 : BitVec 32 := 1#32
  let v251 : BitVec 32 := Scalar.select v250 c1_i32_157 c4_i32_155
  let v252 : BitVec 32 := Scalar.remsi v244 v251
  let c0_i32_159 : BitVec 32 := 0#32
  let v254 : BitVec 1 := Scalar.cmpi .slt v252 c0_i32_159
  let c0_i32_160 : BitVec 32 := 0#32
  let v255 : BitVec 1 := Scalar.cmpi .slt v251 c0_i32_160
  let v256 : BitVec 1 := Scalar.xori v254 v255
  let c0_i32_158 : BitVec 32 := 0#32
  let v253 : BitVec 1 := Scalar.cmpi .ne v252 c0_i32_158
  let v257 : BitVec 1 := Scalar.andi v256 v253
  let v258 : BitVec 32 := Scalar.addi v252 v251
  let v259 : BitVec 32 := Scalar.select v257 v258 v252
  let c16384_i32_324 : BitVec 32 := 16384#32
  let v532 : BitVec 32 := Scalar.muli v259 c16384_i32_324
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c0_i32_325 : BitVec 32 := 0#32
  let v534 : BitVec 32 := Scalar.addi v533 c0_i32_325
  let c0_i32_335 : BitVec 32 := 0#32
  ![v534.toNat, 0]
def k0_dev37 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v536 : BitVec 32 := Scalar.muli v2 c16_i32_331
  let v537 : BitVec 32 := Scalar.addi c0_i32_332 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v538 : BitVec 32 := Scalar.muli v5 c4_i32_333
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v535 : BitVec 32 := Scalar.addi v8 c1_i32_326
  let c1_i32_334 : BitVec 32 := 1#32
  let v540 : BitVec 32 := Scalar.muli v535 c1_i32_334
  let v541 : BitVec 32 := Scalar.addi v539 v540
  v541.toNat
def k0_cond34 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_181 : BitVec 32 := 0#32
  let v293 : BitVec 1 := Scalar.cmpi .sgt v8 c0_i32_181
  let c2_i32_150 : BitVec 32 := 2#32
  let v245 : BitVec 32 := Scalar.addi v8 c2_i32_150
  let c3_i32_182 : BitVec 32 := 3#32
  let v294 : BitVec 1 := Scalar.cmpi .sle v245 c3_i32_182
  let v295 : BitVec 1 := Scalar.andi v293 v294
  let v300 : BitVec 32 := Scalar.extui v295
  let c0_i32_186 : BitVec 32 := 0#32
  let v301 : BitVec 1 := Scalar.cmpi .ne v300 c0_i32_186
  v301

def k0_off43 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_150 : BitVec 32 := 2#32
  let v245 : BitVec 32 := Scalar.addi v8 c2_i32_150
  let c4_i32_161 : BitVec 32 := 4#32
  let c0_i32_162 : BitVec 32 := 0#32
  let v260 : BitVec 1 := Scalar.cmpi .eq c4_i32_161 c0_i32_162
  let c1_i32_163 : BitVec 32 := 1#32
  let v261 : BitVec 32 := Scalar.select v260 c1_i32_163 c4_i32_161
  let v262 : BitVec 32 := Scalar.remsi v245 v261
  let c0_i32_165 : BitVec 32 := 0#32
  let v264 : BitVec 1 := Scalar.cmpi .slt v262 c0_i32_165
  let c0_i32_166 : BitVec 32 := 0#32
  let v265 : BitVec 1 := Scalar.cmpi .slt v261 c0_i32_166
  let v266 : BitVec 1 := Scalar.xori v264 v265
  let c0_i32_164 : BitVec 32 := 0#32
  let v263 : BitVec 1 := Scalar.cmpi .ne v262 c0_i32_164
  let v267 : BitVec 1 := Scalar.andi v266 v263
  let v268 : BitVec 32 := Scalar.addi v262 v261
  let v269 : BitVec 32 := Scalar.select v267 v268 v262
  let c16384_i32_324 : BitVec 32 := 16384#32
  let v532 : BitVec 32 := Scalar.muli v269 c16384_i32_324
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c0_i32_325 : BitVec 32 := 0#32
  let v534 : BitVec 32 := Scalar.addi v533 c0_i32_325
  let c0_i32_335 : BitVec 32 := 0#32
  ![v534.toNat, 0]
def k0_dev38 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_331 : BitVec 32 := 16#32
  let v536 : BitVec 32 := Scalar.muli v2 c16_i32_331
  let v537 : BitVec 32 := Scalar.addi c0_i32_332 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v538 : BitVec 32 := Scalar.muli v5 c4_i32_333
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_326 : BitVec 32 := 1#32
  let v535 : BitVec 32 := Scalar.subi v8 c1_i32_326
  let c1_i32_334 : BitVec 32 := 1#32
  let v540 : BitVec 32 := Scalar.muli v535 c1_i32_334
  let v541 : BitVec 32 := Scalar.addi v539 v540
  v541.toNat
def k0_cond35 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v246 : BitVec 32 := Scalar.subi v8 c1_i32_151
  let c2_i32_152 : BitVec 32 := 2#32
  let v247 : BitVec 32 := Scalar.subi v246 c2_i32_152
  let c0_i32_183 : BitVec 32 := 0#32
  let v296 : BitVec 1 := Scalar.cmpi .sge v247 c0_i32_183
  let v302 : BitVec 32 := Scalar.extui v296
  let c0_i32_187 : BitVec 32 := 0#32
  let v303 : BitVec 1 := Scalar.cmpi .ne v302 c0_i32_187
  v303

def k0_off44 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v246 : BitVec 32 := Scalar.subi v8 c1_i32_151
  let c2_i32_152 : BitVec 32 := 2#32
  let v247 : BitVec 32 := Scalar.subi v246 c2_i32_152
  let c4_i32_167 : BitVec 32 := 4#32
  let c0_i32_168 : BitVec 32 := 0#32
  let v270 : BitVec 1 := Scalar.cmpi .eq c4_i32_167 c0_i32_168
  let c1_i32_169 : BitVec 32 := 1#32
  let v271 : BitVec 32 := Scalar.select v270 c1_i32_169 c4_i32_167
  let v272 : BitVec 32 := Scalar.remsi v247 v271
  let c0_i32_171 : BitVec 32 := 0#32
  let v274 : BitVec 1 := Scalar.cmpi .slt v272 c0_i32_171
  let c0_i32_172 : BitVec 32 := 0#32
  let v275 : BitVec 1 := Scalar.cmpi .slt v271 c0_i32_172
  let v276 : BitVec 1 := Scalar.xori v274 v275
  let c0_i32_170 : BitVec 32 := 0#32
  let v273 : BitVec 1 := Scalar.cmpi .ne v272 c0_i32_170
  let v277 : BitVec 1 := Scalar.andi v276 v273
  let v278 : BitVec 32 := Scalar.addi v272 v271
  let v279 : BitVec 32 := Scalar.select v277 v278 v272
  let c16384_i32_324 : BitVec 32 := 16384#32
  let v532 : BitVec 32 := Scalar.muli v279 c16384_i32_324
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c0_i32_325 : BitVec 32 := 0#32
  let v534 : BitVec 32 := Scalar.addi v533 c0_i32_325
  let c0_i32_335 : BitVec 32 := 0#32
  ![v534.toNat, 0]
def k0_dev39 (d0 : Dev nD) : Nat :=
  let c0_i32_346 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_345 : BitVec 32 := 16#32
  let v552 : BitVec 32 := Scalar.muli v9 c16_i32_345
  let v553 : BitVec 32 := Scalar.addi c0_i32_346 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v554 : BitVec 32 := Scalar.muli v5 c4_i32_347
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v556 : BitVec 32 := Scalar.muli v8 c1_i32_348
  let v557 : BitVec 32 := Scalar.addi v555 v556
  v557.toNat
def k0_cond36 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v248 : BitVec 32 := Scalar.addi v8 c1_i32_153
  let c2_i32_154 : BitVec 32 := 2#32
  let v249 : BitVec 32 := Scalar.addi v248 c2_i32_154
  let c3_i32_184 : BitVec 32 := 3#32
  let v297 : BitVec 1 := Scalar.cmpi .sle v249 c3_i32_184
  let v304 : BitVec 32 := Scalar.extui v297
  let c0_i32_188 : BitVec 32 := 0#32
  let v305 : BitVec 1 := Scalar.cmpi .ne v304 c0_i32_188
  v305

def k0_off45 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v248 : BitVec 32 := Scalar.addi v8 c1_i32_153
  let c2_i32_154 : BitVec 32 := 2#32
  let v249 : BitVec 32 := Scalar.addi v248 c2_i32_154
  let c4_i32_173 : BitVec 32 := 4#32
  let c0_i32_174 : BitVec 32 := 0#32
  let v280 : BitVec 1 := Scalar.cmpi .eq c4_i32_173 c0_i32_174
  let c1_i32_175 : BitVec 32 := 1#32
  let v281 : BitVec 32 := Scalar.select v280 c1_i32_175 c4_i32_173
  let v282 : BitVec 32 := Scalar.remsi v249 v281
  let c0_i32_177 : BitVec 32 := 0#32
  let v284 : BitVec 1 := Scalar.cmpi .slt v282 c0_i32_177
  let c0_i32_178 : BitVec 32 := 0#32
  let v285 : BitVec 1 := Scalar.cmpi .slt v281 c0_i32_178
  let v286 : BitVec 1 := Scalar.xori v284 v285
  let c0_i32_176 : BitVec 32 := 0#32
  let v283 : BitVec 1 := Scalar.cmpi .ne v282 c0_i32_176
  let v287 : BitVec 1 := Scalar.andi v286 v283
  let v288 : BitVec 32 := Scalar.addi v282 v281
  let v289 : BitVec 32 := Scalar.select v287 v288 v282
  let c16384_i32_324 : BitVec 32 := 16384#32
  let v532 : BitVec 32 := Scalar.muli v289 c16384_i32_324
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c0_i32_325 : BitVec 32 := 0#32
  let v534 : BitVec 32 := Scalar.addi v533 c0_i32_325
  let c0_i32_335 : BitVec 32 := 0#32
  ![v534.toNat, 0]
def k0_dev40 (d0 : Dev nD) : Nat :=
  let c0_i32_346 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_345 : BitVec 32 := 16#32
  let v552 : BitVec 32 := Scalar.muli v9 c16_i32_345
  let v553 : BitVec 32 := Scalar.addi c0_i32_346 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v554 : BitVec 32 := Scalar.muli v5 c4_i32_347
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_348 : BitVec 32 := 1#32
  let v556 : BitVec 32 := Scalar.muli v8 c1_i32_348
  let v557 : BitVec 32 := Scalar.addi v555 v556
  v557.toNat
def k0_cond37 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_179 : BitVec 32 := 3#32
  let v290 : BitVec 1 := Scalar.cmpi .slt v8 c3_i32_179
  let c2_i32_149 : BitVec 32 := 2#32
  let v244 : BitVec 32 := Scalar.subi v8 c2_i32_149
  let c0_i32_180 : BitVec 32 := 0#32
  let v291 : BitVec 1 := Scalar.cmpi .sge v244 c0_i32_180
  let v292 : BitVec 1 := Scalar.andi v290 v291
  let v306 : BitVec 32 := Scalar.extui v292
  let c0_i32_189 : BitVec 32 := 0#32
  let v307 : BitVec 1 := Scalar.cmpi .ne v306 c0_i32_189
  v307

def k0_off46 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_149 : BitVec 32 := 2#32
  let v244 : BitVec 32 := Scalar.subi v8 c2_i32_149
  let c4_i32_155 : BitVec 32 := 4#32
  let c0_i32_156 : BitVec 32 := 0#32
  let v250 : BitVec 1 := Scalar.cmpi .eq c4_i32_155 c0_i32_156
  let c1_i32_157 : BitVec 32 := 1#32
  let v251 : BitVec 32 := Scalar.select v250 c1_i32_157 c4_i32_155
  let v252 : BitVec 32 := Scalar.remsi v244 v251
  let c0_i32_159 : BitVec 32 := 0#32
  let v254 : BitVec 1 := Scalar.cmpi .slt v252 c0_i32_159
  let c0_i32_160 : BitVec 32 := 0#32
  let v255 : BitVec 1 := Scalar.cmpi .slt v251 c0_i32_160
  let v256 : BitVec 1 := Scalar.xori v254 v255
  let c0_i32_158 : BitVec 32 := 0#32
  let v253 : BitVec 1 := Scalar.cmpi .ne v252 c0_i32_158
  let v257 : BitVec 1 := Scalar.andi v256 v253
  let v258 : BitVec 32 := Scalar.addi v252 v251
  let v259 : BitVec 32 := Scalar.select v257 v258 v252
  let c16384_i32_323 : BitVec 32 := 16384#32
  let v532 : BitVec 32 := Scalar.muli v259 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c2048_i32_324 : BitVec 32 := 2048#32
  let v534 : BitVec 32 := Scalar.addi v533 c2048_i32_324
  let c0_i32_334 : BitVec 32 := 0#32
  ![v534.toNat, 0]
def k0_dev41 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.addi v8 c1_i32_325
  let c1_i32_333 : BitVec 32 := 1#32
  let v540 : BitVec 32 := Scalar.muli v535 c1_i32_333
  let v541 : BitVec 32 := Scalar.addi v539 v540
  v541.toNat
def k0_cond38 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_181 : BitVec 32 := 0#32
  let v293 : BitVec 1 := Scalar.cmpi .sgt v8 c0_i32_181
  let c2_i32_150 : BitVec 32 := 2#32
  let v245 : BitVec 32 := Scalar.addi v8 c2_i32_150
  let c3_i32_182 : BitVec 32 := 3#32
  let v294 : BitVec 1 := Scalar.cmpi .sle v245 c3_i32_182
  let v295 : BitVec 1 := Scalar.andi v293 v294
  let v308 : BitVec 32 := Scalar.extui v295
  let c0_i32_190 : BitVec 32 := 0#32
  let v309 : BitVec 1 := Scalar.cmpi .ne v308 c0_i32_190
  v309

def k0_off47 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_150 : BitVec 32 := 2#32
  let v245 : BitVec 32 := Scalar.addi v8 c2_i32_150
  let c4_i32_161 : BitVec 32 := 4#32
  let c0_i32_162 : BitVec 32 := 0#32
  let v260 : BitVec 1 := Scalar.cmpi .eq c4_i32_161 c0_i32_162
  let c1_i32_163 : BitVec 32 := 1#32
  let v261 : BitVec 32 := Scalar.select v260 c1_i32_163 c4_i32_161
  let v262 : BitVec 32 := Scalar.remsi v245 v261
  let c0_i32_165 : BitVec 32 := 0#32
  let v264 : BitVec 1 := Scalar.cmpi .slt v262 c0_i32_165
  let c0_i32_166 : BitVec 32 := 0#32
  let v265 : BitVec 1 := Scalar.cmpi .slt v261 c0_i32_166
  let v266 : BitVec 1 := Scalar.xori v264 v265
  let c0_i32_164 : BitVec 32 := 0#32
  let v263 : BitVec 1 := Scalar.cmpi .ne v262 c0_i32_164
  let v267 : BitVec 1 := Scalar.andi v266 v263
  let v268 : BitVec 32 := Scalar.addi v262 v261
  let v269 : BitVec 32 := Scalar.select v267 v268 v262
  let c16384_i32_323 : BitVec 32 := 16384#32
  let v532 : BitVec 32 := Scalar.muli v269 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c2048_i32_324 : BitVec 32 := 2048#32
  let v534 : BitVec 32 := Scalar.addi v533 c2048_i32_324
  let c0_i32_334 : BitVec 32 := 0#32
  ![v534.toNat, 0]
def k0_dev42 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.subi v8 c1_i32_325
  let c1_i32_333 : BitVec 32 := 1#32
  let v540 : BitVec 32 := Scalar.muli v535 c1_i32_333
  let v541 : BitVec 32 := Scalar.addi v539 v540
  v541.toNat
def k0_cond39 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v246 : BitVec 32 := Scalar.subi v8 c1_i32_151
  let c2_i32_152 : BitVec 32 := 2#32
  let v247 : BitVec 32 := Scalar.subi v246 c2_i32_152
  let c0_i32_183 : BitVec 32 := 0#32
  let v296 : BitVec 1 := Scalar.cmpi .sge v247 c0_i32_183
  let v310 : BitVec 32 := Scalar.extui v296
  let c0_i32_191 : BitVec 32 := 0#32
  let v311 : BitVec 1 := Scalar.cmpi .ne v310 c0_i32_191
  v311

def k0_off48 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v246 : BitVec 32 := Scalar.subi v8 c1_i32_151
  let c2_i32_152 : BitVec 32 := 2#32
  let v247 : BitVec 32 := Scalar.subi v246 c2_i32_152
  let c4_i32_167 : BitVec 32 := 4#32
  let c0_i32_168 : BitVec 32 := 0#32
  let v270 : BitVec 1 := Scalar.cmpi .eq c4_i32_167 c0_i32_168
  let c1_i32_169 : BitVec 32 := 1#32
  let v271 : BitVec 32 := Scalar.select v270 c1_i32_169 c4_i32_167
  let v272 : BitVec 32 := Scalar.remsi v247 v271
  let c0_i32_171 : BitVec 32 := 0#32
  let v274 : BitVec 1 := Scalar.cmpi .slt v272 c0_i32_171
  let c0_i32_172 : BitVec 32 := 0#32
  let v275 : BitVec 1 := Scalar.cmpi .slt v271 c0_i32_172
  let v276 : BitVec 1 := Scalar.xori v274 v275
  let c0_i32_170 : BitVec 32 := 0#32
  let v273 : BitVec 1 := Scalar.cmpi .ne v272 c0_i32_170
  let v277 : BitVec 1 := Scalar.andi v276 v273
  let v278 : BitVec 32 := Scalar.addi v272 v271
  let v279 : BitVec 32 := Scalar.select v277 v278 v272
  let c16384_i32_323 : BitVec 32 := 16384#32
  let v532 : BitVec 32 := Scalar.muli v279 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c2048_i32_324 : BitVec 32 := 2048#32
  let v534 : BitVec 32 := Scalar.addi v533 c2048_i32_324
  let c0_i32_334 : BitVec 32 := 0#32
  ![v534.toNat, 0]
def k0_dev43 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond40 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v248 : BitVec 32 := Scalar.addi v8 c1_i32_153
  let c2_i32_154 : BitVec 32 := 2#32
  let v249 : BitVec 32 := Scalar.addi v248 c2_i32_154
  let c3_i32_184 : BitVec 32 := 3#32
  let v297 : BitVec 1 := Scalar.cmpi .sle v249 c3_i32_184
  let v312 : BitVec 32 := Scalar.extui v297
  let c0_i32_192 : BitVec 32 := 0#32
  let v313 : BitVec 1 := Scalar.cmpi .ne v312 c0_i32_192
  v313

def k0_off49 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v248 : BitVec 32 := Scalar.addi v8 c1_i32_153
  let c2_i32_154 : BitVec 32 := 2#32
  let v249 : BitVec 32 := Scalar.addi v248 c2_i32_154
  let c4_i32_173 : BitVec 32 := 4#32
  let c0_i32_174 : BitVec 32 := 0#32
  let v280 : BitVec 1 := Scalar.cmpi .eq c4_i32_173 c0_i32_174
  let c1_i32_175 : BitVec 32 := 1#32
  let v281 : BitVec 32 := Scalar.select v280 c1_i32_175 c4_i32_173
  let v282 : BitVec 32 := Scalar.remsi v249 v281
  let c0_i32_177 : BitVec 32 := 0#32
  let v284 : BitVec 1 := Scalar.cmpi .slt v282 c0_i32_177
  let c0_i32_178 : BitVec 32 := 0#32
  let v285 : BitVec 1 := Scalar.cmpi .slt v281 c0_i32_178
  let v286 : BitVec 1 := Scalar.xori v284 v285
  let c0_i32_176 : BitVec 32 := 0#32
  let v283 : BitVec 1 := Scalar.cmpi .ne v282 c0_i32_176
  let v287 : BitVec 1 := Scalar.andi v286 v283
  let v288 : BitVec 32 := Scalar.addi v282 v281
  let v289 : BitVec 32 := Scalar.select v287 v288 v282
  let c16384_i32_323 : BitVec 32 := 16384#32
  let v532 : BitVec 32 := Scalar.muli v289 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c2048_i32_324 : BitVec 32 := 2048#32
  let v534 : BitVec 32 := Scalar.addi v533 c2048_i32_324
  let c0_i32_334 : BitVec 32 := 0#32
  ![v534.toNat, 0]
def k0_dev44 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond41 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_179 : BitVec 32 := 3#32
  let v290 : BitVec 1 := Scalar.cmpi .slt v8 c3_i32_179
  let c2_i32_149 : BitVec 32 := 2#32
  let v244 : BitVec 32 := Scalar.subi v8 c2_i32_149
  let c0_i32_180 : BitVec 32 := 0#32
  let v291 : BitVec 1 := Scalar.cmpi .sge v244 c0_i32_180
  let v292 : BitVec 1 := Scalar.andi v290 v291
  let v314 : BitVec 32 := Scalar.extui v292
  let c0_i32_193 : BitVec 32 := 0#32
  let v315 : BitVec 1 := Scalar.cmpi .ne v314 c0_i32_193
  v315

def k0_off50 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_149 : BitVec 32 := 2#32
  let v244 : BitVec 32 := Scalar.subi v8 c2_i32_149
  let c4_i32_155 : BitVec 32 := 4#32
  let c0_i32_156 : BitVec 32 := 0#32
  let v250 : BitVec 1 := Scalar.cmpi .eq c4_i32_155 c0_i32_156
  let c1_i32_157 : BitVec 32 := 1#32
  let v251 : BitVec 32 := Scalar.select v250 c1_i32_157 c4_i32_155
  let v252 : BitVec 32 := Scalar.remsi v244 v251
  let c0_i32_159 : BitVec 32 := 0#32
  let v254 : BitVec 1 := Scalar.cmpi .slt v252 c0_i32_159
  let c0_i32_160 : BitVec 32 := 0#32
  let v255 : BitVec 1 := Scalar.cmpi .slt v251 c0_i32_160
  let v256 : BitVec 1 := Scalar.xori v254 v255
  let c0_i32_158 : BitVec 32 := 0#32
  let v253 : BitVec 1 := Scalar.cmpi .ne v252 c0_i32_158
  let v257 : BitVec 1 := Scalar.andi v256 v253
  let v258 : BitVec 32 := Scalar.addi v252 v251
  let v259 : BitVec 32 := Scalar.select v257 v258 v252
  let c16384_i32_323 : BitVec 32 := 16384#32
  let v532 : BitVec 32 := Scalar.muli v259 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c4096_i32_324 : BitVec 32 := 4096#32
  let v534 : BitVec 32 := Scalar.addi v533 c4096_i32_324
  let c0_i32_334 : BitVec 32 := 0#32
  ![v534.toNat, 0]
def k0_dev45 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.addi v8 c1_i32_325
  let c1_i32_333 : BitVec 32 := 1#32
  let v540 : BitVec 32 := Scalar.muli v535 c1_i32_333
  let v541 : BitVec 32 := Scalar.addi v539 v540
  v541.toNat
def k0_cond42 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_181 : BitVec 32 := 0#32
  let v293 : BitVec 1 := Scalar.cmpi .sgt v8 c0_i32_181
  let c2_i32_150 : BitVec 32 := 2#32
  let v245 : BitVec 32 := Scalar.addi v8 c2_i32_150
  let c3_i32_182 : BitVec 32 := 3#32
  let v294 : BitVec 1 := Scalar.cmpi .sle v245 c3_i32_182
  let v295 : BitVec 1 := Scalar.andi v293 v294
  let v316 : BitVec 32 := Scalar.extui v295
  let c0_i32_194 : BitVec 32 := 0#32
  let v317 : BitVec 1 := Scalar.cmpi .ne v316 c0_i32_194
  v317

def k0_off51 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_150 : BitVec 32 := 2#32
  let v245 : BitVec 32 := Scalar.addi v8 c2_i32_150
  let c4_i32_161 : BitVec 32 := 4#32
  let c0_i32_162 : BitVec 32 := 0#32
  let v260 : BitVec 1 := Scalar.cmpi .eq c4_i32_161 c0_i32_162
  let c1_i32_163 : BitVec 32 := 1#32
  let v261 : BitVec 32 := Scalar.select v260 c1_i32_163 c4_i32_161
  let v262 : BitVec 32 := Scalar.remsi v245 v261
  let c0_i32_165 : BitVec 32 := 0#32
  let v264 : BitVec 1 := Scalar.cmpi .slt v262 c0_i32_165
  let c0_i32_166 : BitVec 32 := 0#32
  let v265 : BitVec 1 := Scalar.cmpi .slt v261 c0_i32_166
  let v266 : BitVec 1 := Scalar.xori v264 v265
  let c0_i32_164 : BitVec 32 := 0#32
  let v263 : BitVec 1 := Scalar.cmpi .ne v262 c0_i32_164
  let v267 : BitVec 1 := Scalar.andi v266 v263
  let v268 : BitVec 32 := Scalar.addi v262 v261
  let v269 : BitVec 32 := Scalar.select v267 v268 v262
  let c16384_i32_323 : BitVec 32 := 16384#32
  let v532 : BitVec 32 := Scalar.muli v269 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c4096_i32_324 : BitVec 32 := 4096#32
  let v534 : BitVec 32 := Scalar.addi v533 c4096_i32_324
  let c0_i32_334 : BitVec 32 := 0#32
  ![v534.toNat, 0]
def k0_dev46 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.subi v8 c1_i32_325
  let c1_i32_333 : BitVec 32 := 1#32
  let v540 : BitVec 32 := Scalar.muli v535 c1_i32_333
  let v541 : BitVec 32 := Scalar.addi v539 v540
  v541.toNat
def k0_cond43 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v246 : BitVec 32 := Scalar.subi v8 c1_i32_151
  let c2_i32_152 : BitVec 32 := 2#32
  let v247 : BitVec 32 := Scalar.subi v246 c2_i32_152
  let c0_i32_183 : BitVec 32 := 0#32
  let v296 : BitVec 1 := Scalar.cmpi .sge v247 c0_i32_183
  let v318 : BitVec 32 := Scalar.extui v296
  let c0_i32_195 : BitVec 32 := 0#32
  let v319 : BitVec 1 := Scalar.cmpi .ne v318 c0_i32_195
  v319

def k0_off52 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v246 : BitVec 32 := Scalar.subi v8 c1_i32_151
  let c2_i32_152 : BitVec 32 := 2#32
  let v247 : BitVec 32 := Scalar.subi v246 c2_i32_152
  let c4_i32_167 : BitVec 32 := 4#32
  let c0_i32_168 : BitVec 32 := 0#32
  let v270 : BitVec 1 := Scalar.cmpi .eq c4_i32_167 c0_i32_168
  let c1_i32_169 : BitVec 32 := 1#32
  let v271 : BitVec 32 := Scalar.select v270 c1_i32_169 c4_i32_167
  let v272 : BitVec 32 := Scalar.remsi v247 v271
  let c0_i32_171 : BitVec 32 := 0#32
  let v274 : BitVec 1 := Scalar.cmpi .slt v272 c0_i32_171
  let c0_i32_172 : BitVec 32 := 0#32
  let v275 : BitVec 1 := Scalar.cmpi .slt v271 c0_i32_172
  let v276 : BitVec 1 := Scalar.xori v274 v275
  let c0_i32_170 : BitVec 32 := 0#32
  let v273 : BitVec 1 := Scalar.cmpi .ne v272 c0_i32_170
  let v277 : BitVec 1 := Scalar.andi v276 v273
  let v278 : BitVec 32 := Scalar.addi v272 v271
  let v279 : BitVec 32 := Scalar.select v277 v278 v272
  let c16384_i32_323 : BitVec 32 := 16384#32
  let v532 : BitVec 32 := Scalar.muli v279 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c4096_i32_324 : BitVec 32 := 4096#32
  let v534 : BitVec 32 := Scalar.addi v533 c4096_i32_324
  let c0_i32_334 : BitVec 32 := 0#32
  ![v534.toNat, 0]
def k0_dev47 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond44 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v248 : BitVec 32 := Scalar.addi v8 c1_i32_153
  let c2_i32_154 : BitVec 32 := 2#32
  let v249 : BitVec 32 := Scalar.addi v248 c2_i32_154
  let c3_i32_184 : BitVec 32 := 3#32
  let v297 : BitVec 1 := Scalar.cmpi .sle v249 c3_i32_184
  let v320 : BitVec 32 := Scalar.extui v297
  let c0_i32_196 : BitVec 32 := 0#32
  let v321 : BitVec 1 := Scalar.cmpi .ne v320 c0_i32_196
  v321

def k0_off53 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v248 : BitVec 32 := Scalar.addi v8 c1_i32_153
  let c2_i32_154 : BitVec 32 := 2#32
  let v249 : BitVec 32 := Scalar.addi v248 c2_i32_154
  let c4_i32_173 : BitVec 32 := 4#32
  let c0_i32_174 : BitVec 32 := 0#32
  let v280 : BitVec 1 := Scalar.cmpi .eq c4_i32_173 c0_i32_174
  let c1_i32_175 : BitVec 32 := 1#32
  let v281 : BitVec 32 := Scalar.select v280 c1_i32_175 c4_i32_173
  let v282 : BitVec 32 := Scalar.remsi v249 v281
  let c0_i32_177 : BitVec 32 := 0#32
  let v284 : BitVec 1 := Scalar.cmpi .slt v282 c0_i32_177
  let c0_i32_178 : BitVec 32 := 0#32
  let v285 : BitVec 1 := Scalar.cmpi .slt v281 c0_i32_178
  let v286 : BitVec 1 := Scalar.xori v284 v285
  let c0_i32_176 : BitVec 32 := 0#32
  let v283 : BitVec 1 := Scalar.cmpi .ne v282 c0_i32_176
  let v287 : BitVec 1 := Scalar.andi v286 v283
  let v288 : BitVec 32 := Scalar.addi v282 v281
  let v289 : BitVec 32 := Scalar.select v287 v288 v282
  let c16384_i32_323 : BitVec 32 := 16384#32
  let v532 : BitVec 32 := Scalar.muli v289 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c4096_i32_324 : BitVec 32 := 4096#32
  let v534 : BitVec 32 := Scalar.addi v533 c4096_i32_324
  let c0_i32_334 : BitVec 32 := 0#32
  ![v534.toNat, 0]
def k0_dev48 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond45 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_179 : BitVec 32 := 3#32
  let v290 : BitVec 1 := Scalar.cmpi .slt v8 c3_i32_179
  let c2_i32_149 : BitVec 32 := 2#32
  let v244 : BitVec 32 := Scalar.subi v8 c2_i32_149
  let c0_i32_180 : BitVec 32 := 0#32
  let v291 : BitVec 1 := Scalar.cmpi .sge v244 c0_i32_180
  let v292 : BitVec 1 := Scalar.andi v290 v291
  let v322 : BitVec 32 := Scalar.extui v292
  let c0_i32_197 : BitVec 32 := 0#32
  let v323 : BitVec 1 := Scalar.cmpi .ne v322 c0_i32_197
  v323

def k0_off54 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_149 : BitVec 32 := 2#32
  let v244 : BitVec 32 := Scalar.subi v8 c2_i32_149
  let c4_i32_155 : BitVec 32 := 4#32
  let c0_i32_156 : BitVec 32 := 0#32
  let v250 : BitVec 1 := Scalar.cmpi .eq c4_i32_155 c0_i32_156
  let c1_i32_157 : BitVec 32 := 1#32
  let v251 : BitVec 32 := Scalar.select v250 c1_i32_157 c4_i32_155
  let v252 : BitVec 32 := Scalar.remsi v244 v251
  let c0_i32_159 : BitVec 32 := 0#32
  let v254 : BitVec 1 := Scalar.cmpi .slt v252 c0_i32_159
  let c0_i32_160 : BitVec 32 := 0#32
  let v255 : BitVec 1 := Scalar.cmpi .slt v251 c0_i32_160
  let v256 : BitVec 1 := Scalar.xori v254 v255
  let c0_i32_158 : BitVec 32 := 0#32
  let v253 : BitVec 1 := Scalar.cmpi .ne v252 c0_i32_158
  let v257 : BitVec 1 := Scalar.andi v256 v253
  let v258 : BitVec 32 := Scalar.addi v252 v251
  let v259 : BitVec 32 := Scalar.select v257 v258 v252
  let c16384_i32_323 : BitVec 32 := 16384#32
  let v532 : BitVec 32 := Scalar.muli v259 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c6144_i32_324 : BitVec 32 := 6144#32
  let v534 : BitVec 32 := Scalar.addi v533 c6144_i32_324
  let c0_i32_334 : BitVec 32 := 0#32
  ![v534.toNat, 0]
def k0_dev49 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.addi v8 c1_i32_325
  let c1_i32_333 : BitVec 32 := 1#32
  let v540 : BitVec 32 := Scalar.muli v535 c1_i32_333
  let v541 : BitVec 32 := Scalar.addi v539 v540
  v541.toNat
def k0_cond46 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_181 : BitVec 32 := 0#32
  let v293 : BitVec 1 := Scalar.cmpi .sgt v8 c0_i32_181
  let c2_i32_150 : BitVec 32 := 2#32
  let v245 : BitVec 32 := Scalar.addi v8 c2_i32_150
  let c3_i32_182 : BitVec 32 := 3#32
  let v294 : BitVec 1 := Scalar.cmpi .sle v245 c3_i32_182
  let v295 : BitVec 1 := Scalar.andi v293 v294
  let v324 : BitVec 32 := Scalar.extui v295
  let c0_i32_198 : BitVec 32 := 0#32
  let v325 : BitVec 1 := Scalar.cmpi .ne v324 c0_i32_198
  v325

def k0_off55 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_150 : BitVec 32 := 2#32
  let v245 : BitVec 32 := Scalar.addi v8 c2_i32_150
  let c4_i32_161 : BitVec 32 := 4#32
  let c0_i32_162 : BitVec 32 := 0#32
  let v260 : BitVec 1 := Scalar.cmpi .eq c4_i32_161 c0_i32_162
  let c1_i32_163 : BitVec 32 := 1#32
  let v261 : BitVec 32 := Scalar.select v260 c1_i32_163 c4_i32_161
  let v262 : BitVec 32 := Scalar.remsi v245 v261
  let c0_i32_165 : BitVec 32 := 0#32
  let v264 : BitVec 1 := Scalar.cmpi .slt v262 c0_i32_165
  let c0_i32_166 : BitVec 32 := 0#32
  let v265 : BitVec 1 := Scalar.cmpi .slt v261 c0_i32_166
  let v266 : BitVec 1 := Scalar.xori v264 v265
  let c0_i32_164 : BitVec 32 := 0#32
  let v263 : BitVec 1 := Scalar.cmpi .ne v262 c0_i32_164
  let v267 : BitVec 1 := Scalar.andi v266 v263
  let v268 : BitVec 32 := Scalar.addi v262 v261
  let v269 : BitVec 32 := Scalar.select v267 v268 v262
  let c16384_i32_323 : BitVec 32 := 16384#32
  let v532 : BitVec 32 := Scalar.muli v269 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c6144_i32_324 : BitVec 32 := 6144#32
  let v534 : BitVec 32 := Scalar.addi v533 c6144_i32_324
  let c0_i32_334 : BitVec 32 := 0#32
  ![v534.toNat, 0]
def k0_dev50 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v536 : BitVec 32 := Scalar.muli v2 c16_i32_330
  let v537 : BitVec 32 := Scalar.addi c0_i32_331 v536
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v538 : BitVec 32 := Scalar.muli v5 c4_i32_332
  let v539 : BitVec 32 := Scalar.addi v537 v538
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_325 : BitVec 32 := 1#32
  let v535 : BitVec 32 := Scalar.subi v8 c1_i32_325
  let c1_i32_333 : BitVec 32 := 1#32
  let v540 : BitVec 32 := Scalar.muli v535 c1_i32_333
  let v541 : BitVec 32 := Scalar.addi v539 v540
  v541.toNat
def k0_cond47 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v246 : BitVec 32 := Scalar.subi v8 c1_i32_151
  let c2_i32_152 : BitVec 32 := 2#32
  let v247 : BitVec 32 := Scalar.subi v246 c2_i32_152
  let c0_i32_183 : BitVec 32 := 0#32
  let v296 : BitVec 1 := Scalar.cmpi .sge v247 c0_i32_183
  let v326 : BitVec 32 := Scalar.extui v296
  let c0_i32_199 : BitVec 32 := 0#32
  let v327 : BitVec 1 := Scalar.cmpi .ne v326 c0_i32_199
  v327

def k0_off56 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v246 : BitVec 32 := Scalar.subi v8 c1_i32_151
  let c2_i32_152 : BitVec 32 := 2#32
  let v247 : BitVec 32 := Scalar.subi v246 c2_i32_152
  let c4_i32_167 : BitVec 32 := 4#32
  let c0_i32_168 : BitVec 32 := 0#32
  let v270 : BitVec 1 := Scalar.cmpi .eq c4_i32_167 c0_i32_168
  let c1_i32_169 : BitVec 32 := 1#32
  let v271 : BitVec 32 := Scalar.select v270 c1_i32_169 c4_i32_167
  let v272 : BitVec 32 := Scalar.remsi v247 v271
  let c0_i32_171 : BitVec 32 := 0#32
  let v274 : BitVec 1 := Scalar.cmpi .slt v272 c0_i32_171
  let c0_i32_172 : BitVec 32 := 0#32
  let v275 : BitVec 1 := Scalar.cmpi .slt v271 c0_i32_172
  let v276 : BitVec 1 := Scalar.xori v274 v275
  let c0_i32_170 : BitVec 32 := 0#32
  let v273 : BitVec 1 := Scalar.cmpi .ne v272 c0_i32_170
  let v277 : BitVec 1 := Scalar.andi v276 v273
  let v278 : BitVec 32 := Scalar.addi v272 v271
  let v279 : BitVec 32 := Scalar.select v277 v278 v272
  let c16384_i32_323 : BitVec 32 := 16384#32
  let v532 : BitVec 32 := Scalar.muli v279 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c6144_i32_324 : BitVec 32 := 6144#32
  let v534 : BitVec 32 := Scalar.addi v533 c6144_i32_324
  let c0_i32_334 : BitVec 32 := 0#32
  ![v534.toNat, 0]
def k0_dev51 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond48 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v248 : BitVec 32 := Scalar.addi v8 c1_i32_153
  let c2_i32_154 : BitVec 32 := 2#32
  let v249 : BitVec 32 := Scalar.addi v248 c2_i32_154
  let c3_i32_184 : BitVec 32 := 3#32
  let v297 : BitVec 1 := Scalar.cmpi .sle v249 c3_i32_184
  let v328 : BitVec 32 := Scalar.extui v297
  let c0_i32_200 : BitVec 32 := 0#32
  let v329 : BitVec 1 := Scalar.cmpi .ne v328 c0_i32_200
  v329

def k0_off57 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v248 : BitVec 32 := Scalar.addi v8 c1_i32_153
  let c2_i32_154 : BitVec 32 := 2#32
  let v249 : BitVec 32 := Scalar.addi v248 c2_i32_154
  let c4_i32_173 : BitVec 32 := 4#32
  let c0_i32_174 : BitVec 32 := 0#32
  let v280 : BitVec 1 := Scalar.cmpi .eq c4_i32_173 c0_i32_174
  let c1_i32_175 : BitVec 32 := 1#32
  let v281 : BitVec 32 := Scalar.select v280 c1_i32_175 c4_i32_173
  let v282 : BitVec 32 := Scalar.remsi v249 v281
  let c0_i32_177 : BitVec 32 := 0#32
  let v284 : BitVec 1 := Scalar.cmpi .slt v282 c0_i32_177
  let c0_i32_178 : BitVec 32 := 0#32
  let v285 : BitVec 1 := Scalar.cmpi .slt v281 c0_i32_178
  let v286 : BitVec 1 := Scalar.xori v284 v285
  let c0_i32_176 : BitVec 32 := 0#32
  let v283 : BitVec 1 := Scalar.cmpi .ne v282 c0_i32_176
  let v287 : BitVec 1 := Scalar.andi v286 v283
  let v288 : BitVec 32 := Scalar.addi v282 v281
  let v289 : BitVec 32 := Scalar.select v287 v288 v282
  let c16384_i32_323 : BitVec 32 := 16384#32
  let v532 : BitVec 32 := Scalar.muli v289 c16384_i32_323
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v533 : BitVec 32 := Scalar.addi v532 v10
  let c6144_i32_324 : BitVec 32 := 6144#32
  let v534 : BitVec 32 := Scalar.addi v533 c6144_i32_324
  let c0_i32_334 : BitVec 32 := 0#32
  ![v534.toNat, 0]
def k0_dev52 (d0 : Dev nD) : Nat :=
  let c0_i32_345 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_344 : BitVec 32 := 16#32
  let v552 : BitVec 32 := Scalar.muli v9 c16_i32_344
  let v553 : BitVec 32 := Scalar.addi c0_i32_345 v552
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_346 : BitVec 32 := 4#32
  let v554 : BitVec 32 := Scalar.muli v5 c4_i32_346
  let v555 : BitVec 32 := Scalar.addi v553 v554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_347 : BitVec 32 := 1#32
  let v556 : BitVec 32 := Scalar.muli v8 c1_i32_347
  let v557 : BitVec 32 := Scalar.addi v555 v556
  v557.toNat
def k0_cond49 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c0_i32_217 : BitVec 32 := 0#32
  let v354 : BitVec 1 := Scalar.cmpi .sge v331 c0_i32_217
  let v364 : BitVec 32 := Scalar.extui v354
  let c0_i32_225 : BitVec 32 := 0#32
  let v365 : BitVec 1 := Scalar.cmpi .ne v364 c0_i32_225
  v365

def k0_off58 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c4_i32_205 : BitVec 32 := 4#32
  let c0_i32_206 : BitVec 32 := 0#32
  let v334 : BitVec 1 := Scalar.cmpi .eq c4_i32_205 c0_i32_206
  let c1_i32_207 : BitVec 32 := 1#32
  let v335 : BitVec 32 := Scalar.select v334 c1_i32_207 c4_i32_205
  let v336 : BitVec 32 := Scalar.remsi v331 v335
  let c0_i32_209 : BitVec 32 := 0#32
  let v338 : BitVec 1 := Scalar.cmpi .slt v336 c0_i32_209
  let c0_i32_210 : BitVec 32 := 0#32
  let v339 : BitVec 1 := Scalar.cmpi .slt v335 c0_i32_210
  let v340 : BitVec 1 := Scalar.xori v338 v339
  let c0_i32_208 : BitVec 32 := 0#32
  let v337 : BitVec 1 := Scalar.cmpi .ne v336 c0_i32_208
  let v341 : BitVec 1 := Scalar.andi v340 v337
  let v342 : BitVec 32 := Scalar.addi v336 v335
  let v343 : BitVec 32 := Scalar.select v341 v342 v336
  let c16384_i32_324 : BitVec 32 := 16384#32
  let v532 : BitVec 32 := Scalar.muli v343 c16384_i32_324
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c0_i32_325 : BitVec 32 := 0#32
  let v534 : BitVec 32 := Scalar.addi v533 c0_i32_325
  let c0_i32_334 : BitVec 32 := 0#32
  ![v534.toNat, 0]
def k0_off59 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c4_i32_205 : BitVec 32 := 4#32
  let c0_i32_206 : BitVec 32 := 0#32
  let v334 : BitVec 1 := Scalar.cmpi .eq c4_i32_205 c0_i32_206
  let c1_i32_207 : BitVec 32 := 1#32
  let v335 : BitVec 32 := Scalar.select v334 c1_i32_207 c4_i32_205
  let v336 : BitVec 32 := Scalar.remsi v331 v335
  let c0_i32_209 : BitVec 32 := 0#32
  let v338 : BitVec 1 := Scalar.cmpi .slt v336 c0_i32_209
  let c0_i32_210 : BitVec 32 := 0#32
  let v339 : BitVec 1 := Scalar.cmpi .slt v335 c0_i32_210
  let v340 : BitVec 1 := Scalar.xori v338 v339
  let c0_i32_208 : BitVec 32 := 0#32
  let v337 : BitVec 1 := Scalar.cmpi .ne v336 c0_i32_208
  let v341 : BitVec 1 := Scalar.andi v340 v337
  let v342 : BitVec 32 := Scalar.addi v336 v335
  let v343 : BitVec 32 := Scalar.select v341 v342 v336
  let c16384_i32_336 : BitVec 32 := 16384#32
  let v545 : BitVec 32 := Scalar.muli v343 c16384_i32_336
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c0_i32_337 : BitVec 32 := 0#32
  let v547 : BitVec 32 := Scalar.addi v546 c0_i32_337
  let c0_i32_345 : BitVec 32 := 0#32
  ![v547.toNat, 0]
def k0_cond50 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c3_i32_218 : BitVec 32 := 3#32
  let v355 : BitVec 1 := Scalar.cmpi .sle v333 c3_i32_218
  let v366 : BitVec 32 := Scalar.extui v355
  let c0_i32_226 : BitVec 32 := 0#32
  let v367 : BitVec 1 := Scalar.cmpi .ne v366 c0_i32_226
  v367

def k0_off60 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c4_i32_211 : BitVec 32 := 4#32
  let c0_i32_212 : BitVec 32 := 0#32
  let v344 : BitVec 1 := Scalar.cmpi .eq c4_i32_211 c0_i32_212
  let c1_i32_213 : BitVec 32 := 1#32
  let v345 : BitVec 32 := Scalar.select v344 c1_i32_213 c4_i32_211
  let v346 : BitVec 32 := Scalar.remsi v333 v345
  let c0_i32_215 : BitVec 32 := 0#32
  let v348 : BitVec 1 := Scalar.cmpi .slt v346 c0_i32_215
  let c0_i32_216 : BitVec 32 := 0#32
  let v349 : BitVec 1 := Scalar.cmpi .slt v345 c0_i32_216
  let v350 : BitVec 1 := Scalar.xori v348 v349
  let c0_i32_214 : BitVec 32 := 0#32
  let v347 : BitVec 1 := Scalar.cmpi .ne v346 c0_i32_214
  let v351 : BitVec 1 := Scalar.andi v350 v347
  let v352 : BitVec 32 := Scalar.addi v346 v345
  let v353 : BitVec 32 := Scalar.select v351 v352 v346
  let c16384_i32_324 : BitVec 32 := 16384#32
  let v532 : BitVec 32 := Scalar.muli v353 c16384_i32_324
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c0_i32_325 : BitVec 32 := 0#32
  let v534 : BitVec 32 := Scalar.addi v533 c0_i32_325
  let c0_i32_334 : BitVec 32 := 0#32
  ![v534.toNat, 0]
def k0_off61 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c4_i32_211 : BitVec 32 := 4#32
  let c0_i32_212 : BitVec 32 := 0#32
  let v344 : BitVec 1 := Scalar.cmpi .eq c4_i32_211 c0_i32_212
  let c1_i32_213 : BitVec 32 := 1#32
  let v345 : BitVec 32 := Scalar.select v344 c1_i32_213 c4_i32_211
  let v346 : BitVec 32 := Scalar.remsi v333 v345
  let c0_i32_215 : BitVec 32 := 0#32
  let v348 : BitVec 1 := Scalar.cmpi .slt v346 c0_i32_215
  let c0_i32_216 : BitVec 32 := 0#32
  let v349 : BitVec 1 := Scalar.cmpi .slt v345 c0_i32_216
  let v350 : BitVec 1 := Scalar.xori v348 v349
  let c0_i32_214 : BitVec 32 := 0#32
  let v347 : BitVec 1 := Scalar.cmpi .ne v346 c0_i32_214
  let v351 : BitVec 1 := Scalar.andi v350 v347
  let v352 : BitVec 32 := Scalar.addi v346 v345
  let v353 : BitVec 32 := Scalar.select v351 v352 v346
  let c16384_i32_336 : BitVec 32 := 16384#32
  let v545 : BitVec 32 := Scalar.muli v353 c16384_i32_336
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c0_i32_337 : BitVec 32 := 0#32
  let v547 : BitVec 32 := Scalar.addi v546 c0_i32_337
  let c0_i32_345 : BitVec 32 := 0#32
  ![v547.toNat, 0]
def k0_cond51 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_219 : BitVec 32 := 3#32
  let v356 : BitVec 1 := Scalar.cmpi .slt v8 c3_i32_219
  let c0_i32_220 : BitVec 32 := 0#32
  let v357 : BitVec 32 := Scalar.subi v8 c0_i32_220
  let c0_i32_221 : BitVec 32 := 0#32
  let v358 : BitVec 1 := Scalar.cmpi .sge v357 c0_i32_221
  let v359 : BitVec 1 := Scalar.andi v356 v358
  let v368 : BitVec 32 := Scalar.extui v359
  let c0_i32_227 : BitVec 32 := 0#32
  let v369 : BitVec 1 := Scalar.cmpi .ne v368 c0_i32_227
  v369

def k0_off62 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c0_i32_323 : BitVec 32 := 0#32
  let v530 : BitVec 32 := Scalar.addi v529 c0_i32_323
  let c0_i32_332 : BitVec 32 := 0#32
  ![v530.toNat, 0]
def k0_cond52 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_222 : BitVec 32 := 0#32
  let v360 : BitVec 1 := Scalar.cmpi .sgt v8 c0_i32_222
  let c0_i32_223 : BitVec 32 := 0#32
  let v361 : BitVec 32 := Scalar.addi v8 c0_i32_223
  let c3_i32_224 : BitVec 32 := 3#32
  let v362 : BitVec 1 := Scalar.cmpi .sle v361 c3_i32_224
  let v363 : BitVec 1 := Scalar.andi v360 v362
  let v370 : BitVec 32 := Scalar.extui v363
  let c0_i32_228 : BitVec 32 := 0#32
  let v371 : BitVec 1 := Scalar.cmpi .ne v370 c0_i32_228
  v371

def k0_off63 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c0_i32_323 : BitVec 32 := 0#32
  let v530 : BitVec 32 := Scalar.addi v529 c0_i32_323
  let c0_i32_332 : BitVec 32 := 0#32
  ![v530.toNat, 0]
def k0_cond53 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c0_i32_217 : BitVec 32 := 0#32
  let v354 : BitVec 1 := Scalar.cmpi .sge v331 c0_i32_217
  let v372 : BitVec 32 := Scalar.extui v354
  let c0_i32_229 : BitVec 32 := 0#32
  let v373 : BitVec 1 := Scalar.cmpi .ne v372 c0_i32_229
  v373

def k0_off64 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c4_i32_205 : BitVec 32 := 4#32
  let c0_i32_206 : BitVec 32 := 0#32
  let v334 : BitVec 1 := Scalar.cmpi .eq c4_i32_205 c0_i32_206
  let c1_i32_207 : BitVec 32 := 1#32
  let v335 : BitVec 32 := Scalar.select v334 c1_i32_207 c4_i32_205
  let v336 : BitVec 32 := Scalar.remsi v331 v335
  let c0_i32_209 : BitVec 32 := 0#32
  let v338 : BitVec 1 := Scalar.cmpi .slt v336 c0_i32_209
  let c0_i32_210 : BitVec 32 := 0#32
  let v339 : BitVec 1 := Scalar.cmpi .slt v335 c0_i32_210
  let v340 : BitVec 1 := Scalar.xori v338 v339
  let c0_i32_208 : BitVec 32 := 0#32
  let v337 : BitVec 1 := Scalar.cmpi .ne v336 c0_i32_208
  let v341 : BitVec 1 := Scalar.andi v340 v337
  let v342 : BitVec 32 := Scalar.addi v336 v335
  let v343 : BitVec 32 := Scalar.select v341 v342 v336
  let c16384_i32_323 : BitVec 32 := 16384#32
  let v532 : BitVec 32 := Scalar.muli v343 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c2048_i32_324 : BitVec 32 := 2048#32
  let v534 : BitVec 32 := Scalar.addi v533 c2048_i32_324
  let c0_i32_333 : BitVec 32 := 0#32
  ![v534.toNat, 0]
def k0_off65 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c4_i32_205 : BitVec 32 := 4#32
  let c0_i32_206 : BitVec 32 := 0#32
  let v334 : BitVec 1 := Scalar.cmpi .eq c4_i32_205 c0_i32_206
  let c1_i32_207 : BitVec 32 := 1#32
  let v335 : BitVec 32 := Scalar.select v334 c1_i32_207 c4_i32_205
  let v336 : BitVec 32 := Scalar.remsi v331 v335
  let c0_i32_209 : BitVec 32 := 0#32
  let v338 : BitVec 1 := Scalar.cmpi .slt v336 c0_i32_209
  let c0_i32_210 : BitVec 32 := 0#32
  let v339 : BitVec 1 := Scalar.cmpi .slt v335 c0_i32_210
  let v340 : BitVec 1 := Scalar.xori v338 v339
  let c0_i32_208 : BitVec 32 := 0#32
  let v337 : BitVec 1 := Scalar.cmpi .ne v336 c0_i32_208
  let v341 : BitVec 1 := Scalar.andi v340 v337
  let v342 : BitVec 32 := Scalar.addi v336 v335
  let v343 : BitVec 32 := Scalar.select v341 v342 v336
  let c16384_i32_335 : BitVec 32 := 16384#32
  let v545 : BitVec 32 := Scalar.muli v343 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c2048_i32_336 : BitVec 32 := 2048#32
  let v547 : BitVec 32 := Scalar.addi v546 c2048_i32_336
  let c0_i32_344 : BitVec 32 := 0#32
  ![v547.toNat, 0]
def k0_cond54 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c3_i32_218 : BitVec 32 := 3#32
  let v355 : BitVec 1 := Scalar.cmpi .sle v333 c3_i32_218
  let v374 : BitVec 32 := Scalar.extui v355
  let c0_i32_230 : BitVec 32 := 0#32
  let v375 : BitVec 1 := Scalar.cmpi .ne v374 c0_i32_230
  v375

def k0_off66 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c4_i32_211 : BitVec 32 := 4#32
  let c0_i32_212 : BitVec 32 := 0#32
  let v344 : BitVec 1 := Scalar.cmpi .eq c4_i32_211 c0_i32_212
  let c1_i32_213 : BitVec 32 := 1#32
  let v345 : BitVec 32 := Scalar.select v344 c1_i32_213 c4_i32_211
  let v346 : BitVec 32 := Scalar.remsi v333 v345
  let c0_i32_215 : BitVec 32 := 0#32
  let v348 : BitVec 1 := Scalar.cmpi .slt v346 c0_i32_215
  let c0_i32_216 : BitVec 32 := 0#32
  let v349 : BitVec 1 := Scalar.cmpi .slt v345 c0_i32_216
  let v350 : BitVec 1 := Scalar.xori v348 v349
  let c0_i32_214 : BitVec 32 := 0#32
  let v347 : BitVec 1 := Scalar.cmpi .ne v346 c0_i32_214
  let v351 : BitVec 1 := Scalar.andi v350 v347
  let v352 : BitVec 32 := Scalar.addi v346 v345
  let v353 : BitVec 32 := Scalar.select v351 v352 v346
  let c16384_i32_323 : BitVec 32 := 16384#32
  let v532 : BitVec 32 := Scalar.muli v353 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c2048_i32_324 : BitVec 32 := 2048#32
  let v534 : BitVec 32 := Scalar.addi v533 c2048_i32_324
  let c0_i32_333 : BitVec 32 := 0#32
  ![v534.toNat, 0]
def k0_off67 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c4_i32_211 : BitVec 32 := 4#32
  let c0_i32_212 : BitVec 32 := 0#32
  let v344 : BitVec 1 := Scalar.cmpi .eq c4_i32_211 c0_i32_212
  let c1_i32_213 : BitVec 32 := 1#32
  let v345 : BitVec 32 := Scalar.select v344 c1_i32_213 c4_i32_211
  let v346 : BitVec 32 := Scalar.remsi v333 v345
  let c0_i32_215 : BitVec 32 := 0#32
  let v348 : BitVec 1 := Scalar.cmpi .slt v346 c0_i32_215
  let c0_i32_216 : BitVec 32 := 0#32
  let v349 : BitVec 1 := Scalar.cmpi .slt v345 c0_i32_216
  let v350 : BitVec 1 := Scalar.xori v348 v349
  let c0_i32_214 : BitVec 32 := 0#32
  let v347 : BitVec 1 := Scalar.cmpi .ne v346 c0_i32_214
  let v351 : BitVec 1 := Scalar.andi v350 v347
  let v352 : BitVec 32 := Scalar.addi v346 v345
  let v353 : BitVec 32 := Scalar.select v351 v352 v346
  let c16384_i32_335 : BitVec 32 := 16384#32
  let v545 : BitVec 32 := Scalar.muli v353 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c2048_i32_336 : BitVec 32 := 2048#32
  let v547 : BitVec 32 := Scalar.addi v546 c2048_i32_336
  let c0_i32_344 : BitVec 32 := 0#32
  ![v547.toNat, 0]
def k0_cond55 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_219 : BitVec 32 := 3#32
  let v356 : BitVec 1 := Scalar.cmpi .slt v8 c3_i32_219
  let c0_i32_220 : BitVec 32 := 0#32
  let v357 : BitVec 32 := Scalar.subi v8 c0_i32_220
  let c0_i32_221 : BitVec 32 := 0#32
  let v358 : BitVec 1 := Scalar.cmpi .sge v357 c0_i32_221
  let v359 : BitVec 1 := Scalar.andi v356 v358
  let v376 : BitVec 32 := Scalar.extui v359
  let c0_i32_231 : BitVec 32 := 0#32
  let v377 : BitVec 1 := Scalar.cmpi .ne v376 c0_i32_231
  v377

def k0_off68 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c2048_i32 : BitVec 32 := 2048#32
  let v530 : BitVec 32 := Scalar.addi v529 c2048_i32
  let c0_i32_331 : BitVec 32 := 0#32
  ![v530.toNat, 0]
def k0_cond56 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_222 : BitVec 32 := 0#32
  let v360 : BitVec 1 := Scalar.cmpi .sgt v8 c0_i32_222
  let c0_i32_223 : BitVec 32 := 0#32
  let v361 : BitVec 32 := Scalar.addi v8 c0_i32_223
  let c3_i32_224 : BitVec 32 := 3#32
  let v362 : BitVec 1 := Scalar.cmpi .sle v361 c3_i32_224
  let v363 : BitVec 1 := Scalar.andi v360 v362
  let v378 : BitVec 32 := Scalar.extui v363
  let c0_i32_232 : BitVec 32 := 0#32
  let v379 : BitVec 1 := Scalar.cmpi .ne v378 c0_i32_232
  v379

def k0_off69 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c2048_i32 : BitVec 32 := 2048#32
  let v530 : BitVec 32 := Scalar.addi v529 c2048_i32
  let c0_i32_331 : BitVec 32 := 0#32
  ![v530.toNat, 0]
def k0_cond57 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c0_i32_217 : BitVec 32 := 0#32
  let v354 : BitVec 1 := Scalar.cmpi .sge v331 c0_i32_217
  let v380 : BitVec 32 := Scalar.extui v354
  let c0_i32_233 : BitVec 32 := 0#32
  let v381 : BitVec 1 := Scalar.cmpi .ne v380 c0_i32_233
  v381

def k0_off70 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c4_i32_205 : BitVec 32 := 4#32
  let c0_i32_206 : BitVec 32 := 0#32
  let v334 : BitVec 1 := Scalar.cmpi .eq c4_i32_205 c0_i32_206
  let c1_i32_207 : BitVec 32 := 1#32
  let v335 : BitVec 32 := Scalar.select v334 c1_i32_207 c4_i32_205
  let v336 : BitVec 32 := Scalar.remsi v331 v335
  let c0_i32_209 : BitVec 32 := 0#32
  let v338 : BitVec 1 := Scalar.cmpi .slt v336 c0_i32_209
  let c0_i32_210 : BitVec 32 := 0#32
  let v339 : BitVec 1 := Scalar.cmpi .slt v335 c0_i32_210
  let v340 : BitVec 1 := Scalar.xori v338 v339
  let c0_i32_208 : BitVec 32 := 0#32
  let v337 : BitVec 1 := Scalar.cmpi .ne v336 c0_i32_208
  let v341 : BitVec 1 := Scalar.andi v340 v337
  let v342 : BitVec 32 := Scalar.addi v336 v335
  let v343 : BitVec 32 := Scalar.select v341 v342 v336
  let c16384_i32_323 : BitVec 32 := 16384#32
  let v532 : BitVec 32 := Scalar.muli v343 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c4096_i32_324 : BitVec 32 := 4096#32
  let v534 : BitVec 32 := Scalar.addi v533 c4096_i32_324
  let c0_i32_333 : BitVec 32 := 0#32
  ![v534.toNat, 0]
def k0_off71 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c4_i32_205 : BitVec 32 := 4#32
  let c0_i32_206 : BitVec 32 := 0#32
  let v334 : BitVec 1 := Scalar.cmpi .eq c4_i32_205 c0_i32_206
  let c1_i32_207 : BitVec 32 := 1#32
  let v335 : BitVec 32 := Scalar.select v334 c1_i32_207 c4_i32_205
  let v336 : BitVec 32 := Scalar.remsi v331 v335
  let c0_i32_209 : BitVec 32 := 0#32
  let v338 : BitVec 1 := Scalar.cmpi .slt v336 c0_i32_209
  let c0_i32_210 : BitVec 32 := 0#32
  let v339 : BitVec 1 := Scalar.cmpi .slt v335 c0_i32_210
  let v340 : BitVec 1 := Scalar.xori v338 v339
  let c0_i32_208 : BitVec 32 := 0#32
  let v337 : BitVec 1 := Scalar.cmpi .ne v336 c0_i32_208
  let v341 : BitVec 1 := Scalar.andi v340 v337
  let v342 : BitVec 32 := Scalar.addi v336 v335
  let v343 : BitVec 32 := Scalar.select v341 v342 v336
  let c16384_i32_335 : BitVec 32 := 16384#32
  let v545 : BitVec 32 := Scalar.muli v343 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c4096_i32_336 : BitVec 32 := 4096#32
  let v547 : BitVec 32 := Scalar.addi v546 c4096_i32_336
  let c0_i32_344 : BitVec 32 := 0#32
  ![v547.toNat, 0]
def k0_cond58 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c3_i32_218 : BitVec 32 := 3#32
  let v355 : BitVec 1 := Scalar.cmpi .sle v333 c3_i32_218
  let v382 : BitVec 32 := Scalar.extui v355
  let c0_i32_234 : BitVec 32 := 0#32
  let v383 : BitVec 1 := Scalar.cmpi .ne v382 c0_i32_234
  v383

def k0_off72 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c4_i32_211 : BitVec 32 := 4#32
  let c0_i32_212 : BitVec 32 := 0#32
  let v344 : BitVec 1 := Scalar.cmpi .eq c4_i32_211 c0_i32_212
  let c1_i32_213 : BitVec 32 := 1#32
  let v345 : BitVec 32 := Scalar.select v344 c1_i32_213 c4_i32_211
  let v346 : BitVec 32 := Scalar.remsi v333 v345
  let c0_i32_215 : BitVec 32 := 0#32
  let v348 : BitVec 1 := Scalar.cmpi .slt v346 c0_i32_215
  let c0_i32_216 : BitVec 32 := 0#32
  let v349 : BitVec 1 := Scalar.cmpi .slt v345 c0_i32_216
  let v350 : BitVec 1 := Scalar.xori v348 v349
  let c0_i32_214 : BitVec 32 := 0#32
  let v347 : BitVec 1 := Scalar.cmpi .ne v346 c0_i32_214
  let v351 : BitVec 1 := Scalar.andi v350 v347
  let v352 : BitVec 32 := Scalar.addi v346 v345
  let v353 : BitVec 32 := Scalar.select v351 v352 v346
  let c16384_i32_323 : BitVec 32 := 16384#32
  let v532 : BitVec 32 := Scalar.muli v353 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c4096_i32_324 : BitVec 32 := 4096#32
  let v534 : BitVec 32 := Scalar.addi v533 c4096_i32_324
  let c0_i32_333 : BitVec 32 := 0#32
  ![v534.toNat, 0]
def k0_off73 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c4_i32_211 : BitVec 32 := 4#32
  let c0_i32_212 : BitVec 32 := 0#32
  let v344 : BitVec 1 := Scalar.cmpi .eq c4_i32_211 c0_i32_212
  let c1_i32_213 : BitVec 32 := 1#32
  let v345 : BitVec 32 := Scalar.select v344 c1_i32_213 c4_i32_211
  let v346 : BitVec 32 := Scalar.remsi v333 v345
  let c0_i32_215 : BitVec 32 := 0#32
  let v348 : BitVec 1 := Scalar.cmpi .slt v346 c0_i32_215
  let c0_i32_216 : BitVec 32 := 0#32
  let v349 : BitVec 1 := Scalar.cmpi .slt v345 c0_i32_216
  let v350 : BitVec 1 := Scalar.xori v348 v349
  let c0_i32_214 : BitVec 32 := 0#32
  let v347 : BitVec 1 := Scalar.cmpi .ne v346 c0_i32_214
  let v351 : BitVec 1 := Scalar.andi v350 v347
  let v352 : BitVec 32 := Scalar.addi v346 v345
  let v353 : BitVec 32 := Scalar.select v351 v352 v346
  let c16384_i32_335 : BitVec 32 := 16384#32
  let v545 : BitVec 32 := Scalar.muli v353 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c4096_i32_336 : BitVec 32 := 4096#32
  let v547 : BitVec 32 := Scalar.addi v546 c4096_i32_336
  let c0_i32_344 : BitVec 32 := 0#32
  ![v547.toNat, 0]
def k0_cond59 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_219 : BitVec 32 := 3#32
  let v356 : BitVec 1 := Scalar.cmpi .slt v8 c3_i32_219
  let c0_i32_220 : BitVec 32 := 0#32
  let v357 : BitVec 32 := Scalar.subi v8 c0_i32_220
  let c0_i32_221 : BitVec 32 := 0#32
  let v358 : BitVec 1 := Scalar.cmpi .sge v357 c0_i32_221
  let v359 : BitVec 1 := Scalar.andi v356 v358
  let v384 : BitVec 32 := Scalar.extui v359
  let c0_i32_235 : BitVec 32 := 0#32
  let v385 : BitVec 1 := Scalar.cmpi .ne v384 c0_i32_235
  v385

def k0_off74 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c4096_i32 : BitVec 32 := 4096#32
  let v530 : BitVec 32 := Scalar.addi v529 c4096_i32
  let c0_i32_331 : BitVec 32 := 0#32
  ![v530.toNat, 0]
def k0_cond60 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_222 : BitVec 32 := 0#32
  let v360 : BitVec 1 := Scalar.cmpi .sgt v8 c0_i32_222
  let c0_i32_223 : BitVec 32 := 0#32
  let v361 : BitVec 32 := Scalar.addi v8 c0_i32_223
  let c3_i32_224 : BitVec 32 := 3#32
  let v362 : BitVec 1 := Scalar.cmpi .sle v361 c3_i32_224
  let v363 : BitVec 1 := Scalar.andi v360 v362
  let v386 : BitVec 32 := Scalar.extui v363
  let c0_i32_236 : BitVec 32 := 0#32
  let v387 : BitVec 1 := Scalar.cmpi .ne v386 c0_i32_236
  v387

def k0_off75 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c4096_i32 : BitVec 32 := 4096#32
  let v530 : BitVec 32 := Scalar.addi v529 c4096_i32
  let c0_i32_331 : BitVec 32 := 0#32
  ![v530.toNat, 0]
def k0_cond61 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c0_i32_217 : BitVec 32 := 0#32
  let v354 : BitVec 1 := Scalar.cmpi .sge v331 c0_i32_217
  let v388 : BitVec 32 := Scalar.extui v354
  let c0_i32_237 : BitVec 32 := 0#32
  let v389 : BitVec 1 := Scalar.cmpi .ne v388 c0_i32_237
  v389

def k0_off76 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c4_i32_205 : BitVec 32 := 4#32
  let c0_i32_206 : BitVec 32 := 0#32
  let v334 : BitVec 1 := Scalar.cmpi .eq c4_i32_205 c0_i32_206
  let c1_i32_207 : BitVec 32 := 1#32
  let v335 : BitVec 32 := Scalar.select v334 c1_i32_207 c4_i32_205
  let v336 : BitVec 32 := Scalar.remsi v331 v335
  let c0_i32_209 : BitVec 32 := 0#32
  let v338 : BitVec 1 := Scalar.cmpi .slt v336 c0_i32_209
  let c0_i32_210 : BitVec 32 := 0#32
  let v339 : BitVec 1 := Scalar.cmpi .slt v335 c0_i32_210
  let v340 : BitVec 1 := Scalar.xori v338 v339
  let c0_i32_208 : BitVec 32 := 0#32
  let v337 : BitVec 1 := Scalar.cmpi .ne v336 c0_i32_208
  let v341 : BitVec 1 := Scalar.andi v340 v337
  let v342 : BitVec 32 := Scalar.addi v336 v335
  let v343 : BitVec 32 := Scalar.select v341 v342 v336
  let c16384_i32_323 : BitVec 32 := 16384#32
  let v532 : BitVec 32 := Scalar.muli v343 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c6144_i32_324 : BitVec 32 := 6144#32
  let v534 : BitVec 32 := Scalar.addi v533 c6144_i32_324
  let c0_i32_333 : BitVec 32 := 0#32
  ![v534.toNat, 0]
def k0_off77 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_201 : BitVec 32 := 1#32
  let v330 : BitVec 32 := Scalar.subi v8 c1_i32_201
  let c0_i32_202 : BitVec 32 := 0#32
  let v331 : BitVec 32 := Scalar.subi v330 c0_i32_202
  let c4_i32_205 : BitVec 32 := 4#32
  let c0_i32_206 : BitVec 32 := 0#32
  let v334 : BitVec 1 := Scalar.cmpi .eq c4_i32_205 c0_i32_206
  let c1_i32_207 : BitVec 32 := 1#32
  let v335 : BitVec 32 := Scalar.select v334 c1_i32_207 c4_i32_205
  let v336 : BitVec 32 := Scalar.remsi v331 v335
  let c0_i32_209 : BitVec 32 := 0#32
  let v338 : BitVec 1 := Scalar.cmpi .slt v336 c0_i32_209
  let c0_i32_210 : BitVec 32 := 0#32
  let v339 : BitVec 1 := Scalar.cmpi .slt v335 c0_i32_210
  let v340 : BitVec 1 := Scalar.xori v338 v339
  let c0_i32_208 : BitVec 32 := 0#32
  let v337 : BitVec 1 := Scalar.cmpi .ne v336 c0_i32_208
  let v341 : BitVec 1 := Scalar.andi v340 v337
  let v342 : BitVec 32 := Scalar.addi v336 v335
  let v343 : BitVec 32 := Scalar.select v341 v342 v336
  let c16384_i32_335 : BitVec 32 := 16384#32
  let v545 : BitVec 32 := Scalar.muli v343 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c6144_i32_336 : BitVec 32 := 6144#32
  let v547 : BitVec 32 := Scalar.addi v546 c6144_i32_336
  let c0_i32_344 : BitVec 32 := 0#32
  ![v547.toNat, 0]
def k0_cond62 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c3_i32_218 : BitVec 32 := 3#32
  let v355 : BitVec 1 := Scalar.cmpi .sle v333 c3_i32_218
  let v390 : BitVec 32 := Scalar.extui v355
  let c0_i32_238 : BitVec 32 := 0#32
  let v391 : BitVec 1 := Scalar.cmpi .ne v390 c0_i32_238
  v391

def k0_off78 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c4_i32_211 : BitVec 32 := 4#32
  let c0_i32_212 : BitVec 32 := 0#32
  let v344 : BitVec 1 := Scalar.cmpi .eq c4_i32_211 c0_i32_212
  let c1_i32_213 : BitVec 32 := 1#32
  let v345 : BitVec 32 := Scalar.select v344 c1_i32_213 c4_i32_211
  let v346 : BitVec 32 := Scalar.remsi v333 v345
  let c0_i32_215 : BitVec 32 := 0#32
  let v348 : BitVec 1 := Scalar.cmpi .slt v346 c0_i32_215
  let c0_i32_216 : BitVec 32 := 0#32
  let v349 : BitVec 1 := Scalar.cmpi .slt v345 c0_i32_216
  let v350 : BitVec 1 := Scalar.xori v348 v349
  let c0_i32_214 : BitVec 32 := 0#32
  let v347 : BitVec 1 := Scalar.cmpi .ne v346 c0_i32_214
  let v351 : BitVec 1 := Scalar.andi v350 v347
  let v352 : BitVec 32 := Scalar.addi v346 v345
  let v353 : BitVec 32 := Scalar.select v351 v352 v346
  let c16384_i32_323 : BitVec 32 := 16384#32
  let v532 : BitVec 32 := Scalar.muli v353 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c6144_i32_324 : BitVec 32 := 6144#32
  let v534 : BitVec 32 := Scalar.addi v533 c6144_i32_324
  let c0_i32_333 : BitVec 32 := 0#32
  ![v534.toNat, 0]
def k0_off79 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_203 : BitVec 32 := 1#32
  let v332 : BitVec 32 := Scalar.addi v8 c1_i32_203
  let c0_i32_204 : BitVec 32 := 0#32
  let v333 : BitVec 32 := Scalar.addi v332 c0_i32_204
  let c4_i32_211 : BitVec 32 := 4#32
  let c0_i32_212 : BitVec 32 := 0#32
  let v344 : BitVec 1 := Scalar.cmpi .eq c4_i32_211 c0_i32_212
  let c1_i32_213 : BitVec 32 := 1#32
  let v345 : BitVec 32 := Scalar.select v344 c1_i32_213 c4_i32_211
  let v346 : BitVec 32 := Scalar.remsi v333 v345
  let c0_i32_215 : BitVec 32 := 0#32
  let v348 : BitVec 1 := Scalar.cmpi .slt v346 c0_i32_215
  let c0_i32_216 : BitVec 32 := 0#32
  let v349 : BitVec 1 := Scalar.cmpi .slt v345 c0_i32_216
  let v350 : BitVec 1 := Scalar.xori v348 v349
  let c0_i32_214 : BitVec 32 := 0#32
  let v347 : BitVec 1 := Scalar.cmpi .ne v346 c0_i32_214
  let v351 : BitVec 1 := Scalar.andi v350 v347
  let v352 : BitVec 32 := Scalar.addi v346 v345
  let v353 : BitVec 32 := Scalar.select v351 v352 v346
  let c16384_i32_335 : BitVec 32 := 16384#32
  let v545 : BitVec 32 := Scalar.muli v353 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c6144_i32_336 : BitVec 32 := 6144#32
  let v547 : BitVec 32 := Scalar.addi v546 c6144_i32_336
  let c0_i32_344 : BitVec 32 := 0#32
  ![v547.toNat, 0]
def k0_cond63 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_219 : BitVec 32 := 3#32
  let v356 : BitVec 1 := Scalar.cmpi .slt v8 c3_i32_219
  let c0_i32_220 : BitVec 32 := 0#32
  let v357 : BitVec 32 := Scalar.subi v8 c0_i32_220
  let c0_i32_221 : BitVec 32 := 0#32
  let v358 : BitVec 1 := Scalar.cmpi .sge v357 c0_i32_221
  let v359 : BitVec 1 := Scalar.andi v356 v358
  let v392 : BitVec 32 := Scalar.extui v359
  let c0_i32_239 : BitVec 32 := 0#32
  let v393 : BitVec 1 := Scalar.cmpi .ne v392 c0_i32_239
  v393

def k0_off80 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c6144_i32 : BitVec 32 := 6144#32
  let v530 : BitVec 32 := Scalar.addi v529 c6144_i32
  let c0_i32_331 : BitVec 32 := 0#32
  ![v530.toNat, 0]
def k0_cond64 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_222 : BitVec 32 := 0#32
  let v360 : BitVec 1 := Scalar.cmpi .sgt v8 c0_i32_222
  let c0_i32_223 : BitVec 32 := 0#32
  let v361 : BitVec 32 := Scalar.addi v8 c0_i32_223
  let c3_i32_224 : BitVec 32 := 3#32
  let v362 : BitVec 1 := Scalar.cmpi .sle v361 c3_i32_224
  let v363 : BitVec 1 := Scalar.andi v360 v362
  let v394 : BitVec 32 := Scalar.extui v363
  let c0_i32_240 : BitVec 32 := 0#32
  let v395 : BitVec 1 := Scalar.cmpi .ne v394 c0_i32_240
  v395

def k0_off81 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c6144_i32 : BitVec 32 := 6144#32
  let v530 : BitVec 32 := Scalar.addi v529 c6144_i32
  let c0_i32_331 : BitVec 32 := 0#32
  ![v530.toNat, 0]
def k0_cond65 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c0_i32_257 : BitVec 32 := 0#32
  let v420 : BitVec 1 := Scalar.cmpi .sge v397 c0_i32_257
  let v430 : BitVec 32 := Scalar.extui v420
  let c0_i32_265 : BitVec 32 := 0#32
  let v431 : BitVec 1 := Scalar.cmpi .ne v430 c0_i32_265
  v431

def k0_off82 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c4_i32_245 : BitVec 32 := 4#32
  let c0_i32_246 : BitVec 32 := 0#32
  let v400 : BitVec 1 := Scalar.cmpi .eq c4_i32_245 c0_i32_246
  let c1_i32_247 : BitVec 32 := 1#32
  let v401 : BitVec 32 := Scalar.select v400 c1_i32_247 c4_i32_245
  let v402 : BitVec 32 := Scalar.remsi v397 v401
  let c0_i32_249 : BitVec 32 := 0#32
  let v404 : BitVec 1 := Scalar.cmpi .slt v402 c0_i32_249
  let c0_i32_250 : BitVec 32 := 0#32
  let v405 : BitVec 1 := Scalar.cmpi .slt v401 c0_i32_250
  let v406 : BitVec 1 := Scalar.xori v404 v405
  let c0_i32_248 : BitVec 32 := 0#32
  let v403 : BitVec 1 := Scalar.cmpi .ne v402 c0_i32_248
  let v407 : BitVec 1 := Scalar.andi v406 v403
  let v408 : BitVec 32 := Scalar.addi v402 v401
  let v409 : BitVec 32 := Scalar.select v407 v408 v402
  let c16384_i32_324 : BitVec 32 := 16384#32
  let v532 : BitVec 32 := Scalar.muli v409 c16384_i32_324
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c0_i32_325 : BitVec 32 := 0#32
  let v534 : BitVec 32 := Scalar.addi v533 c0_i32_325
  let c0_i32_334 : BitVec 32 := 0#32
  ![v534.toNat, 0]
def k0_off83 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c4_i32_245 : BitVec 32 := 4#32
  let c0_i32_246 : BitVec 32 := 0#32
  let v400 : BitVec 1 := Scalar.cmpi .eq c4_i32_245 c0_i32_246
  let c1_i32_247 : BitVec 32 := 1#32
  let v401 : BitVec 32 := Scalar.select v400 c1_i32_247 c4_i32_245
  let v402 : BitVec 32 := Scalar.remsi v397 v401
  let c0_i32_249 : BitVec 32 := 0#32
  let v404 : BitVec 1 := Scalar.cmpi .slt v402 c0_i32_249
  let c0_i32_250 : BitVec 32 := 0#32
  let v405 : BitVec 1 := Scalar.cmpi .slt v401 c0_i32_250
  let v406 : BitVec 1 := Scalar.xori v404 v405
  let c0_i32_248 : BitVec 32 := 0#32
  let v403 : BitVec 1 := Scalar.cmpi .ne v402 c0_i32_248
  let v407 : BitVec 1 := Scalar.andi v406 v403
  let v408 : BitVec 32 := Scalar.addi v402 v401
  let v409 : BitVec 32 := Scalar.select v407 v408 v402
  let c16384_i32_336 : BitVec 32 := 16384#32
  let v545 : BitVec 32 := Scalar.muli v409 c16384_i32_336
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c0_i32_337 : BitVec 32 := 0#32
  let v547 : BitVec 32 := Scalar.addi v546 c0_i32_337
  let c0_i32_345 : BitVec 32 := 0#32
  ![v547.toNat, 0]
def k0_cond66 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c3_i32_258 : BitVec 32 := 3#32
  let v421 : BitVec 1 := Scalar.cmpi .sle v399 c3_i32_258
  let v432 : BitVec 32 := Scalar.extui v421
  let c0_i32_266 : BitVec 32 := 0#32
  let v433 : BitVec 1 := Scalar.cmpi .ne v432 c0_i32_266
  v433

def k0_off84 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c4_i32_251 : BitVec 32 := 4#32
  let c0_i32_252 : BitVec 32 := 0#32
  let v410 : BitVec 1 := Scalar.cmpi .eq c4_i32_251 c0_i32_252
  let c1_i32_253 : BitVec 32 := 1#32
  let v411 : BitVec 32 := Scalar.select v410 c1_i32_253 c4_i32_251
  let v412 : BitVec 32 := Scalar.remsi v399 v411
  let c0_i32_255 : BitVec 32 := 0#32
  let v414 : BitVec 1 := Scalar.cmpi .slt v412 c0_i32_255
  let c0_i32_256 : BitVec 32 := 0#32
  let v415 : BitVec 1 := Scalar.cmpi .slt v411 c0_i32_256
  let v416 : BitVec 1 := Scalar.xori v414 v415
  let c0_i32_254 : BitVec 32 := 0#32
  let v413 : BitVec 1 := Scalar.cmpi .ne v412 c0_i32_254
  let v417 : BitVec 1 := Scalar.andi v416 v413
  let v418 : BitVec 32 := Scalar.addi v412 v411
  let v419 : BitVec 32 := Scalar.select v417 v418 v412
  let c16384_i32_324 : BitVec 32 := 16384#32
  let v532 : BitVec 32 := Scalar.muli v419 c16384_i32_324
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c0_i32_325 : BitVec 32 := 0#32
  let v534 : BitVec 32 := Scalar.addi v533 c0_i32_325
  let c0_i32_334 : BitVec 32 := 0#32
  ![v534.toNat, 0]
def k0_off85 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c4_i32_251 : BitVec 32 := 4#32
  let c0_i32_252 : BitVec 32 := 0#32
  let v410 : BitVec 1 := Scalar.cmpi .eq c4_i32_251 c0_i32_252
  let c1_i32_253 : BitVec 32 := 1#32
  let v411 : BitVec 32 := Scalar.select v410 c1_i32_253 c4_i32_251
  let v412 : BitVec 32 := Scalar.remsi v399 v411
  let c0_i32_255 : BitVec 32 := 0#32
  let v414 : BitVec 1 := Scalar.cmpi .slt v412 c0_i32_255
  let c0_i32_256 : BitVec 32 := 0#32
  let v415 : BitVec 1 := Scalar.cmpi .slt v411 c0_i32_256
  let v416 : BitVec 1 := Scalar.xori v414 v415
  let c0_i32_254 : BitVec 32 := 0#32
  let v413 : BitVec 1 := Scalar.cmpi .ne v412 c0_i32_254
  let v417 : BitVec 1 := Scalar.andi v416 v413
  let v418 : BitVec 32 := Scalar.addi v412 v411
  let v419 : BitVec 32 := Scalar.select v417 v418 v412
  let c16384_i32_336 : BitVec 32 := 16384#32
  let v545 : BitVec 32 := Scalar.muli v419 c16384_i32_336
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c0_i32_337 : BitVec 32 := 0#32
  let v547 : BitVec 32 := Scalar.addi v546 c0_i32_337
  let c0_i32_345 : BitVec 32 := 0#32
  ![v547.toNat, 0]
def k0_cond67 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_259 : BitVec 32 := 3#32
  let v422 : BitVec 1 := Scalar.cmpi .slt v8 c3_i32_259
  let c1_i32_260 : BitVec 32 := 1#32
  let v423 : BitVec 32 := Scalar.subi v8 c1_i32_260
  let c0_i32_261 : BitVec 32 := 0#32
  let v424 : BitVec 1 := Scalar.cmpi .sge v423 c0_i32_261
  let v425 : BitVec 1 := Scalar.andi v422 v424
  let v434 : BitVec 32 := Scalar.extui v425
  let c0_i32_267 : BitVec 32 := 0#32
  let v435 : BitVec 1 := Scalar.cmpi .ne v434 c0_i32_267
  v435

def k0_off86 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c0_i32_323 : BitVec 32 := 0#32
  let v530 : BitVec 32 := Scalar.addi v529 c0_i32_323
  let c0_i32_332 : BitVec 32 := 0#32
  ![v530.toNat, 0]
def k0_cond68 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_262 : BitVec 32 := 0#32
  let v426 : BitVec 1 := Scalar.cmpi .sgt v8 c0_i32_262
  let c1_i32_263 : BitVec 32 := 1#32
  let v427 : BitVec 32 := Scalar.addi v8 c1_i32_263
  let c3_i32_264 : BitVec 32 := 3#32
  let v428 : BitVec 1 := Scalar.cmpi .sle v427 c3_i32_264
  let v429 : BitVec 1 := Scalar.andi v426 v428
  let v436 : BitVec 32 := Scalar.extui v429
  let c0_i32_268 : BitVec 32 := 0#32
  let v437 : BitVec 1 := Scalar.cmpi .ne v436 c0_i32_268
  v437

def k0_off87 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c0_i32_323 : BitVec 32 := 0#32
  let v530 : BitVec 32 := Scalar.addi v529 c0_i32_323
  let c0_i32_332 : BitVec 32 := 0#32
  ![v530.toNat, 0]
def k0_cond69 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c0_i32_257 : BitVec 32 := 0#32
  let v420 : BitVec 1 := Scalar.cmpi .sge v397 c0_i32_257
  let v438 : BitVec 32 := Scalar.extui v420
  let c0_i32_269 : BitVec 32 := 0#32
  let v439 : BitVec 1 := Scalar.cmpi .ne v438 c0_i32_269
  v439

def k0_off88 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c4_i32_245 : BitVec 32 := 4#32
  let c0_i32_246 : BitVec 32 := 0#32
  let v400 : BitVec 1 := Scalar.cmpi .eq c4_i32_245 c0_i32_246
  let c1_i32_247 : BitVec 32 := 1#32
  let v401 : BitVec 32 := Scalar.select v400 c1_i32_247 c4_i32_245
  let v402 : BitVec 32 := Scalar.remsi v397 v401
  let c0_i32_249 : BitVec 32 := 0#32
  let v404 : BitVec 1 := Scalar.cmpi .slt v402 c0_i32_249
  let c0_i32_250 : BitVec 32 := 0#32
  let v405 : BitVec 1 := Scalar.cmpi .slt v401 c0_i32_250
  let v406 : BitVec 1 := Scalar.xori v404 v405
  let c0_i32_248 : BitVec 32 := 0#32
  let v403 : BitVec 1 := Scalar.cmpi .ne v402 c0_i32_248
  let v407 : BitVec 1 := Scalar.andi v406 v403
  let v408 : BitVec 32 := Scalar.addi v402 v401
  let v409 : BitVec 32 := Scalar.select v407 v408 v402
  let c16384_i32_323 : BitVec 32 := 16384#32
  let v532 : BitVec 32 := Scalar.muli v409 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c2048_i32_324 : BitVec 32 := 2048#32
  let v534 : BitVec 32 := Scalar.addi v533 c2048_i32_324
  let c0_i32_333 : BitVec 32 := 0#32
  ![v534.toNat, 0]
def k0_off89 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c4_i32_245 : BitVec 32 := 4#32
  let c0_i32_246 : BitVec 32 := 0#32
  let v400 : BitVec 1 := Scalar.cmpi .eq c4_i32_245 c0_i32_246
  let c1_i32_247 : BitVec 32 := 1#32
  let v401 : BitVec 32 := Scalar.select v400 c1_i32_247 c4_i32_245
  let v402 : BitVec 32 := Scalar.remsi v397 v401
  let c0_i32_249 : BitVec 32 := 0#32
  let v404 : BitVec 1 := Scalar.cmpi .slt v402 c0_i32_249
  let c0_i32_250 : BitVec 32 := 0#32
  let v405 : BitVec 1 := Scalar.cmpi .slt v401 c0_i32_250
  let v406 : BitVec 1 := Scalar.xori v404 v405
  let c0_i32_248 : BitVec 32 := 0#32
  let v403 : BitVec 1 := Scalar.cmpi .ne v402 c0_i32_248
  let v407 : BitVec 1 := Scalar.andi v406 v403
  let v408 : BitVec 32 := Scalar.addi v402 v401
  let v409 : BitVec 32 := Scalar.select v407 v408 v402
  let c16384_i32_335 : BitVec 32 := 16384#32
  let v545 : BitVec 32 := Scalar.muli v409 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c2048_i32_336 : BitVec 32 := 2048#32
  let v547 : BitVec 32 := Scalar.addi v546 c2048_i32_336
  let c0_i32_344 : BitVec 32 := 0#32
  ![v547.toNat, 0]
def k0_cond70 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c3_i32_258 : BitVec 32 := 3#32
  let v421 : BitVec 1 := Scalar.cmpi .sle v399 c3_i32_258
  let v440 : BitVec 32 := Scalar.extui v421
  let c0_i32_270 : BitVec 32 := 0#32
  let v441 : BitVec 1 := Scalar.cmpi .ne v440 c0_i32_270
  v441

def k0_off90 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c4_i32_251 : BitVec 32 := 4#32
  let c0_i32_252 : BitVec 32 := 0#32
  let v410 : BitVec 1 := Scalar.cmpi .eq c4_i32_251 c0_i32_252
  let c1_i32_253 : BitVec 32 := 1#32
  let v411 : BitVec 32 := Scalar.select v410 c1_i32_253 c4_i32_251
  let v412 : BitVec 32 := Scalar.remsi v399 v411
  let c0_i32_255 : BitVec 32 := 0#32
  let v414 : BitVec 1 := Scalar.cmpi .slt v412 c0_i32_255
  let c0_i32_256 : BitVec 32 := 0#32
  let v415 : BitVec 1 := Scalar.cmpi .slt v411 c0_i32_256
  let v416 : BitVec 1 := Scalar.xori v414 v415
  let c0_i32_254 : BitVec 32 := 0#32
  let v413 : BitVec 1 := Scalar.cmpi .ne v412 c0_i32_254
  let v417 : BitVec 1 := Scalar.andi v416 v413
  let v418 : BitVec 32 := Scalar.addi v412 v411
  let v419 : BitVec 32 := Scalar.select v417 v418 v412
  let c16384_i32_323 : BitVec 32 := 16384#32
  let v532 : BitVec 32 := Scalar.muli v419 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c2048_i32_324 : BitVec 32 := 2048#32
  let v534 : BitVec 32 := Scalar.addi v533 c2048_i32_324
  let c0_i32_333 : BitVec 32 := 0#32
  ![v534.toNat, 0]
def k0_off91 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c4_i32_251 : BitVec 32 := 4#32
  let c0_i32_252 : BitVec 32 := 0#32
  let v410 : BitVec 1 := Scalar.cmpi .eq c4_i32_251 c0_i32_252
  let c1_i32_253 : BitVec 32 := 1#32
  let v411 : BitVec 32 := Scalar.select v410 c1_i32_253 c4_i32_251
  let v412 : BitVec 32 := Scalar.remsi v399 v411
  let c0_i32_255 : BitVec 32 := 0#32
  let v414 : BitVec 1 := Scalar.cmpi .slt v412 c0_i32_255
  let c0_i32_256 : BitVec 32 := 0#32
  let v415 : BitVec 1 := Scalar.cmpi .slt v411 c0_i32_256
  let v416 : BitVec 1 := Scalar.xori v414 v415
  let c0_i32_254 : BitVec 32 := 0#32
  let v413 : BitVec 1 := Scalar.cmpi .ne v412 c0_i32_254
  let v417 : BitVec 1 := Scalar.andi v416 v413
  let v418 : BitVec 32 := Scalar.addi v412 v411
  let v419 : BitVec 32 := Scalar.select v417 v418 v412
  let c16384_i32_335 : BitVec 32 := 16384#32
  let v545 : BitVec 32 := Scalar.muli v419 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c2048_i32_336 : BitVec 32 := 2048#32
  let v547 : BitVec 32 := Scalar.addi v546 c2048_i32_336
  let c0_i32_344 : BitVec 32 := 0#32
  ![v547.toNat, 0]
def k0_cond71 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_259 : BitVec 32 := 3#32
  let v422 : BitVec 1 := Scalar.cmpi .slt v8 c3_i32_259
  let c1_i32_260 : BitVec 32 := 1#32
  let v423 : BitVec 32 := Scalar.subi v8 c1_i32_260
  let c0_i32_261 : BitVec 32 := 0#32
  let v424 : BitVec 1 := Scalar.cmpi .sge v423 c0_i32_261
  let v425 : BitVec 1 := Scalar.andi v422 v424
  let v442 : BitVec 32 := Scalar.extui v425
  let c0_i32_271 : BitVec 32 := 0#32
  let v443 : BitVec 1 := Scalar.cmpi .ne v442 c0_i32_271
  v443

def k0_off92 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c2048_i32 : BitVec 32 := 2048#32
  let v530 : BitVec 32 := Scalar.addi v529 c2048_i32
  let c0_i32_331 : BitVec 32 := 0#32
  ![v530.toNat, 0]
def k0_cond72 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_262 : BitVec 32 := 0#32
  let v426 : BitVec 1 := Scalar.cmpi .sgt v8 c0_i32_262
  let c1_i32_263 : BitVec 32 := 1#32
  let v427 : BitVec 32 := Scalar.addi v8 c1_i32_263
  let c3_i32_264 : BitVec 32 := 3#32
  let v428 : BitVec 1 := Scalar.cmpi .sle v427 c3_i32_264
  let v429 : BitVec 1 := Scalar.andi v426 v428
  let v444 : BitVec 32 := Scalar.extui v429
  let c0_i32_272 : BitVec 32 := 0#32
  let v445 : BitVec 1 := Scalar.cmpi .ne v444 c0_i32_272
  v445

def k0_off93 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c2048_i32 : BitVec 32 := 2048#32
  let v530 : BitVec 32 := Scalar.addi v529 c2048_i32
  let c0_i32_331 : BitVec 32 := 0#32
  ![v530.toNat, 0]
def k0_cond73 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c0_i32_257 : BitVec 32 := 0#32
  let v420 : BitVec 1 := Scalar.cmpi .sge v397 c0_i32_257
  let v446 : BitVec 32 := Scalar.extui v420
  let c0_i32_273 : BitVec 32 := 0#32
  let v447 : BitVec 1 := Scalar.cmpi .ne v446 c0_i32_273
  v447

def k0_off94 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c4_i32_245 : BitVec 32 := 4#32
  let c0_i32_246 : BitVec 32 := 0#32
  let v400 : BitVec 1 := Scalar.cmpi .eq c4_i32_245 c0_i32_246
  let c1_i32_247 : BitVec 32 := 1#32
  let v401 : BitVec 32 := Scalar.select v400 c1_i32_247 c4_i32_245
  let v402 : BitVec 32 := Scalar.remsi v397 v401
  let c0_i32_249 : BitVec 32 := 0#32
  let v404 : BitVec 1 := Scalar.cmpi .slt v402 c0_i32_249
  let c0_i32_250 : BitVec 32 := 0#32
  let v405 : BitVec 1 := Scalar.cmpi .slt v401 c0_i32_250
  let v406 : BitVec 1 := Scalar.xori v404 v405
  let c0_i32_248 : BitVec 32 := 0#32
  let v403 : BitVec 1 := Scalar.cmpi .ne v402 c0_i32_248
  let v407 : BitVec 1 := Scalar.andi v406 v403
  let v408 : BitVec 32 := Scalar.addi v402 v401
  let v409 : BitVec 32 := Scalar.select v407 v408 v402
  let c16384_i32_323 : BitVec 32 := 16384#32
  let v532 : BitVec 32 := Scalar.muli v409 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c4096_i32_324 : BitVec 32 := 4096#32
  let v534 : BitVec 32 := Scalar.addi v533 c4096_i32_324
  let c0_i32_333 : BitVec 32 := 0#32
  ![v534.toNat, 0]
def k0_off95 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c4_i32_245 : BitVec 32 := 4#32
  let c0_i32_246 : BitVec 32 := 0#32
  let v400 : BitVec 1 := Scalar.cmpi .eq c4_i32_245 c0_i32_246
  let c1_i32_247 : BitVec 32 := 1#32
  let v401 : BitVec 32 := Scalar.select v400 c1_i32_247 c4_i32_245
  let v402 : BitVec 32 := Scalar.remsi v397 v401
  let c0_i32_249 : BitVec 32 := 0#32
  let v404 : BitVec 1 := Scalar.cmpi .slt v402 c0_i32_249
  let c0_i32_250 : BitVec 32 := 0#32
  let v405 : BitVec 1 := Scalar.cmpi .slt v401 c0_i32_250
  let v406 : BitVec 1 := Scalar.xori v404 v405
  let c0_i32_248 : BitVec 32 := 0#32
  let v403 : BitVec 1 := Scalar.cmpi .ne v402 c0_i32_248
  let v407 : BitVec 1 := Scalar.andi v406 v403
  let v408 : BitVec 32 := Scalar.addi v402 v401
  let v409 : BitVec 32 := Scalar.select v407 v408 v402
  let c16384_i32_335 : BitVec 32 := 16384#32
  let v545 : BitVec 32 := Scalar.muli v409 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c4096_i32_336 : BitVec 32 := 4096#32
  let v547 : BitVec 32 := Scalar.addi v546 c4096_i32_336
  let c0_i32_344 : BitVec 32 := 0#32
  ![v547.toNat, 0]
def k0_cond74 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c3_i32_258 : BitVec 32 := 3#32
  let v421 : BitVec 1 := Scalar.cmpi .sle v399 c3_i32_258
  let v448 : BitVec 32 := Scalar.extui v421
  let c0_i32_274 : BitVec 32 := 0#32
  let v449 : BitVec 1 := Scalar.cmpi .ne v448 c0_i32_274
  v449

def k0_off96 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c4_i32_251 : BitVec 32 := 4#32
  let c0_i32_252 : BitVec 32 := 0#32
  let v410 : BitVec 1 := Scalar.cmpi .eq c4_i32_251 c0_i32_252
  let c1_i32_253 : BitVec 32 := 1#32
  let v411 : BitVec 32 := Scalar.select v410 c1_i32_253 c4_i32_251
  let v412 : BitVec 32 := Scalar.remsi v399 v411
  let c0_i32_255 : BitVec 32 := 0#32
  let v414 : BitVec 1 := Scalar.cmpi .slt v412 c0_i32_255
  let c0_i32_256 : BitVec 32 := 0#32
  let v415 : BitVec 1 := Scalar.cmpi .slt v411 c0_i32_256
  let v416 : BitVec 1 := Scalar.xori v414 v415
  let c0_i32_254 : BitVec 32 := 0#32
  let v413 : BitVec 1 := Scalar.cmpi .ne v412 c0_i32_254
  let v417 : BitVec 1 := Scalar.andi v416 v413
  let v418 : BitVec 32 := Scalar.addi v412 v411
  let v419 : BitVec 32 := Scalar.select v417 v418 v412
  let c16384_i32_323 : BitVec 32 := 16384#32
  let v532 : BitVec 32 := Scalar.muli v419 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c4096_i32_324 : BitVec 32 := 4096#32
  let v534 : BitVec 32 := Scalar.addi v533 c4096_i32_324
  let c0_i32_333 : BitVec 32 := 0#32
  ![v534.toNat, 0]
def k0_off97 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c4_i32_251 : BitVec 32 := 4#32
  let c0_i32_252 : BitVec 32 := 0#32
  let v410 : BitVec 1 := Scalar.cmpi .eq c4_i32_251 c0_i32_252
  let c1_i32_253 : BitVec 32 := 1#32
  let v411 : BitVec 32 := Scalar.select v410 c1_i32_253 c4_i32_251
  let v412 : BitVec 32 := Scalar.remsi v399 v411
  let c0_i32_255 : BitVec 32 := 0#32
  let v414 : BitVec 1 := Scalar.cmpi .slt v412 c0_i32_255
  let c0_i32_256 : BitVec 32 := 0#32
  let v415 : BitVec 1 := Scalar.cmpi .slt v411 c0_i32_256
  let v416 : BitVec 1 := Scalar.xori v414 v415
  let c0_i32_254 : BitVec 32 := 0#32
  let v413 : BitVec 1 := Scalar.cmpi .ne v412 c0_i32_254
  let v417 : BitVec 1 := Scalar.andi v416 v413
  let v418 : BitVec 32 := Scalar.addi v412 v411
  let v419 : BitVec 32 := Scalar.select v417 v418 v412
  let c16384_i32_335 : BitVec 32 := 16384#32
  let v545 : BitVec 32 := Scalar.muli v419 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c4096_i32_336 : BitVec 32 := 4096#32
  let v547 : BitVec 32 := Scalar.addi v546 c4096_i32_336
  let c0_i32_344 : BitVec 32 := 0#32
  ![v547.toNat, 0]
def k0_cond75 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_259 : BitVec 32 := 3#32
  let v422 : BitVec 1 := Scalar.cmpi .slt v8 c3_i32_259
  let c1_i32_260 : BitVec 32 := 1#32
  let v423 : BitVec 32 := Scalar.subi v8 c1_i32_260
  let c0_i32_261 : BitVec 32 := 0#32
  let v424 : BitVec 1 := Scalar.cmpi .sge v423 c0_i32_261
  let v425 : BitVec 1 := Scalar.andi v422 v424
  let v450 : BitVec 32 := Scalar.extui v425
  let c0_i32_275 : BitVec 32 := 0#32
  let v451 : BitVec 1 := Scalar.cmpi .ne v450 c0_i32_275
  v451

def k0_off98 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c4096_i32 : BitVec 32 := 4096#32
  let v530 : BitVec 32 := Scalar.addi v529 c4096_i32
  let c0_i32_331 : BitVec 32 := 0#32
  ![v530.toNat, 0]
def k0_cond76 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_262 : BitVec 32 := 0#32
  let v426 : BitVec 1 := Scalar.cmpi .sgt v8 c0_i32_262
  let c1_i32_263 : BitVec 32 := 1#32
  let v427 : BitVec 32 := Scalar.addi v8 c1_i32_263
  let c3_i32_264 : BitVec 32 := 3#32
  let v428 : BitVec 1 := Scalar.cmpi .sle v427 c3_i32_264
  let v429 : BitVec 1 := Scalar.andi v426 v428
  let v452 : BitVec 32 := Scalar.extui v429
  let c0_i32_276 : BitVec 32 := 0#32
  let v453 : BitVec 1 := Scalar.cmpi .ne v452 c0_i32_276
  v453

def k0_off99 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c4096_i32 : BitVec 32 := 4096#32
  let v530 : BitVec 32 := Scalar.addi v529 c4096_i32
  let c0_i32_331 : BitVec 32 := 0#32
  ![v530.toNat, 0]
def k0_cond77 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c0_i32_257 : BitVec 32 := 0#32
  let v420 : BitVec 1 := Scalar.cmpi .sge v397 c0_i32_257
  let v454 : BitVec 32 := Scalar.extui v420
  let c0_i32_277 : BitVec 32 := 0#32
  let v455 : BitVec 1 := Scalar.cmpi .ne v454 c0_i32_277
  v455

def k0_off100 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c4_i32_245 : BitVec 32 := 4#32
  let c0_i32_246 : BitVec 32 := 0#32
  let v400 : BitVec 1 := Scalar.cmpi .eq c4_i32_245 c0_i32_246
  let c1_i32_247 : BitVec 32 := 1#32
  let v401 : BitVec 32 := Scalar.select v400 c1_i32_247 c4_i32_245
  let v402 : BitVec 32 := Scalar.remsi v397 v401
  let c0_i32_249 : BitVec 32 := 0#32
  let v404 : BitVec 1 := Scalar.cmpi .slt v402 c0_i32_249
  let c0_i32_250 : BitVec 32 := 0#32
  let v405 : BitVec 1 := Scalar.cmpi .slt v401 c0_i32_250
  let v406 : BitVec 1 := Scalar.xori v404 v405
  let c0_i32_248 : BitVec 32 := 0#32
  let v403 : BitVec 1 := Scalar.cmpi .ne v402 c0_i32_248
  let v407 : BitVec 1 := Scalar.andi v406 v403
  let v408 : BitVec 32 := Scalar.addi v402 v401
  let v409 : BitVec 32 := Scalar.select v407 v408 v402
  let c16384_i32_323 : BitVec 32 := 16384#32
  let v532 : BitVec 32 := Scalar.muli v409 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c6144_i32_324 : BitVec 32 := 6144#32
  let v534 : BitVec 32 := Scalar.addi v533 c6144_i32_324
  let c0_i32_333 : BitVec 32 := 0#32
  ![v534.toNat, 0]
def k0_off101 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_241 : BitVec 32 := 1#32
  let v396 : BitVec 32 := Scalar.subi v8 c1_i32_241
  let c1_i32_242 : BitVec 32 := 1#32
  let v397 : BitVec 32 := Scalar.subi v396 c1_i32_242
  let c4_i32_245 : BitVec 32 := 4#32
  let c0_i32_246 : BitVec 32 := 0#32
  let v400 : BitVec 1 := Scalar.cmpi .eq c4_i32_245 c0_i32_246
  let c1_i32_247 : BitVec 32 := 1#32
  let v401 : BitVec 32 := Scalar.select v400 c1_i32_247 c4_i32_245
  let v402 : BitVec 32 := Scalar.remsi v397 v401
  let c0_i32_249 : BitVec 32 := 0#32
  let v404 : BitVec 1 := Scalar.cmpi .slt v402 c0_i32_249
  let c0_i32_250 : BitVec 32 := 0#32
  let v405 : BitVec 1 := Scalar.cmpi .slt v401 c0_i32_250
  let v406 : BitVec 1 := Scalar.xori v404 v405
  let c0_i32_248 : BitVec 32 := 0#32
  let v403 : BitVec 1 := Scalar.cmpi .ne v402 c0_i32_248
  let v407 : BitVec 1 := Scalar.andi v406 v403
  let v408 : BitVec 32 := Scalar.addi v402 v401
  let v409 : BitVec 32 := Scalar.select v407 v408 v402
  let c16384_i32_335 : BitVec 32 := 16384#32
  let v545 : BitVec 32 := Scalar.muli v409 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c6144_i32_336 : BitVec 32 := 6144#32
  let v547 : BitVec 32 := Scalar.addi v546 c6144_i32_336
  let c0_i32_344 : BitVec 32 := 0#32
  ![v547.toNat, 0]
def k0_cond78 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c3_i32_258 : BitVec 32 := 3#32
  let v421 : BitVec 1 := Scalar.cmpi .sle v399 c3_i32_258
  let v456 : BitVec 32 := Scalar.extui v421
  let c0_i32_278 : BitVec 32 := 0#32
  let v457 : BitVec 1 := Scalar.cmpi .ne v456 c0_i32_278
  v457

def k0_off102 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c4_i32_251 : BitVec 32 := 4#32
  let c0_i32_252 : BitVec 32 := 0#32
  let v410 : BitVec 1 := Scalar.cmpi .eq c4_i32_251 c0_i32_252
  let c1_i32_253 : BitVec 32 := 1#32
  let v411 : BitVec 32 := Scalar.select v410 c1_i32_253 c4_i32_251
  let v412 : BitVec 32 := Scalar.remsi v399 v411
  let c0_i32_255 : BitVec 32 := 0#32
  let v414 : BitVec 1 := Scalar.cmpi .slt v412 c0_i32_255
  let c0_i32_256 : BitVec 32 := 0#32
  let v415 : BitVec 1 := Scalar.cmpi .slt v411 c0_i32_256
  let v416 : BitVec 1 := Scalar.xori v414 v415
  let c0_i32_254 : BitVec 32 := 0#32
  let v413 : BitVec 1 := Scalar.cmpi .ne v412 c0_i32_254
  let v417 : BitVec 1 := Scalar.andi v416 v413
  let v418 : BitVec 32 := Scalar.addi v412 v411
  let v419 : BitVec 32 := Scalar.select v417 v418 v412
  let c16384_i32_323 : BitVec 32 := 16384#32
  let v532 : BitVec 32 := Scalar.muli v419 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c6144_i32_324 : BitVec 32 := 6144#32
  let v534 : BitVec 32 := Scalar.addi v533 c6144_i32_324
  let c0_i32_333 : BitVec 32 := 0#32
  ![v534.toNat, 0]
def k0_off103 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_243 : BitVec 32 := 1#32
  let v398 : BitVec 32 := Scalar.addi v8 c1_i32_243
  let c1_i32_244 : BitVec 32 := 1#32
  let v399 : BitVec 32 := Scalar.addi v398 c1_i32_244
  let c4_i32_251 : BitVec 32 := 4#32
  let c0_i32_252 : BitVec 32 := 0#32
  let v410 : BitVec 1 := Scalar.cmpi .eq c4_i32_251 c0_i32_252
  let c1_i32_253 : BitVec 32 := 1#32
  let v411 : BitVec 32 := Scalar.select v410 c1_i32_253 c4_i32_251
  let v412 : BitVec 32 := Scalar.remsi v399 v411
  let c0_i32_255 : BitVec 32 := 0#32
  let v414 : BitVec 1 := Scalar.cmpi .slt v412 c0_i32_255
  let c0_i32_256 : BitVec 32 := 0#32
  let v415 : BitVec 1 := Scalar.cmpi .slt v411 c0_i32_256
  let v416 : BitVec 1 := Scalar.xori v414 v415
  let c0_i32_254 : BitVec 32 := 0#32
  let v413 : BitVec 1 := Scalar.cmpi .ne v412 c0_i32_254
  let v417 : BitVec 1 := Scalar.andi v416 v413
  let v418 : BitVec 32 := Scalar.addi v412 v411
  let v419 : BitVec 32 := Scalar.select v417 v418 v412
  let c16384_i32_335 : BitVec 32 := 16384#32
  let v545 : BitVec 32 := Scalar.muli v419 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c6144_i32_336 : BitVec 32 := 6144#32
  let v547 : BitVec 32 := Scalar.addi v546 c6144_i32_336
  let c0_i32_344 : BitVec 32 := 0#32
  ![v547.toNat, 0]
def k0_cond79 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_259 : BitVec 32 := 3#32
  let v422 : BitVec 1 := Scalar.cmpi .slt v8 c3_i32_259
  let c1_i32_260 : BitVec 32 := 1#32
  let v423 : BitVec 32 := Scalar.subi v8 c1_i32_260
  let c0_i32_261 : BitVec 32 := 0#32
  let v424 : BitVec 1 := Scalar.cmpi .sge v423 c0_i32_261
  let v425 : BitVec 1 := Scalar.andi v422 v424
  let v458 : BitVec 32 := Scalar.extui v425
  let c0_i32_279 : BitVec 32 := 0#32
  let v459 : BitVec 1 := Scalar.cmpi .ne v458 c0_i32_279
  v459

def k0_off104 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c6144_i32 : BitVec 32 := 6144#32
  let v530 : BitVec 32 := Scalar.addi v529 c6144_i32
  let c0_i32_331 : BitVec 32 := 0#32
  ![v530.toNat, 0]
def k0_cond80 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_262 : BitVec 32 := 0#32
  let v426 : BitVec 1 := Scalar.cmpi .sgt v8 c0_i32_262
  let c1_i32_263 : BitVec 32 := 1#32
  let v427 : BitVec 32 := Scalar.addi v8 c1_i32_263
  let c3_i32_264 : BitVec 32 := 3#32
  let v428 : BitVec 1 := Scalar.cmpi .sle v427 c3_i32_264
  let v429 : BitVec 1 := Scalar.andi v426 v428
  let v460 : BitVec 32 := Scalar.extui v429
  let c0_i32_280 : BitVec 32 := 0#32
  let v461 : BitVec 1 := Scalar.cmpi .ne v460 c0_i32_280
  v461

def k0_off105 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c6144_i32 : BitVec 32 := 6144#32
  let v530 : BitVec 32 := Scalar.addi v529 c6144_i32
  let c0_i32_331 : BitVec 32 := 0#32
  ![v530.toNat, 0]
def k0_cond81 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c0_i32_297 : BitVec 32 := 0#32
  let v486 : BitVec 1 := Scalar.cmpi .sge v463 c0_i32_297
  let v496 : BitVec 32 := Scalar.extui v486
  let c0_i32_305 : BitVec 32 := 0#32
  let v497 : BitVec 1 := Scalar.cmpi .ne v496 c0_i32_305
  v497

def k0_off106 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c4_i32_285 : BitVec 32 := 4#32
  let c0_i32_286 : BitVec 32 := 0#32
  let v466 : BitVec 1 := Scalar.cmpi .eq c4_i32_285 c0_i32_286
  let c1_i32_287 : BitVec 32 := 1#32
  let v467 : BitVec 32 := Scalar.select v466 c1_i32_287 c4_i32_285
  let v468 : BitVec 32 := Scalar.remsi v463 v467
  let c0_i32_289 : BitVec 32 := 0#32
  let v470 : BitVec 1 := Scalar.cmpi .slt v468 c0_i32_289
  let c0_i32_290 : BitVec 32 := 0#32
  let v471 : BitVec 1 := Scalar.cmpi .slt v467 c0_i32_290
  let v472 : BitVec 1 := Scalar.xori v470 v471
  let c0_i32_288 : BitVec 32 := 0#32
  let v469 : BitVec 1 := Scalar.cmpi .ne v468 c0_i32_288
  let v473 : BitVec 1 := Scalar.andi v472 v469
  let v474 : BitVec 32 := Scalar.addi v468 v467
  let v475 : BitVec 32 := Scalar.select v473 v474 v468
  let c16384_i32_324 : BitVec 32 := 16384#32
  let v532 : BitVec 32 := Scalar.muli v475 c16384_i32_324
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c0_i32_325 : BitVec 32 := 0#32
  let v534 : BitVec 32 := Scalar.addi v533 c0_i32_325
  let c0_i32_334 : BitVec 32 := 0#32
  ![v534.toNat, 0]
def k0_off107 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c4_i32_285 : BitVec 32 := 4#32
  let c0_i32_286 : BitVec 32 := 0#32
  let v466 : BitVec 1 := Scalar.cmpi .eq c4_i32_285 c0_i32_286
  let c1_i32_287 : BitVec 32 := 1#32
  let v467 : BitVec 32 := Scalar.select v466 c1_i32_287 c4_i32_285
  let v468 : BitVec 32 := Scalar.remsi v463 v467
  let c0_i32_289 : BitVec 32 := 0#32
  let v470 : BitVec 1 := Scalar.cmpi .slt v468 c0_i32_289
  let c0_i32_290 : BitVec 32 := 0#32
  let v471 : BitVec 1 := Scalar.cmpi .slt v467 c0_i32_290
  let v472 : BitVec 1 := Scalar.xori v470 v471
  let c0_i32_288 : BitVec 32 := 0#32
  let v469 : BitVec 1 := Scalar.cmpi .ne v468 c0_i32_288
  let v473 : BitVec 1 := Scalar.andi v472 v469
  let v474 : BitVec 32 := Scalar.addi v468 v467
  let v475 : BitVec 32 := Scalar.select v473 v474 v468
  let c16384_i32_336 : BitVec 32 := 16384#32
  let v545 : BitVec 32 := Scalar.muli v475 c16384_i32_336
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c0_i32_337 : BitVec 32 := 0#32
  let v547 : BitVec 32 := Scalar.addi v546 c0_i32_337
  let c0_i32_345 : BitVec 32 := 0#32
  ![v547.toNat, 0]
def k0_cond82 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c3_i32_298 : BitVec 32 := 3#32
  let v487 : BitVec 1 := Scalar.cmpi .sle v465 c3_i32_298
  let v498 : BitVec 32 := Scalar.extui v487
  let c0_i32_306 : BitVec 32 := 0#32
  let v499 : BitVec 1 := Scalar.cmpi .ne v498 c0_i32_306
  v499

def k0_off108 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c4_i32_291 : BitVec 32 := 4#32
  let c0_i32_292 : BitVec 32 := 0#32
  let v476 : BitVec 1 := Scalar.cmpi .eq c4_i32_291 c0_i32_292
  let c1_i32_293 : BitVec 32 := 1#32
  let v477 : BitVec 32 := Scalar.select v476 c1_i32_293 c4_i32_291
  let v478 : BitVec 32 := Scalar.remsi v465 v477
  let c0_i32_295 : BitVec 32 := 0#32
  let v480 : BitVec 1 := Scalar.cmpi .slt v478 c0_i32_295
  let c0_i32_296 : BitVec 32 := 0#32
  let v481 : BitVec 1 := Scalar.cmpi .slt v477 c0_i32_296
  let v482 : BitVec 1 := Scalar.xori v480 v481
  let c0_i32_294 : BitVec 32 := 0#32
  let v479 : BitVec 1 := Scalar.cmpi .ne v478 c0_i32_294
  let v483 : BitVec 1 := Scalar.andi v482 v479
  let v484 : BitVec 32 := Scalar.addi v478 v477
  let v485 : BitVec 32 := Scalar.select v483 v484 v478
  let c16384_i32_324 : BitVec 32 := 16384#32
  let v532 : BitVec 32 := Scalar.muli v485 c16384_i32_324
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c0_i32_325 : BitVec 32 := 0#32
  let v534 : BitVec 32 := Scalar.addi v533 c0_i32_325
  let c0_i32_334 : BitVec 32 := 0#32
  ![v534.toNat, 0]
def k0_off109 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c4_i32_291 : BitVec 32 := 4#32
  let c0_i32_292 : BitVec 32 := 0#32
  let v476 : BitVec 1 := Scalar.cmpi .eq c4_i32_291 c0_i32_292
  let c1_i32_293 : BitVec 32 := 1#32
  let v477 : BitVec 32 := Scalar.select v476 c1_i32_293 c4_i32_291
  let v478 : BitVec 32 := Scalar.remsi v465 v477
  let c0_i32_295 : BitVec 32 := 0#32
  let v480 : BitVec 1 := Scalar.cmpi .slt v478 c0_i32_295
  let c0_i32_296 : BitVec 32 := 0#32
  let v481 : BitVec 1 := Scalar.cmpi .slt v477 c0_i32_296
  let v482 : BitVec 1 := Scalar.xori v480 v481
  let c0_i32_294 : BitVec 32 := 0#32
  let v479 : BitVec 1 := Scalar.cmpi .ne v478 c0_i32_294
  let v483 : BitVec 1 := Scalar.andi v482 v479
  let v484 : BitVec 32 := Scalar.addi v478 v477
  let v485 : BitVec 32 := Scalar.select v483 v484 v478
  let c16384_i32_336 : BitVec 32 := 16384#32
  let v545 : BitVec 32 := Scalar.muli v485 c16384_i32_336
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c0_i32_337 : BitVec 32 := 0#32
  let v547 : BitVec 32 := Scalar.addi v546 c0_i32_337
  let c0_i32_345 : BitVec 32 := 0#32
  ![v547.toNat, 0]
def k0_cond83 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_299 : BitVec 32 := 3#32
  let v488 : BitVec 1 := Scalar.cmpi .slt v8 c3_i32_299
  let c2_i32_300 : BitVec 32 := 2#32
  let v489 : BitVec 32 := Scalar.subi v8 c2_i32_300
  let c0_i32_301 : BitVec 32 := 0#32
  let v490 : BitVec 1 := Scalar.cmpi .sge v489 c0_i32_301
  let v491 : BitVec 1 := Scalar.andi v488 v490
  let v500 : BitVec 32 := Scalar.extui v491
  let c0_i32_307 : BitVec 32 := 0#32
  let v501 : BitVec 1 := Scalar.cmpi .ne v500 c0_i32_307
  v501

def k0_off110 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c0_i32_323 : BitVec 32 := 0#32
  let v530 : BitVec 32 := Scalar.addi v529 c0_i32_323
  let c0_i32_332 : BitVec 32 := 0#32
  ![v530.toNat, 0]
def k0_cond84 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_302 : BitVec 32 := 0#32
  let v492 : BitVec 1 := Scalar.cmpi .sgt v8 c0_i32_302
  let c2_i32_303 : BitVec 32 := 2#32
  let v493 : BitVec 32 := Scalar.addi v8 c2_i32_303
  let c3_i32_304 : BitVec 32 := 3#32
  let v494 : BitVec 1 := Scalar.cmpi .sle v493 c3_i32_304
  let v495 : BitVec 1 := Scalar.andi v492 v494
  let v502 : BitVec 32 := Scalar.extui v495
  let c0_i32_308 : BitVec 32 := 0#32
  let v503 : BitVec 1 := Scalar.cmpi .ne v502 c0_i32_308
  v503

def k0_off111 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c0_i32_323 : BitVec 32 := 0#32
  let v530 : BitVec 32 := Scalar.addi v529 c0_i32_323
  let c0_i32_332 : BitVec 32 := 0#32
  ![v530.toNat, 0]
def k0_cond85 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c0_i32_297 : BitVec 32 := 0#32
  let v486 : BitVec 1 := Scalar.cmpi .sge v463 c0_i32_297
  let v504 : BitVec 32 := Scalar.extui v486
  let c0_i32_309 : BitVec 32 := 0#32
  let v505 : BitVec 1 := Scalar.cmpi .ne v504 c0_i32_309
  v505

def k0_off112 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c4_i32_285 : BitVec 32 := 4#32
  let c0_i32_286 : BitVec 32 := 0#32
  let v466 : BitVec 1 := Scalar.cmpi .eq c4_i32_285 c0_i32_286
  let c1_i32_287 : BitVec 32 := 1#32
  let v467 : BitVec 32 := Scalar.select v466 c1_i32_287 c4_i32_285
  let v468 : BitVec 32 := Scalar.remsi v463 v467
  let c0_i32_289 : BitVec 32 := 0#32
  let v470 : BitVec 1 := Scalar.cmpi .slt v468 c0_i32_289
  let c0_i32_290 : BitVec 32 := 0#32
  let v471 : BitVec 1 := Scalar.cmpi .slt v467 c0_i32_290
  let v472 : BitVec 1 := Scalar.xori v470 v471
  let c0_i32_288 : BitVec 32 := 0#32
  let v469 : BitVec 1 := Scalar.cmpi .ne v468 c0_i32_288
  let v473 : BitVec 1 := Scalar.andi v472 v469
  let v474 : BitVec 32 := Scalar.addi v468 v467
  let v475 : BitVec 32 := Scalar.select v473 v474 v468
  let c16384_i32_323 : BitVec 32 := 16384#32
  let v532 : BitVec 32 := Scalar.muli v475 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c2048_i32_324 : BitVec 32 := 2048#32
  let v534 : BitVec 32 := Scalar.addi v533 c2048_i32_324
  let c0_i32_333 : BitVec 32 := 0#32
  ![v534.toNat, 0]
def k0_off113 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c4_i32_285 : BitVec 32 := 4#32
  let c0_i32_286 : BitVec 32 := 0#32
  let v466 : BitVec 1 := Scalar.cmpi .eq c4_i32_285 c0_i32_286
  let c1_i32_287 : BitVec 32 := 1#32
  let v467 : BitVec 32 := Scalar.select v466 c1_i32_287 c4_i32_285
  let v468 : BitVec 32 := Scalar.remsi v463 v467
  let c0_i32_289 : BitVec 32 := 0#32
  let v470 : BitVec 1 := Scalar.cmpi .slt v468 c0_i32_289
  let c0_i32_290 : BitVec 32 := 0#32
  let v471 : BitVec 1 := Scalar.cmpi .slt v467 c0_i32_290
  let v472 : BitVec 1 := Scalar.xori v470 v471
  let c0_i32_288 : BitVec 32 := 0#32
  let v469 : BitVec 1 := Scalar.cmpi .ne v468 c0_i32_288
  let v473 : BitVec 1 := Scalar.andi v472 v469
  let v474 : BitVec 32 := Scalar.addi v468 v467
  let v475 : BitVec 32 := Scalar.select v473 v474 v468
  let c16384_i32_335 : BitVec 32 := 16384#32
  let v545 : BitVec 32 := Scalar.muli v475 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c2048_i32_336 : BitVec 32 := 2048#32
  let v547 : BitVec 32 := Scalar.addi v546 c2048_i32_336
  let c0_i32_344 : BitVec 32 := 0#32
  ![v547.toNat, 0]
def k0_cond86 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c3_i32_298 : BitVec 32 := 3#32
  let v487 : BitVec 1 := Scalar.cmpi .sle v465 c3_i32_298
  let v506 : BitVec 32 := Scalar.extui v487
  let c0_i32_310 : BitVec 32 := 0#32
  let v507 : BitVec 1 := Scalar.cmpi .ne v506 c0_i32_310
  v507

def k0_off114 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c4_i32_291 : BitVec 32 := 4#32
  let c0_i32_292 : BitVec 32 := 0#32
  let v476 : BitVec 1 := Scalar.cmpi .eq c4_i32_291 c0_i32_292
  let c1_i32_293 : BitVec 32 := 1#32
  let v477 : BitVec 32 := Scalar.select v476 c1_i32_293 c4_i32_291
  let v478 : BitVec 32 := Scalar.remsi v465 v477
  let c0_i32_295 : BitVec 32 := 0#32
  let v480 : BitVec 1 := Scalar.cmpi .slt v478 c0_i32_295
  let c0_i32_296 : BitVec 32 := 0#32
  let v481 : BitVec 1 := Scalar.cmpi .slt v477 c0_i32_296
  let v482 : BitVec 1 := Scalar.xori v480 v481
  let c0_i32_294 : BitVec 32 := 0#32
  let v479 : BitVec 1 := Scalar.cmpi .ne v478 c0_i32_294
  let v483 : BitVec 1 := Scalar.andi v482 v479
  let v484 : BitVec 32 := Scalar.addi v478 v477
  let v485 : BitVec 32 := Scalar.select v483 v484 v478
  let c16384_i32_323 : BitVec 32 := 16384#32
  let v532 : BitVec 32 := Scalar.muli v485 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c2048_i32_324 : BitVec 32 := 2048#32
  let v534 : BitVec 32 := Scalar.addi v533 c2048_i32_324
  let c0_i32_333 : BitVec 32 := 0#32
  ![v534.toNat, 0]
def k0_off115 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c4_i32_291 : BitVec 32 := 4#32
  let c0_i32_292 : BitVec 32 := 0#32
  let v476 : BitVec 1 := Scalar.cmpi .eq c4_i32_291 c0_i32_292
  let c1_i32_293 : BitVec 32 := 1#32
  let v477 : BitVec 32 := Scalar.select v476 c1_i32_293 c4_i32_291
  let v478 : BitVec 32 := Scalar.remsi v465 v477
  let c0_i32_295 : BitVec 32 := 0#32
  let v480 : BitVec 1 := Scalar.cmpi .slt v478 c0_i32_295
  let c0_i32_296 : BitVec 32 := 0#32
  let v481 : BitVec 1 := Scalar.cmpi .slt v477 c0_i32_296
  let v482 : BitVec 1 := Scalar.xori v480 v481
  let c0_i32_294 : BitVec 32 := 0#32
  let v479 : BitVec 1 := Scalar.cmpi .ne v478 c0_i32_294
  let v483 : BitVec 1 := Scalar.andi v482 v479
  let v484 : BitVec 32 := Scalar.addi v478 v477
  let v485 : BitVec 32 := Scalar.select v483 v484 v478
  let c16384_i32_335 : BitVec 32 := 16384#32
  let v545 : BitVec 32 := Scalar.muli v485 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c2048_i32_336 : BitVec 32 := 2048#32
  let v547 : BitVec 32 := Scalar.addi v546 c2048_i32_336
  let c0_i32_344 : BitVec 32 := 0#32
  ![v547.toNat, 0]
def k0_cond87 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_299 : BitVec 32 := 3#32
  let v488 : BitVec 1 := Scalar.cmpi .slt v8 c3_i32_299
  let c2_i32_300 : BitVec 32 := 2#32
  let v489 : BitVec 32 := Scalar.subi v8 c2_i32_300
  let c0_i32_301 : BitVec 32 := 0#32
  let v490 : BitVec 1 := Scalar.cmpi .sge v489 c0_i32_301
  let v491 : BitVec 1 := Scalar.andi v488 v490
  let v508 : BitVec 32 := Scalar.extui v491
  let c0_i32_311 : BitVec 32 := 0#32
  let v509 : BitVec 1 := Scalar.cmpi .ne v508 c0_i32_311
  v509

def k0_off116 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c2048_i32 : BitVec 32 := 2048#32
  let v530 : BitVec 32 := Scalar.addi v529 c2048_i32
  let c0_i32_331 : BitVec 32 := 0#32
  ![v530.toNat, 0]
def k0_cond88 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_302 : BitVec 32 := 0#32
  let v492 : BitVec 1 := Scalar.cmpi .sgt v8 c0_i32_302
  let c2_i32_303 : BitVec 32 := 2#32
  let v493 : BitVec 32 := Scalar.addi v8 c2_i32_303
  let c3_i32_304 : BitVec 32 := 3#32
  let v494 : BitVec 1 := Scalar.cmpi .sle v493 c3_i32_304
  let v495 : BitVec 1 := Scalar.andi v492 v494
  let v510 : BitVec 32 := Scalar.extui v495
  let c0_i32_312 : BitVec 32 := 0#32
  let v511 : BitVec 1 := Scalar.cmpi .ne v510 c0_i32_312
  v511

def k0_off117 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c2048_i32 : BitVec 32 := 2048#32
  let v530 : BitVec 32 := Scalar.addi v529 c2048_i32
  let c0_i32_331 : BitVec 32 := 0#32
  ![v530.toNat, 0]
def k0_cond89 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c0_i32_297 : BitVec 32 := 0#32
  let v486 : BitVec 1 := Scalar.cmpi .sge v463 c0_i32_297
  let v512 : BitVec 32 := Scalar.extui v486
  let c0_i32_313 : BitVec 32 := 0#32
  let v513 : BitVec 1 := Scalar.cmpi .ne v512 c0_i32_313
  v513

def k0_off118 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c4_i32_285 : BitVec 32 := 4#32
  let c0_i32_286 : BitVec 32 := 0#32
  let v466 : BitVec 1 := Scalar.cmpi .eq c4_i32_285 c0_i32_286
  let c1_i32_287 : BitVec 32 := 1#32
  let v467 : BitVec 32 := Scalar.select v466 c1_i32_287 c4_i32_285
  let v468 : BitVec 32 := Scalar.remsi v463 v467
  let c0_i32_289 : BitVec 32 := 0#32
  let v470 : BitVec 1 := Scalar.cmpi .slt v468 c0_i32_289
  let c0_i32_290 : BitVec 32 := 0#32
  let v471 : BitVec 1 := Scalar.cmpi .slt v467 c0_i32_290
  let v472 : BitVec 1 := Scalar.xori v470 v471
  let c0_i32_288 : BitVec 32 := 0#32
  let v469 : BitVec 1 := Scalar.cmpi .ne v468 c0_i32_288
  let v473 : BitVec 1 := Scalar.andi v472 v469
  let v474 : BitVec 32 := Scalar.addi v468 v467
  let v475 : BitVec 32 := Scalar.select v473 v474 v468
  let c16384_i32_323 : BitVec 32 := 16384#32
  let v532 : BitVec 32 := Scalar.muli v475 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c4096_i32_324 : BitVec 32 := 4096#32
  let v534 : BitVec 32 := Scalar.addi v533 c4096_i32_324
  let c0_i32_333 : BitVec 32 := 0#32
  ![v534.toNat, 0]
def k0_off119 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c4_i32_285 : BitVec 32 := 4#32
  let c0_i32_286 : BitVec 32 := 0#32
  let v466 : BitVec 1 := Scalar.cmpi .eq c4_i32_285 c0_i32_286
  let c1_i32_287 : BitVec 32 := 1#32
  let v467 : BitVec 32 := Scalar.select v466 c1_i32_287 c4_i32_285
  let v468 : BitVec 32 := Scalar.remsi v463 v467
  let c0_i32_289 : BitVec 32 := 0#32
  let v470 : BitVec 1 := Scalar.cmpi .slt v468 c0_i32_289
  let c0_i32_290 : BitVec 32 := 0#32
  let v471 : BitVec 1 := Scalar.cmpi .slt v467 c0_i32_290
  let v472 : BitVec 1 := Scalar.xori v470 v471
  let c0_i32_288 : BitVec 32 := 0#32
  let v469 : BitVec 1 := Scalar.cmpi .ne v468 c0_i32_288
  let v473 : BitVec 1 := Scalar.andi v472 v469
  let v474 : BitVec 32 := Scalar.addi v468 v467
  let v475 : BitVec 32 := Scalar.select v473 v474 v468
  let c16384_i32_335 : BitVec 32 := 16384#32
  let v545 : BitVec 32 := Scalar.muli v475 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c4096_i32_336 : BitVec 32 := 4096#32
  let v547 : BitVec 32 := Scalar.addi v546 c4096_i32_336
  let c0_i32_344 : BitVec 32 := 0#32
  ![v547.toNat, 0]
def k0_cond90 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c3_i32_298 : BitVec 32 := 3#32
  let v487 : BitVec 1 := Scalar.cmpi .sle v465 c3_i32_298
  let v514 : BitVec 32 := Scalar.extui v487
  let c0_i32_314 : BitVec 32 := 0#32
  let v515 : BitVec 1 := Scalar.cmpi .ne v514 c0_i32_314
  v515

def k0_off120 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c4_i32_291 : BitVec 32 := 4#32
  let c0_i32_292 : BitVec 32 := 0#32
  let v476 : BitVec 1 := Scalar.cmpi .eq c4_i32_291 c0_i32_292
  let c1_i32_293 : BitVec 32 := 1#32
  let v477 : BitVec 32 := Scalar.select v476 c1_i32_293 c4_i32_291
  let v478 : BitVec 32 := Scalar.remsi v465 v477
  let c0_i32_295 : BitVec 32 := 0#32
  let v480 : BitVec 1 := Scalar.cmpi .slt v478 c0_i32_295
  let c0_i32_296 : BitVec 32 := 0#32
  let v481 : BitVec 1 := Scalar.cmpi .slt v477 c0_i32_296
  let v482 : BitVec 1 := Scalar.xori v480 v481
  let c0_i32_294 : BitVec 32 := 0#32
  let v479 : BitVec 1 := Scalar.cmpi .ne v478 c0_i32_294
  let v483 : BitVec 1 := Scalar.andi v482 v479
  let v484 : BitVec 32 := Scalar.addi v478 v477
  let v485 : BitVec 32 := Scalar.select v483 v484 v478
  let c16384_i32_323 : BitVec 32 := 16384#32
  let v532 : BitVec 32 := Scalar.muli v485 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c4096_i32_324 : BitVec 32 := 4096#32
  let v534 : BitVec 32 := Scalar.addi v533 c4096_i32_324
  let c0_i32_333 : BitVec 32 := 0#32
  ![v534.toNat, 0]
def k0_off121 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c4_i32_291 : BitVec 32 := 4#32
  let c0_i32_292 : BitVec 32 := 0#32
  let v476 : BitVec 1 := Scalar.cmpi .eq c4_i32_291 c0_i32_292
  let c1_i32_293 : BitVec 32 := 1#32
  let v477 : BitVec 32 := Scalar.select v476 c1_i32_293 c4_i32_291
  let v478 : BitVec 32 := Scalar.remsi v465 v477
  let c0_i32_295 : BitVec 32 := 0#32
  let v480 : BitVec 1 := Scalar.cmpi .slt v478 c0_i32_295
  let c0_i32_296 : BitVec 32 := 0#32
  let v481 : BitVec 1 := Scalar.cmpi .slt v477 c0_i32_296
  let v482 : BitVec 1 := Scalar.xori v480 v481
  let c0_i32_294 : BitVec 32 := 0#32
  let v479 : BitVec 1 := Scalar.cmpi .ne v478 c0_i32_294
  let v483 : BitVec 1 := Scalar.andi v482 v479
  let v484 : BitVec 32 := Scalar.addi v478 v477
  let v485 : BitVec 32 := Scalar.select v483 v484 v478
  let c16384_i32_335 : BitVec 32 := 16384#32
  let v545 : BitVec 32 := Scalar.muli v485 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c4096_i32_336 : BitVec 32 := 4096#32
  let v547 : BitVec 32 := Scalar.addi v546 c4096_i32_336
  let c0_i32_344 : BitVec 32 := 0#32
  ![v547.toNat, 0]
def k0_cond91 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_299 : BitVec 32 := 3#32
  let v488 : BitVec 1 := Scalar.cmpi .slt v8 c3_i32_299
  let c2_i32_300 : BitVec 32 := 2#32
  let v489 : BitVec 32 := Scalar.subi v8 c2_i32_300
  let c0_i32_301 : BitVec 32 := 0#32
  let v490 : BitVec 1 := Scalar.cmpi .sge v489 c0_i32_301
  let v491 : BitVec 1 := Scalar.andi v488 v490
  let v516 : BitVec 32 := Scalar.extui v491
  let c0_i32_315 : BitVec 32 := 0#32
  let v517 : BitVec 1 := Scalar.cmpi .ne v516 c0_i32_315
  v517

def k0_off122 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c4096_i32 : BitVec 32 := 4096#32
  let v530 : BitVec 32 := Scalar.addi v529 c4096_i32
  let c0_i32_331 : BitVec 32 := 0#32
  ![v530.toNat, 0]
def k0_cond92 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_302 : BitVec 32 := 0#32
  let v492 : BitVec 1 := Scalar.cmpi .sgt v8 c0_i32_302
  let c2_i32_303 : BitVec 32 := 2#32
  let v493 : BitVec 32 := Scalar.addi v8 c2_i32_303
  let c3_i32_304 : BitVec 32 := 3#32
  let v494 : BitVec 1 := Scalar.cmpi .sle v493 c3_i32_304
  let v495 : BitVec 1 := Scalar.andi v492 v494
  let v518 : BitVec 32 := Scalar.extui v495
  let c0_i32_316 : BitVec 32 := 0#32
  let v519 : BitVec 1 := Scalar.cmpi .ne v518 c0_i32_316
  v519

def k0_off123 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c4096_i32 : BitVec 32 := 4096#32
  let v530 : BitVec 32 := Scalar.addi v529 c4096_i32
  let c0_i32_331 : BitVec 32 := 0#32
  ![v530.toNat, 0]
def k0_cond93 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c0_i32_297 : BitVec 32 := 0#32
  let v486 : BitVec 1 := Scalar.cmpi .sge v463 c0_i32_297
  let v520 : BitVec 32 := Scalar.extui v486
  let c0_i32_317 : BitVec 32 := 0#32
  let v521 : BitVec 1 := Scalar.cmpi .ne v520 c0_i32_317
  v521

def k0_off124 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c4_i32_285 : BitVec 32 := 4#32
  let c0_i32_286 : BitVec 32 := 0#32
  let v466 : BitVec 1 := Scalar.cmpi .eq c4_i32_285 c0_i32_286
  let c1_i32_287 : BitVec 32 := 1#32
  let v467 : BitVec 32 := Scalar.select v466 c1_i32_287 c4_i32_285
  let v468 : BitVec 32 := Scalar.remsi v463 v467
  let c0_i32_289 : BitVec 32 := 0#32
  let v470 : BitVec 1 := Scalar.cmpi .slt v468 c0_i32_289
  let c0_i32_290 : BitVec 32 := 0#32
  let v471 : BitVec 1 := Scalar.cmpi .slt v467 c0_i32_290
  let v472 : BitVec 1 := Scalar.xori v470 v471
  let c0_i32_288 : BitVec 32 := 0#32
  let v469 : BitVec 1 := Scalar.cmpi .ne v468 c0_i32_288
  let v473 : BitVec 1 := Scalar.andi v472 v469
  let v474 : BitVec 32 := Scalar.addi v468 v467
  let v475 : BitVec 32 := Scalar.select v473 v474 v468
  let c16384_i32_323 : BitVec 32 := 16384#32
  let v532 : BitVec 32 := Scalar.muli v475 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c6144_i32_324 : BitVec 32 := 6144#32
  let v534 : BitVec 32 := Scalar.addi v533 c6144_i32_324
  let c0_i32_333 : BitVec 32 := 0#32
  ![v534.toNat, 0]
def k0_off125 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_281 : BitVec 32 := 1#32
  let v462 : BitVec 32 := Scalar.subi v8 c1_i32_281
  let c2_i32_282 : BitVec 32 := 2#32
  let v463 : BitVec 32 := Scalar.subi v462 c2_i32_282
  let c4_i32_285 : BitVec 32 := 4#32
  let c0_i32_286 : BitVec 32 := 0#32
  let v466 : BitVec 1 := Scalar.cmpi .eq c4_i32_285 c0_i32_286
  let c1_i32_287 : BitVec 32 := 1#32
  let v467 : BitVec 32 := Scalar.select v466 c1_i32_287 c4_i32_285
  let v468 : BitVec 32 := Scalar.remsi v463 v467
  let c0_i32_289 : BitVec 32 := 0#32
  let v470 : BitVec 1 := Scalar.cmpi .slt v468 c0_i32_289
  let c0_i32_290 : BitVec 32 := 0#32
  let v471 : BitVec 1 := Scalar.cmpi .slt v467 c0_i32_290
  let v472 : BitVec 1 := Scalar.xori v470 v471
  let c0_i32_288 : BitVec 32 := 0#32
  let v469 : BitVec 1 := Scalar.cmpi .ne v468 c0_i32_288
  let v473 : BitVec 1 := Scalar.andi v472 v469
  let v474 : BitVec 32 := Scalar.addi v468 v467
  let v475 : BitVec 32 := Scalar.select v473 v474 v468
  let c16384_i32_335 : BitVec 32 := 16384#32
  let v545 : BitVec 32 := Scalar.muli v475 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c6144_i32_336 : BitVec 32 := 6144#32
  let v547 : BitVec 32 := Scalar.addi v546 c6144_i32_336
  let c0_i32_344 : BitVec 32 := 0#32
  ![v547.toNat, 0]
def k0_cond94 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c3_i32_298 : BitVec 32 := 3#32
  let v487 : BitVec 1 := Scalar.cmpi .sle v465 c3_i32_298
  let v522 : BitVec 32 := Scalar.extui v487
  let c0_i32_318 : BitVec 32 := 0#32
  let v523 : BitVec 1 := Scalar.cmpi .ne v522 c0_i32_318
  v523

def k0_off126 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c4_i32_291 : BitVec 32 := 4#32
  let c0_i32_292 : BitVec 32 := 0#32
  let v476 : BitVec 1 := Scalar.cmpi .eq c4_i32_291 c0_i32_292
  let c1_i32_293 : BitVec 32 := 1#32
  let v477 : BitVec 32 := Scalar.select v476 c1_i32_293 c4_i32_291
  let v478 : BitVec 32 := Scalar.remsi v465 v477
  let c0_i32_295 : BitVec 32 := 0#32
  let v480 : BitVec 1 := Scalar.cmpi .slt v478 c0_i32_295
  let c0_i32_296 : BitVec 32 := 0#32
  let v481 : BitVec 1 := Scalar.cmpi .slt v477 c0_i32_296
  let v482 : BitVec 1 := Scalar.xori v480 v481
  let c0_i32_294 : BitVec 32 := 0#32
  let v479 : BitVec 1 := Scalar.cmpi .ne v478 c0_i32_294
  let v483 : BitVec 1 := Scalar.andi v482 v479
  let v484 : BitVec 32 := Scalar.addi v478 v477
  let v485 : BitVec 32 := Scalar.select v483 v484 v478
  let c16384_i32_323 : BitVec 32 := 16384#32
  let v532 : BitVec 32 := Scalar.muli v485 c16384_i32_323
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c8192_i32_3 : BitVec 32 := 8192#32
  let v11 : BitVec 32 := Scalar.muli v9 c8192_i32_3
  let v533 : BitVec 32 := Scalar.addi v532 v11
  let c6144_i32_324 : BitVec 32 := 6144#32
  let v534 : BitVec 32 := Scalar.addi v533 c6144_i32_324
  let c0_i32_333 : BitVec 32 := 0#32
  ![v534.toNat, 0]
def k0_off127 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_283 : BitVec 32 := 1#32
  let v464 : BitVec 32 := Scalar.addi v8 c1_i32_283
  let c2_i32_284 : BitVec 32 := 2#32
  let v465 : BitVec 32 := Scalar.addi v464 c2_i32_284
  let c4_i32_291 : BitVec 32 := 4#32
  let c0_i32_292 : BitVec 32 := 0#32
  let v476 : BitVec 1 := Scalar.cmpi .eq c4_i32_291 c0_i32_292
  let c1_i32_293 : BitVec 32 := 1#32
  let v477 : BitVec 32 := Scalar.select v476 c1_i32_293 c4_i32_291
  let v478 : BitVec 32 := Scalar.remsi v465 v477
  let c0_i32_295 : BitVec 32 := 0#32
  let v480 : BitVec 1 := Scalar.cmpi .slt v478 c0_i32_295
  let c0_i32_296 : BitVec 32 := 0#32
  let v481 : BitVec 1 := Scalar.cmpi .slt v477 c0_i32_296
  let v482 : BitVec 1 := Scalar.xori v480 v481
  let c0_i32_294 : BitVec 32 := 0#32
  let v479 : BitVec 1 := Scalar.cmpi .ne v478 c0_i32_294
  let v483 : BitVec 1 := Scalar.andi v482 v479
  let v484 : BitVec 32 := Scalar.addi v478 v477
  let v485 : BitVec 32 := Scalar.select v483 v484 v478
  let c16384_i32_335 : BitVec 32 := 16384#32
  let v545 : BitVec 32 := Scalar.muli v485 c16384_i32_335
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v546 : BitVec 32 := Scalar.addi v545 v10
  let c6144_i32_336 : BitVec 32 := 6144#32
  let v547 : BitVec 32 := Scalar.addi v546 c6144_i32_336
  let c0_i32_344 : BitVec 32 := 0#32
  ![v547.toNat, 0]
def k0_cond95 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32_299 : BitVec 32 := 3#32
  let v488 : BitVec 1 := Scalar.cmpi .slt v8 c3_i32_299
  let c2_i32_300 : BitVec 32 := 2#32
  let v489 : BitVec 32 := Scalar.subi v8 c2_i32_300
  let c0_i32_301 : BitVec 32 := 0#32
  let v490 : BitVec 1 := Scalar.cmpi .sge v489 c0_i32_301
  let v491 : BitVec 1 := Scalar.andi v488 v490
  let v524 : BitVec 32 := Scalar.extui v491
  let c0_i32_319 : BitVec 32 := 0#32
  let v525 : BitVec 1 := Scalar.cmpi .ne v524 c0_i32_319
  v525

def k0_off128 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c6144_i32 : BitVec 32 := 6144#32
  let v530 : BitVec 32 := Scalar.addi v529 c6144_i32
  let c0_i32_331 : BitVec 32 := 0#32
  ![v530.toNat, 0]
def k0_cond96 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_302 : BitVec 32 := 0#32
  let v492 : BitVec 1 := Scalar.cmpi .sgt v8 c0_i32_302
  let c2_i32_303 : BitVec 32 := 2#32
  let v493 : BitVec 32 := Scalar.addi v8 c2_i32_303
  let c3_i32_304 : BitVec 32 := 3#32
  let v494 : BitVec 1 := Scalar.cmpi .sle v493 c3_i32_304
  let v495 : BitVec 1 := Scalar.andi v492 v494
  let v526 : BitVec 32 := Scalar.extui v495
  let c0_i32_320 : BitVec 32 := 0#32
  let v527 : BitVec 1 := Scalar.cmpi .ne v526 c0_i32_320
  v527

def k0_off129 (d0 : Dev nD) : Fin 2 → Nat :=
  let c0_i32_322 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c8192_i32 : BitVec 32 := 8192#32
  let v10 : BitVec 32 := Scalar.muli v2 c8192_i32
  let v529 : BitVec 32 := Scalar.addi c0_i32_322 v10
  let c6144_i32 : BitVec 32 := 6144#32
  let v530 : BitVec 32 := Scalar.addi v529 c6144_i32
  let c0_i32_331 : BitVec 32 := 0#32
  ![v530.toNat, 0]
-- ==== ReferenceIdeal.lean ====
abbrev S65536x1024 : Shape := ⟨2, ![65536, 1024]⟩

abbrev nBuf : Space → Nat
  | .hbm => 1
  | .vmem => 0
  | .smem => 0
  | _ => 0

abbrev bufTy : (tb : Table) → Fin (tcTables nBuf tb) → BufTy
  | .hbm, ⟨0, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Coord.lean ====
/-
# The mesh, the blocks and the cells of the all-gather

Device `c` of the 2 x 4 x 4 mesh is `16 x + 4 y + z`. The gathered array has 65536 rows: four chunks of 16384, one per
`z`, each cut into two halves of 8192 rows, each half cut into four blocks of 2048. A *slot* `(d, h, s)` is one ring
transfer a device takes part in: direction `d` (`0`: towards larger `z`, `1`: towards smaller), hop `h`, block `s` of the
half its own `x` coordinate names.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Devices -/

/-- A slot: direction, hop, block of the half. -/
abbrev Slot : Type := Fin 2 × Fin 3 × Fin 4

set_option backward.proofsInPublic true in
/-- The device `k` places further along `z`, round the axis. -/
def zsh (k : ℕ) (c : Dev nD) : Dev nD := ⟨16 * (c.val / 16) + 4 * ((c.val / 4) % 4) + (c.val % 4 + k) % 4, by have h : c.val < 32 := c.isLt; show _ < 32; omega⟩
set_option backward.proofsInPublic true in
/-- The device with the other `x`. -/
def partner (c : Dev nD) : Dev nD := ⟨(4 * ((c.val / 4) % 4) + c.val % 4 + 16) - 16 * (c.val / 16), by have h : c.val < 32 := c.isLt; show _ < 32; omega⟩
/-- The device a transfer of direction `d` goes to, -/
def next (d : Fin 2) (c : Dev nD) : Dev nD := if d = 0 then zsh 1 c else zsh 3 c
/-- and the one it comes from. -/
def prev (d : Fin 2) (c : Dev nD) : Dev nD := if d = 0 then zsh 3 c else zsh 1 c

theorem prev_next : ∀ (d : Fin 2) (c : Dev nD), prev d (next d c) = c := by decide +kernel
theorem next_prev : ∀ (d : Fin 2) (c : Dev nD), next d (prev d c) = c := by decide +kernel
theorem partner_partner : ∀ c : Dev nD, partner (partner c) = c := by decide +kernel
theorem zsh_one_three : ∀ c : Dev nD, zsh 1 (zsh 3 c) = c := by decide +kernel
theorem zsh_three_one : ∀ c : Dev nD, zsh 3 (zsh 1 c) = c := by decide +kernel
theorem zsh_two_two : ∀ c : Dev nD, zsh 2 (zsh 2 c) = c := by decide +kernel

/-- The shift by `next d` as a permutation of the devices. -/
def nextE (d : Fin 2) : Dev nD ≃ Dev nD := ⟨next d, prev d, prev_next d, next_prev d⟩
/-- The exchange of the two `x` as a permutation of the devices. -/
def partnerE : Dev nD ≃ Dev nD := ⟨partner, partner, partner_partner, partner_partner⟩
/-- The device each barrier signal goes to: signal `k` for `k = 1, 2, 3` goes `k` places along `z`, signal `0` to the partner. -/
def sigTo (k : Fin 4) (c : Dev nD) : Dev nD := if k = 0 then partner c else zsh k.val c
/-- The device signal `k` of a device comes from. -/
def sigFrom (k : Fin 4) (c : Dev nD) : Dev nD := if k = 0 then partner c else zsh (4 - k.val) c
theorem sigFrom_sigTo : ∀ (k : Fin 4) (c : Dev nD), sigFrom k (sigTo k c) = c := by decide +kernel
theorem sigTo_sigFrom : ∀ (k : Fin 4) (c : Dev nD), sigTo k (sigFrom k c) = c := by decide +kernel
/-- Signal `k`'s target as a permutation of the devices. -/
def sigE (k : Fin 4) : Dev nD ≃ Dev nD := ⟨sigTo k, sigFrom k, sigFrom_sigTo k, sigTo_sigFrom k⟩

/-- Device `c` receives slot `i` on the ring (and so exchanges it with its partner). -/
def rcv (i : Slot) (c : Dev nD) : Bool :=
  if i.1 = 0 then decide (i.2.1.val < c.val % 4) else decide (i.2.1.val < 3 - c.val % 4)
/-- Device `c` sends slot `i` on the ring. -/
def snd (i : Slot) (c : Dev nD) : Bool := rcv i (next i.1 c)

theorem rcv_partner : ∀ (i : Slot) (c : Dev nD), rcv i (partner c) = rcv i c := by decide +kernel

/-! ## Blocks -/

/-- The chunk (the `z` it comes from) of slot `i` as device `c` receives it. -/
def chunk (i : Slot) (c : Dev nD) : ℕ := if i.1 = 0 then (c.val % 4 + 3 - i.2.1.val) % 4 else (c.val % 4 + 1 + i.2.1.val) % 4
set_option backward.proofsInPublic true in
/-- The block of the gathered array that device `c` receives in slot `i`. -/
def rb (i : Slot) (c : Dev nD) : Fin 32 := ⟨8 * chunk i c + 4 * (c.val / 16) + i.2.2.val, by
  have h : c.val < 32 := c.isLt; have := i.2.2.isLt; unfold chunk; split <;> omega⟩
set_option backward.proofsInPublic true in
/-- The block of its own array that device `c` sends, at hop `0`, as block `s`. -/
def xb (s : Fin 4) (c : Dev nD) : Fin 8 := ⟨4 * (c.val / 16) + s.val, by have h : c.val < 32 := c.isLt; omega⟩

/-- Where block `b` starts. -/
def boff (b : ℕ) : Fin 2 → ℕ := ![2048 * b, 0]
theorem boff_inb (b : Fin 32) : ∀ a : Fin 2, boff b.val a + S2048x1024.size a ≤ S65536x1024.size a := by revert b; decide +kernel
theorem xoff_inb (b : Fin 8) : ∀ a : Fin 2, boff b.val a + S2048x1024.size a ≤ S16384x1024.size a := by revert b; decide +kernel
/-- Where chunk `z` starts. -/
def coff (z : ℕ) : Fin 2 → ℕ := ![16384 * z, 0]
theorem coff_inb (c : Dev nD) : ∀ a : Fin 2, coff (c.val % 4) a + S16384x1024.size a ≤ S65536x1024.size a := by revert c; decide +kernel

abbrev outM : Memref sig .tc .hbm S65536x1024 .f32 := Memref.whole main_v1
abbrev xM : Memref sig .tc .hbm S16384x1024 .f32 := Memref.whole main_arg0
/-- The view of block `b` of the gathered array, -/
abbrev ob (b : Fin 32) : Memref sig .tc .hbm S2048x1024 .f32 :=
  outM.slice (Rect.unit (s := S65536x1024) (boff b.val) S2048x1024.size (boff_inb b)) (fun _ => rfl)
/-- of block `b` of a device's own array, -/
abbrev xm (b : Fin 8) : Memref sig .tc .hbm S2048x1024 .f32 :=
  xM.slice (Rect.unit (s := S16384x1024) (boff b.val) S2048x1024.size (xoff_inb b)) (fun _ => rfl)
/-- and of device `c`'s own chunk of the gathered array. -/
abbrev cm (c : Dev nD) : Memref sig .tc .hbm S16384x1024 .f32 :=
  outM.slice (Rect.unit (s := S65536x1024) (coff (c.val % 4)) S16384x1024.size (coff_inb c)) (fun _ => rfl)

/-- The units a transfer of a block credits, -/
def N : ℕ := (ob 0).view.dmaCredit
/-- and those of the local copy. -/
def NC : ℕ := (cm 0).view.dmaCredit
theorem N_pos : 0 < N := View.dmaCredit_pos _ (by decide)
theorem NC_pos : 0 < NC := View.dmaCredit_pos _ (by decide)
theorem N_ob (b : Fin 32) : (ob b).view.dmaCredit = N := rfl
theorem NC_cm (c : Dev nD) : (cm c).view.dmaCredit = NC := rfl

/-! ## Cells -/

/-- The runtime's barrier semaphore. -/
abbrev barS : Sem sig := (SemArray.scalar (sig.barrier 0 rfl) : Sems sig S_).sem
set_option backward.proofsInPublic true in
/-- The semaphore of the local copy. -/
def copyS : DmaSem sig := (0 : Fin 97)
theorem copyS_eq : cc0_scratch0.sem = copyS := rfl
set_option backward.proofsInPublic true in
/-- The semaphore of slot `i` in role `k`: `0` ring send, `1` ring receive, `2` send to the partner, `3` receive from it. -/
def gs (k : Fin 4) (i : Slot) : DmaSem sig :=
  (⟨1 + (12 * (if k.val < 2 then 2 * i.1.val + k.val else 2 + 2 * i.1.val + k.val)) + (4 * i.2.1.val + i.2.2.val), by
    have := i.1.isLt; have := i.2.1.isLt; have := i.2.2.isLt; have := k.isLt; split <;> omega⟩ : Fin 97)

set_option backward.proofsInPublic true in
/-- Which role and slot a DMA semaphore belongs to (the local copy's read as any). -/
def dec (q : DmaSem sig) : Fin 4 × Slot :=
  let g := (q.val - 1) / 12
  (⟨(g % 2 + 2 * (g / 4)) % 4, Nat.mod_lt _ (by decide)⟩, ⟨(g / 2) % 2, Nat.mod_lt _ (by decide)⟩,
    ⟨((q.val - 1) / 4) % 3, Nat.mod_lt _ (by decide)⟩, ⟨(q.val - 1) % 4, Nat.mod_lt _ (by decide)⟩)

theorem dec_gs : ∀ (k : Fin 4) (i : Slot), dec (gs k i) = (k, i) := by decide +kernel
theorem gs_ne_copy : ∀ (k : Fin 4) (i : Slot), gs k i ≠ copyS := by decide +kernel

abbrev barCell (c : Dev nD) : GSem nD τ sig := ((c : Thread nD τ), .reg barS)
abbrev copyCell (c : Dev nD) : GSem nD τ sig := ((c : Thread nD τ), .dma copyS)
abbrev cell (k : Fin 4) (i : Slot) (c : Dev nD) : GSem nD τ sig := ((c : Thread nD τ), .dma (gs k i))

end Cert.Gather

end
-- ==== Proof.Schedule.lean ====
/-
# The contents of the gathered array and the schedule of the semaphores

What every block holds at the end of the run, and the one round of duties each semaphore has: who credits it, by how much,
and which part of which array the credit hands over.
-/
module

public import proofs.«01_k».proof.Proof.Coord

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The final contents -/

set_option backward.proofsInPublic true in
/-- The device block `b` of device `c`'s gathered array comes from: `c` itself for its own chunk, else the device of `c`'s
    column whose `x` is the block's half and whose `z` is its chunk. -/
def src (c : Dev nD) (b : ℕ) : Dev nD :=
  if (b / 8) % 4 = c.val % 4 then c else ⟨16 * ((b / 4) % 2) + 4 * ((c.val / 4) % 4) + (b / 8) % 4, by show _ < 32; omega⟩

set_option backward.proofsInPublic true in
/-- The place in a device's own array of an element of the gathered one. -/
def xi (i : S65536x1024.Idx) : S16384x1024.Idx :=
  fun a => ⟨(i a).val % S16384x1024.size a, Nat.mod_lt _ (by revert a; decide)⟩

/-- The gathered array as device `c` ends with it. -/
def G (c : Dev nD) : Buf (Elt F) ((c : Thread nD τ).loc main_v1) :=
  fun i => m ((src c ((i (0 : Fin 2)).val / 2048) : Thread nD τ).loc main_arg0) (xi i)

theorem idx_ext2 {x y : S16384x1024.Idx} (h0 : (x (0 : Fin 2)).val = (y (0 : Fin 2)).val) (h1 : (x (1 : Fin 2)).val = (y (1 : Fin 2)).val) : x = y :=
  funext fun a => match a with
    | ⟨0, _⟩ => Fin.ext h0
    | ⟨1, _⟩ => Fin.ext h1

theorem G_congr (c c' : Dev nD) (i : S65536x1024.Idx) (b : Fin 32) (hs : src c b.val = src c' b.val) (hb : (i (0 : Fin 2)).val / 2048 = b.val) :
    G m c i = G m c' i := by
  unfold G; rw [hb, hs]

theorem ob_row (b : Fin 32) (x : S2048x1024.Idx) : ((ob b).view.emb x (0 : Fin 2)).val = 2048 * b.val + (x (0 : Fin 2)).val := by
  show (boff b.val 0 + 1 * (x (0 : Fin 2)).val : ℕ) = _; show 2048 * b.val + 1 * _ = _; omega
theorem ob_col (b : Fin 32) (x : S2048x1024.Idx) : ((ob b).view.emb x (1 : Fin 2)).val = (x (1 : Fin 2)).val := by
  show (0 + 1 * (x (1 : Fin 2)).val : ℕ) = _; omega
theorem xm_row (b : Fin 8) (x : S2048x1024.Idx) : ((xm b).view.emb x (0 : Fin 2)).val = 2048 * b.val + (x (0 : Fin 2)).val := by
  show (boff b.val 0 + 1 * (x (0 : Fin 2)).val : ℕ) = _; show 2048 * b.val + 1 * _ = _; omega
theorem xm_col (b : Fin 8) (x : S2048x1024.Idx) : ((xm b).view.emb x (1 : Fin 2)).val = (x (1 : Fin 2)).val := by
  show (0 + 1 * (x (1 : Fin 2)).val : ℕ) = _; omega
theorem cm_row (c : Dev nD) (x : S16384x1024.Idx) : ((cm c).view.emb x (0 : Fin 2)).val = 16384 * (c.val % 4) + (x (0 : Fin 2)).val := by
  show (coff (c.val % 4) 0 + 1 * (x (0 : Fin 2)).val : ℕ) = _; show 16384 * (c.val % 4) + 1 * _ = _; omega
theorem cm_col (c : Dev nD) (x : S16384x1024.Idx) : ((cm c).view.emb x (1 : Fin 2)).val = (x (1 : Fin 2)).val := by
  show (0 + 1 * (x (1 : Fin 2)).val : ℕ) = _; omega

/-- A block landing from another device's gathered array leaves the block at its final contents, if the two devices agree on
    where the block comes from; -/
theorem land_ob (c c' : Dev nD) (b : Fin 32) (hs : src c b.val = src c' b.val) (fd : (main_v1 : Ref sig .tc).ty.Contents (Elt F)) :
    ∀ i ∈ (ob b).view.set, (ob b).view.write (Elt F) fd ((ob b).view.read (Elt F) (G m c)) Finset.univ i = G m c' i := by
  intro i hi
  obtain ⟨x, -, rfl⟩ := Finset.mem_map.mp hi
  rw [View.write_emb_of_mem _ _ (Finset.mem_univ x), View.read_apply]
  show G m c _ = _
  refine G_congr m c c' _ b hs ?_
  rw [ob_row]; have : (x (0 : Fin 2)).val < 2048 := (x (0 : Fin 2)).isLt; omega

/-- so does a block landing from the source's own array, -/
theorem land_xm (c c' : Dev nD) (b : Fin 32) (s : Fin 8) (hs : src c' b.val = c) (hb : b.val % 8 = s.val) (fd : (main_v1 : Ref sig .tc).ty.Contents (Elt F)) :
    ∀ i ∈ (ob b).view.set, (ob b).view.write (Elt F) fd ((xm s).view.read (Elt F) (m ((c : Thread nD τ).loc main_arg0))) Finset.univ i = G m c' i := by
  intro i hi
  obtain ⟨x, -, rfl⟩ := Finset.mem_map.mp hi
  rw [View.write_emb_of_mem _ _ (Finset.mem_univ x), View.read_apply]
  have hx : (x (0 : Fin 2)).val < 2048 := (x (0 : Fin 2)).isLt
  have hx1 : (x (1 : Fin 2)).val < 1024 := (x (1 : Fin 2)).isLt
  have h : src c' (((ob b).view.emb x (0 : Fin 2)).val / 2048) = c := by
    rw [ob_row, show (2048 * b.val + (x (0 : Fin 2)).val) / 2048 = b.val by omega, hs]
  show m ((c : Thread nD τ).loc main_arg0) ((xm s).view.emb x) = _
  unfold G
  rw [h]
  congr 1
  refine idx_ext2 ?_ ?_
  · rw [xm_row]; show _ = ((ob b).view.emb x (0 : Fin 2)).val % 16384; rw [ob_row]; omega
  · rw [xm_col]; show _ = ((ob b).view.emb x (1 : Fin 2)).val % 1024; rw [ob_col]; omega

/-- and so does the local copy of a device's own array into its own chunk. -/
theorem land_cm (c : Dev nD) (fd : (main_v1 : Ref sig .tc).ty.Contents (Elt F)) :
    ∀ i ∈ (cm c).view.set, (cm c).view.write (Elt F) fd (xM.view.read (Elt F) (m ((c : Thread nD τ).loc main_arg0))) Finset.univ i = G m c i := by
  intro i hi
  obtain ⟨x, -, rfl⟩ := Finset.mem_map.mp hi
  rw [View.write_emb_of_mem _ _ (Finset.mem_univ x), View.read_apply]
  have hx : (x (0 : Fin 2)).val < 16384 := (x (0 : Fin 2)).isLt
  have hx1 : (x (1 : Fin 2)).val < 1024 := (x (1 : Fin 2)).isLt
  have h : src c (((cm c).view.emb x (0 : Fin 2)).val / 2048) = c := by
    rw [cm_row]; unfold src; rw [if_pos (by omega)]
  show m ((c : Thread nD τ).loc main_arg0) x = _
  unfold G
  rw [h]
  congr 1
  refine idx_ext2 ?_ ?_
  · show _ = ((cm c).view.emb x (0 : Fin 2)).val % 16384; rw [cm_row]; omega
  · show _ = ((cm c).view.emb x (1 : Fin 2)).val % 1024; rw [cm_col]; omega

/-! ## Pieces of the arrays -/

/-- Block `b` of device `c`'s gathered array at contents `f`, share `q`; -/
def oPts (q : PosShare TreeShare) (b : Fin 32) (c : Dev nD) (f : (main_v1 : Ref sig .tc).ty.Contents (Elt F)) : sProp 𝕄 :=
  (ob b).view.loc (c : Thread nD τ) ↦[(ob b).view.set]{q} f
/-- block `b` of its own array at its launch contents. -/
def xPts (q : PosShare TreeShare) (b : Fin 8) (c : Dev nD) : sProp 𝕄 :=
  (xm b).view.loc (c : Thread nD τ) ↦[(xm b).view.set]{q} m ((c : Thread nD τ).loc main_arg0)

instance oPts_storable (q b) (c : Dev nD) (f) : BI.Storable (upEmb : UEmb _ 𝕄) (oPts (F := F) q b c f) := by unfold oPts; infer_instance
instance xPts_storable (q b) (c : Dev nD) : BI.Storable (upEmb : UEmb _ 𝕄) (xPts m q b c) := by unfold xPts; infer_instance

/-- The share of its own array's blocks that direction `d` reads with. -/
def qx (d : Fin 2) : PosShare TreeShare := if d = 0 then fullShare.right.left else fullShare.right.right

/-- What the ring sends of direction `d`, block `s` read at hop `h`: at hop `0` the device's own block, later the block
    received at the hop before. -/
def Src (d : Fin 2) (s : Fin 4) (h : ℕ) (c : Dev nD) : sProp 𝕄 :=
  match h with
  | 0 => xPts m (qx d) (xb s c) c
  | 1 => if rcv (d, 0, s) c then oPts fullShare.right (rb (d, 0, s) c) c (G m c) else iprop(emp)
  | 2 => if rcv (d, 1, s) c then oPts fullShare.right (rb (d, 1, s) c) c (G m c) else iprop(emp)
  | _ => if rcv (d, 2, s) c then oPts fullShare.right (rb (d, 2, s) c) c (G m c) else iprop(emp)

instance Src_storable (d s h) (c : Dev nD) : BI.Storable (upEmb : UEmb _ 𝕄) (Src m d s h c) := by
  unfold Src; (repeat' split) <;> infer_instance

/-- The block the ring transfer of slot `i` lands in, at its launch contents, on the device it goes to; -/
def dstN (i : Slot) (c : Dev nD) : sProp 𝕄 :=
  if snd i c then oPts fullShare (rb i (next i.1 c)) (next i.1 c) (m ((next i.1 c : Thread nD τ).loc main_v1)) else iprop(emp)
/-- the block the exchange of slot `i` lands in, on the partner. -/
def dstP (i : Slot) (c : Dev nD) : sProp 𝕄 :=
  if rcv i c then oPts fullShare (rb i c) (partner c) (m ((partner c : Thread nD τ).loc main_v1)) else iprop(emp)

instance dstN_storable (i) (c : Dev nD) : BI.Storable (upEmb : UEmb _ 𝕄) (dstN m i c) := by unfold dstN; split <;> infer_instance
instance dstP_storable (i) (c : Dev nD) : BI.Storable (upEmb : UEmb _ 𝕄) (dstP m i c) := by unfold dstP; split <;> infer_instance

/-! ## The schedule -/

/-- What barrier signal `d` hands device `c`: the blocks of the signalling device that `c` writes. -/
def barPay (c : Dev nD) (d : Fin 4) : sProp 𝕄 :=
  if d = 0 then bigSep Finset.univ fun i : Slot => dstP m i c
  else if d = 1 then bigSep Finset.univ fun i : Fin 3 × Fin 4 => dstN m (1, i) c
  else if d = 3 then bigSep Finset.univ fun i : Fin 3 × Fin 4 => dstN m (0, i) c
  else iprop(emp)
/-- What the local copy leaves: its own chunk at its final contents and the share of its own array it read with. -/
def copyPay (c : Dev nD) : sProp 𝕄 :=
  iprop(((cm c).view.loc (c : Thread nD τ) ↦[(cm c).view.set]{fullShare} G m c)
    ∗ (xM.view.loc (c : Thread nD τ) ↦[xM.view.set]{fullShare.left} m ((c : Thread nD τ).loc main_arg0)))
/-- What the transfers of slot `i` leave: a send its source, a receive its block at its final contents. -/
def slotPay (k : Fin 4) (i : Slot) (c : Dev nD) : sProp 𝕄 :=
  if k = 0 then Src m i.1 i.2.2 i.2.1.val c
  else if k = 1 then oPts fullShare (rb i c) c (G m c)
  else if k = 2 then oPts fullShare.left (rb i c) c (G m c)
  else oPts fullShare (rb i (partner c)) c (G m c)

instance barPay_storable (c : Dev nD) (d) : BI.Storable (upEmb : UEmb _ 𝕄) (barPay m c d) := by
  unfold barPay; (repeat' split) <;> infer_instance
instance copyPay_storable (c : Dev nD) : BI.Storable (upEmb : UEmb _ 𝕄) (copyPay m c) := by unfold copyPay; infer_instance
instance slotPay_storable (k i) (c : Dev nD) : BI.Storable (upEmb : UEmb _ 𝕄) (slotPay m k i c) := by
  unfold slotPay; (repeat' split) <;> infer_instance

/-- Whether role `k` of slot `i` is in use on device `c`. -/
def use (k : Fin 4) (i : Slot) (c : Dev nD) : Bool := if k = 0 then snd i c else rcv i c

/-- The duties of a semaphore of device `c`, -/
def dutyOf (c : Dev nD) : SemLoc sig → Finset (Fin 4)
  | .reg _ => Finset.univ
  | .dma q => if q = copyS then {0} else if use (dec q).1 (dec q).2 c then {0} else ∅
/-- the units of each, -/
def unitsOf : SemLoc sig → ℕ
  | .reg _ => 1
  | .dma q => if q = copyS then NC else N
/-- and what each hands over. -/
def payOf (c : Dev nD) (d : Fin 4) : SemLoc sig → sProp 𝕄
  | .reg _ => barPay m c d
  | .dma q => if q = copyS then copyPay m c else slotPay m (dec q).1 (dec q).2 c

/-- One round per semaphore: four units for the barrier, one transfer for every DMA semaphore in use. -/
def sched : Rounds.Schedule (GSem nD τ sig) (Fin 4) 𝕄 where
  duties g r := if r = 0 ∧ g.1.2 = .tc then dutyOf g.1.1 g.2 else ∅
  unitless _ := False
  amount g _ _ := unitsOf g.2
  payload g _ d := payOf m g.1.1 d g.2
  amount_pos g _ _ _ := by
    rcases g with ⟨_, s | q⟩
    · exact Nat.one_pos
    · dsimp only [unitsOf]; split
      · exact NC_pos
      · exact N_pos

instance sched_payload_storable (g : GSem nD τ sig) (r : ℕ) (d : Fin 4) :
    BI.Storable (upEmb : UEmb _ 𝕄) ((sched m).payload g r d) := by
  rcases g with ⟨_, s | q⟩
  · show BI.Storable upEmb (barPay m _ d); infer_instance
  · show BI.Storable upEmb (if q = copyS then copyPay m _ else slotPay m (dec q).1 (dec q).2 _)
    split <;> infer_instance

section Sched
variable (c : Dev nD) (k : Fin 4) (i : Slot) (d : Fin 4)

theorem duties_later (g : GSem nD τ sig) : ∀ r, 1 ≤ r → (sched m).duties g r = ∅ :=
  fun r hr => by dsimp only [sched]; rw [if_neg fun h => by omega]
theorem duties_tc (sm : SemLoc sig) : (sched m).duties ((c : Thread nD τ), sm) 0 = dutyOf c sm := by
  dsimp only [sched]; exact if_pos ⟨rfl, rfl⟩
theorem duties_bar : (sched m).duties (barCell c) 0 = Finset.univ := duties_tc m c _
theorem duties_copy : (sched m).duties (copyCell c) 0 = {0} := by
  rw [duties_tc]; dsimp only [dutyOf]; exact if_pos rfl
theorem duties_cell (h : use k i c = true) : (sched m).duties (cell k i c) 0 = {0} := by
  rw [duties_tc]; dsimp only [dutyOf]
  rw [dec_gs, if_neg (gs_ne_copy k i)]; exact if_pos h
theorem duties_unused (h : use k i c = false) (r : ℕ) : (sched m).duties (cell k i c) r = ∅ := by
  rcases Nat.eq_zero_or_pos r with rfl | hr
  · rw [duties_tc]; dsimp only [dutyOf]
    rw [dec_gs, if_neg (gs_ne_copy k i)]; exact if_neg (by rw [h]; exact Bool.false_ne_true)
  · exact duties_later m _ r hr

theorem amount_bar : (sched m).amount (barCell c) 0 d = 1 := rfl
theorem amount_copy : (sched m).amount (copyCell c) 0 d = NC := by
  dsimp only [sched, unitsOf]; exact if_pos rfl
theorem amount_cell : (sched m).amount (cell k i c) 0 d = N := by
  dsimp only [sched, unitsOf]; exact if_neg (gs_ne_copy k i)

theorem expect_one {g : GSem nD τ sig} {a : ℕ} (hd : (sched m).duties g 0 = {0}) (ha : (sched m).amount g 0 0 = a) : (sched m).expect g 0 = a := by
  unfold Schedule.expect Schedule.amountOf; rw [hd, Finset.sum_singleton, ha]
theorem expect_four {g : GSem nD τ sig} (hd : (sched m).duties g 0 = Finset.univ) (ha : ∀ d, (sched m).amount g 0 d = 1) : (sched m).expect g 0 = 4 := by
  unfold Schedule.expect Schedule.amountOf
  rw [hd, Finset.sum_congr rfl fun d _ => ha d, Finset.sum_const, Finset.card_univ, Fintype.card_fin, smul_eq_mul]
theorem expect_bar : (sched m).expect (barCell c) 0 = 4 := expect_four m (duties_bar m c) (amount_bar m c)
theorem expect_copy : (sched m).expect (copyCell c) 0 = NC := expect_one m (duties_copy m c) (amount_copy m c 0)
theorem expect_cell (h : use k i c = true) : (sched m).expect (cell k i c) 0 = N := expect_one m (duties_cell m c k i h) (amount_cell m c k i 0)

theorem payload_bar : (sched m).payload (barCell c) 0 d = barPay m c d := rfl
theorem payload_copy : (sched m).payload (copyCell c) 0 d = copyPay m c := by
  dsimp only [sched, payOf]; exact if_pos rfl
theorem payload_cell : (sched m).payload (cell k i c) 0 d = slotPay m k i c := by
  dsimp only [sched, payOf]
  rw [dec_gs, if_neg (gs_ne_copy k i)]

/-- The rest of a round, nothing taken: of the barrier's, the four signals' payloads; -/
theorem rest_bar : bigSep ((sched m).duties (barCell c) 0 \ ∅) (fun d => (sched m).payload (barCell c) 0 d)
    = iprop(barPay m c 0 ∗ barPay m c 1 ∗ barPay m c 2 ∗ barPay m c 3) := by
  rw [Finset.sdiff_empty, duties_bar]
  exact bigSep_univ_eq_bigSepL [0, 1, 2, 3] (by decide) (by decide) _
/-- of the local copy's, its; -/
theorem rest_copy : bigSep ((sched m).duties (copyCell c) 0 \ ∅) (fun d => (sched m).payload (copyCell c) 0 d) = copyPay m c := by
  rw [Finset.sdiff_empty, duties_copy, bigSep_singleton, payload_copy]
/-- of a transfer's, its. -/
theorem rest_cell (h : use k i c = true) : bigSep ((sched m).duties (cell k i c) 0 \ ∅) (fun d => (sched m).payload (cell k i c) 0 d) = slotPay m k i c := by
  rw [Finset.sdiff_empty, duties_cell m c k i h, bigSep_singleton, payload_cell]

end Sched

end Cert.Gather

end
-- ==== Proof.State.lean ====
/-
# What a device holds between two steps of the kernel

The kernel's guarded steps are numbered in program order, `0` to `95`: a step sends a slot on the ring, receives it and
passes it to the partner, waits for the exchange with the partner, or waits for its own ring send. `St c n` is what device
`c` holds before step `n`: what it still owes, the state of every slot's four semaphores, and the sources still to be sent.
-/
module

public import proofs.«01_k».proof.Proof.Schedule

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a device's program. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells' records -/

/-- A device's semaphores: the barrier, the local copy's, role `k` of slot `i`. -/
abbrev CI : Type := Unit ⊕ Unit ⊕ (Fin 4 × Slot)
/-- The semaphore an index names. -/
def csem : CI → SemLoc sig
  | .inl _ => .reg barS
  | .inr (.inl _) => .dma copyS
  | .inr (.inr x) => .dma (gs x.1 x.2)
abbrev kcell (x : Dev nD × CI) : GSem nD τ sig := ((x.1 : Thread nD τ), csem x.2)

/-- Every cell's invariant and that its round `0` is open. -/
def records (K : Dev nD × CI → ℕ) : sProp 𝕄 :=
  iprop((bigSep Finset.univ fun x : Dev nD × CI => cellInv ER (sched m) (K x) (kcell x))
    ∗ bigSep Finset.univ fun x : Dev nD × CI => reached ER (kcell x) 0)

instance records_persistent (K : Dev nD × CI → ℕ) : BI.Persistent (records m K) := by unfold records; infer_instance

theorem records_inv (K : Dev nD × CI → ℕ) (x : Dev nD × CI) : records m K ⊢ cellInv ER (sched m) (K x) (kcell x) := by
  classical
  unfold records
  exact sep_elim_left.trans (bigSep_elim (Φ := fun x : Dev nD × CI => cellInv ER (sched m) (K x) (kcell x)) (Finset.mem_univ x))
theorem records_reached (K : Dev nD × CI → ℕ) (x : Dev nD × CI) : records m K ⊢ reached ER (kcell x) 0 := by
  classical
  unfold records
  exact sep_elim_right.trans (bigSep_elim (Φ := fun x : Dev nD × CI => reached ER (kcell x) 0) (Finset.mem_univ x))

abbrev kS (K : Dev nD × CI → ℕ) (k : Fin 4) (i : Slot) (c : Dev nD) : ℕ := K (c, .inr (.inr (k, i)))
theorem rec_inv (K : Dev nD × CI → ℕ) (k : Fin 4) (i : Slot) (c : Dev nD) : records m K ⊢ cellInv ER (sched m) (kS K k i c) (cell k i c) :=
  records_inv m K (c, .inr (.inr (k, i)))
theorem rec_reached (K : Dev nD × CI → ℕ) (k : Fin 4) (i : Slot) (c : Dev nD) : records m K ⊢ reached ER (cell k i c) 0 :=
  records_reached m K (c, .inr (.inr (k, i)))

/-! ## Steps -/

/-- The number of the step doing `k` to slot `i`: `0` send, `1` receive and pass on, `2` wait for the exchange, `3` wait for
    the send. -/
def num (k : Fin 4) (i : Slot) : ℕ := 48 * (k.val / 2) + 16 * i.2.1.val + 4 * i.2.2.val + 2 * (k.val % 2) + i.1.val
/-- How many of a slot's four steps come before step `n`. -/
def ph (n : ℕ) (i : Slot) : ℕ := (Finset.univ.filter fun k : Fin 4 => num k i < n).card

theorem ph_at : ∀ (k : Fin 4) (i : Slot), ph (num k i) i = k.val := by decide +kernel
theorem ph_succ : ∀ (k : Fin 4) (i : Slot), ph (num k i + 1) i = k.val + 1 := by decide +kernel
theorem ph_other : ∀ (k : Fin 4) (i j : Slot), j ≠ i → ph (num k i + 1) j = ph (num k i) j := by decide +kernel
theorem num_inj0 : ∀ i j : Slot, num 0 i = num 0 j → i = j := by decide +kernel
theorem num_inj1 : ∀ i j : Slot, num 1 i = num 1 j → i = j := by decide +kernel
theorem num_ne : ∀ i j : Slot, num 0 i ≠ num 1 j := by decide +kernel
theorem num_lt : ∀ i : Slot, num 0 i < 48 ∧ num 1 i < 48 ∧ 48 ≤ num 2 i ∧ 48 ≤ num 3 i := by decide +kernel

/-! ## What a device still owes -/

/-- The ring send of slot `i`, owed to the device it goes to; -/
def evS (c : Dev nD) (i : Slot) : CellTallies nD τ sig Unit := if snd i c then tallyAt (cell 1 i (next i.1 c)) () N else 0
/-- its exchange, owed to the partner. -/
def evX (c : Dev nD) (i : Slot) : CellTallies nD τ sig Unit := if rcv i c then tallyAt (cell 3 i (partner c)) () N else 0
/-- What device `c` owes before step `n`. -/
def rest (c : Dev nD) (n : ℕ) : CellTallies nD τ sig Unit :=
  (∑ i : Slot, if n ≤ num 0 i then evS c i else 0) + ∑ i : Slot, if n ≤ num 1 i then evX c i else 0

theorem sum_step (e : Slot → CellTallies nD τ sig Unit) (f : Slot → ℕ) (hf : ∀ i j, f i = f j → i = j) (i : Slot) :
    (∑ j, if f i ≤ f j then e j else 0) = (∑ j, if f i + 1 ≤ f j then e j else 0) + e i := by
  have h : e i = ∑ j, if j = i then e j else 0 := (Finset.sum_ite_eq' Finset.univ i e).symm ▸ (if_pos (Finset.mem_univ i)).symm
  rw [h, ← Finset.sum_add_distrib]
  refine Finset.sum_congr rfl fun j _ => ?_
  by_cases hj : j = i
  · subst hj; rw [if_pos (le_refl _), if_neg (by omega), if_pos rfl, zero_add]
  · have : f i ≠ f j := fun h => hj (hf i j h).symm
    rw [if_neg hj, add_zero]
    by_cases hl : f i ≤ f j
    · rw [if_pos hl, if_pos (by omega)]
    · rw [if_neg hl, if_neg (by omega)]
theorem sum_skip (e : Slot → CellTallies nD τ sig Unit) (f : Slot → ℕ) (n : ℕ) (hf : ∀ j, n ≠ f j) :
    (∑ j, if n ≤ f j then e j else 0) = ∑ j, if n + 1 ≤ f j then e j else 0 := by
  refine Finset.sum_congr rfl fun j _ => ?_
  have := hf j
  by_cases hl : n ≤ f j
  · rw [if_pos hl, if_pos (by omega)]
  · rw [if_neg hl, if_neg (by omega)]

theorem rest_send (c : Dev nD) (i : Slot) : rest c (num 0 i) = rest c (num 0 i + 1) + evS c i := by
  unfold rest
  rw [sum_step (evS c) (num 0) num_inj0 i, sum_skip (evX c) (num 1) (num 0 i) (fun j => num_ne i j), add_right_comm]
theorem rest_recv (c : Dev nD) (i : Slot) : rest c (num 1 i) = rest c (num 1 i + 1) + evX c i := by
  unfold rest
  rw [sum_step (evX c) (num 1) num_inj1 i, sum_skip (evS c) (num 0) (num 1 i) (fun j => (num_ne j i).symm), add_assoc]
theorem rest_zero (c : Dev nD) {n : ℕ} (hn : 48 ≤ n) : rest c n = 0 := by
  unfold rest
  rw [Finset.sum_eq_zero fun j _ => if_neg (by have := num_lt j; omega), Finset.sum_eq_zero fun j _ => if_neg (by have := num_lt j; omega), zero_add]

theorem rest_pos {c : Dev nD} {n : ℕ} {g : GSem nD τ sig} {u : Unit} (h : 0 < rest c n g u) :
    (∃ j : Slot, n ≤ num 0 j ∧ g = cell 1 j (next j.1 c)) ∨ ∃ j : Slot, g = cell 3 j (partner c) := by
  by_contra hn
  rw [not_or, not_exists, not_exists] at hn
  refine absurd h (Nat.not_lt.mpr (Nat.le_of_eq ?_))
  have h0 : (∑ i : Slot, if n ≤ num 0 i then evS c i else 0) g u = 0 := by
    rw [Finset.sum_apply, Finsupp.finset_sum_apply]
    refine Finset.sum_eq_zero fun j _ => ?_
    split
    · unfold evS
      split
      · rw [tallyAt_apply]; exact if_neg fun h' => hn.1 j ⟨by assumption, h'.1⟩
      · rfl
    · rfl
  have h1 : (∑ i : Slot, if n ≤ num 1 i then evX c i else 0) g u = 0 := by
    rw [Finset.sum_apply, Finsupp.finset_sum_apply]
    refine Finset.sum_eq_zero fun j _ => ?_
    split
    · unfold evX
      split
      · rw [tallyAt_apply]; exact if_neg fun h' => hn.2 j h'.1
      · rfl
    · rfl
  unfold rest
  rw [Pi.add_apply, Finsupp.add_apply, h0, h1]

/-! ## Levels -/

/-- Every TensorCore semaphore is waited on under the one name. -/
def L (g : GSem nD τ sig) : Finset Unit := if g.1.2 = .tc then {()} else ∅
/-- The level of role `k` of slot `i`: a ring receive in the order of the steps, an exchange above every ring receive. -/
def slotLv (k : Fin 4) (i : Slot) : ℕ := if k = 1 then 2 + 4 * i.2.1.val + i.2.2.val else if k = 3 then 100 else 0
/-- The levels: the barrier at `1`, below what is owed when it is waited on. -/
def semLv : SemLoc sig → ℕ
  | .reg _ => 1
  | .dma q => if q = copyS then 0 else slotLv (dec q).1 (dec q).2
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem lv_cell (k : Fin 4) (i : Slot) (c : Dev nD) (u : Unit) : lv (cell k i c) u = slotLv k i := by
  dsimp only [lv, semLv]; rw [dec_gs, if_neg (gs_ne_copy k i)]

theorem lv_later : ∀ i j : Slot, num 1 i ≤ num 0 j → slotLv 1 i < slotLv 1 j := by decide +kernel
theorem lv_bar : ∀ (k : Fin 4) (j : Slot), k = 1 ∨ k = 3 → 1 < slotLv k j := by decide +kernel
theorem lv_exch : ∀ i j : Slot, slotLv 1 i < slotLv 3 j := by decide +kernel

/-- A device may wait for the ring transfer of slot `i` at its step. -/
theorem mayWait_recv (c : Dev nD) (i : Slot) :
    (levAts L lv : sProp 𝕄) ⊢ MayWait (c : Thread nD τ) (.dma (gs 1 i)) () (rest c (num 1 i)) :=
  MayOwe.of_cut (L := L) (lev := lv) (slotLv 1 i) (fun p hp => by rw [Finset.mem_singleton.mp hp, L_tc]; exact Finset.mem_singleton_self _)
    (fun g u hg => by rcases rest_pos hg with ⟨j, _, rfl⟩ | ⟨j, rfl⟩ <;> exact Finset.mem_singleton_self _)
    (fun p hp => by rw [Finset.mem_singleton.mp hp]; exact Nat.le_of_eq (lv_cell 1 i c ()))
    (fun g u hg => by
      rcases rest_pos hg with ⟨j, hj, rfl⟩ | ⟨j, rfl⟩
      · rw [lv_cell]; exact lv_later i j hj
      · rw [lv_cell]; exact lv_exch i j)
/-- A device may wait for the barrier before the first step. -/
theorem mayWait_bar (c : Dev nD) : (levAts L lv : sProp 𝕄) ⊢ MayWait (c : Thread nD τ) (.reg barS) () (rest c 0) :=
  MayOwe.of_cut (L := L) (lev := lv) 1 (fun p hp => by rw [Finset.mem_singleton.mp hp, L_tc]; exact Finset.mem_singleton_self _)
    (fun g u hg => by rcases rest_pos hg with ⟨j, _, rfl⟩ | ⟨j, rfl⟩ <;> exact Finset.mem_singleton_self _)
    (fun p hp => by rw [Finset.mem_singleton.mp hp]; exact le_refl 1)
    (fun g u hg => by
      rcases rest_pos hg with ⟨j, hj, rfl⟩ | ⟨j, rfl⟩
      · rw [lv_cell]; exact lv_bar 1 j (Or.inl rfl)
      · rw [lv_cell]; exact lv_bar 3 j (Or.inr rfl))

/-! ## The slots -/

/-- A credit for role `k` of slot `i`, if it is in use. -/
def crd (k : Fin 4) (i : Slot) (c : Dev nD) : sProp 𝕄 := if use k i c then cred (tallyAt (cell k i c) () N) else iprop(emp)
/-- What a transfer of role `k` handed over, if it is in use. -/
def got (k : Fin 4) (i : Slot) (c : Dev nD) : sProp 𝕄 := if use k i c then slotPay m k i c else iprop(emp)

abbrev pos (k : Fin 4) (i : Slot) (c : Dev nD) : sProp 𝕄 := atPos ER (cell k i c) 0 ∅ 0
abbrev tok (k : Fin 4) (i : Slot) (c : Dev nD) : sProp 𝕄 := dutyTok ER (cell k i c) 0 0
abbrev zero (k : Fin 4) (i : Slot) (c : Dev nD) : sProp 𝕄 := semVal (cell k i c) 0

/-- Slot `i` of device `c` after `p` of its four steps. -/
def SlotSt (c : Dev nD) (i : Slot) (p : ℕ) : sProp 𝕄 :=
  match p with
  | 0 => iprop((tok 0 i c ∗ tok 1 i (next i.1 c) ∗ dstN m i c) ∗ (tok 2 i c ∗ tok 3 i (partner c) ∗ dstP m i c)
      ∗ (pos 0 i c ∗ pos 1 i c ∗ pos 2 i c ∗ pos 3 i c) ∗ crd 1 i c ∗ crd 3 i c)
  | 1 => iprop((tok 2 i c ∗ tok 3 i (partner c) ∗ dstP m i c) ∗ (pos 0 i c ∗ pos 1 i c ∗ pos 2 i c ∗ pos 3 i c) ∗ crd 0 i c ∗ crd 1 i c ∗ crd 3 i c)
  | 2 => iprop((pos 0 i c ∗ zero 1 i c ∗ pos 2 i c ∗ pos 3 i c) ∗ crd 0 i c ∗ crd 2 i c ∗ crd 3 i c)
  | 3 => iprop((pos 0 i c ∗ zero 1 i c ∗ zero 2 i c ∗ zero 3 i c) ∗ crd 0 i c ∗ got m 2 i c ∗ got m 3 i c)
  | _ => iprop((zero 0 i c ∗ zero 1 i c ∗ zero 2 i c ∗ zero 3 i c) ∗ got m 2 i c ∗ got m 3 i c)

set_option backward.proofsInPublic true in
/-- The slot of the hop before. -/
def before (i : Slot) : Slot := (i.1, ⟨i.2.1.val - 1, by have := i.2.1.isLt; omega⟩, i.2.2)
/-- Before step `n` the source of slot `i` is at hand: it has arrived and is not yet sent. -/
def avail (n : ℕ) (i : Slot) : Bool := (i.2.1.val = 0 || num 1 (before i) < n) && decide (n ≤ num 0 i)

/-- What is left to send before step `n`. -/
def SrcSt (c : Dev nD) (n : ℕ) (i : Slot) : sProp 𝕄 := if avail n i then Src m i.1 i.2.2 i.2.1.val c else iprop(emp)

/-- What device `c` holds before step `n`. -/
def St (K : Dev nD × CI → ℕ) (c : Dev nD) (n : ℕ) : sProp 𝕄 :=
  iprop(records m K ∗ levAts L lv ∗ (∃ W, owes (c : Thread nD τ) (rest c n) W)
    ∗ (bigSep Finset.univ fun i : Slot => SlotSt m c i (ph n i)) ∗ bigSep Finset.univ fun i : Slot => SrcSt m c n i)

/-- Taking one member of a family out, and putting another one back. -/
theorem bigSep_swap {I : Type} [Fintype I] [DecidableEq I] (Φ Ψ : I → sProp 𝕄) (i : I) (h : ∀ j, j ≠ i → Φ j = Ψ j) :
    bigSep Finset.univ Φ ⊢ iprop(Φ i ∗ (Ψ i -∗ bigSep Finset.univ Ψ)) := by
  have h1 : bigSep Finset.univ Φ = iprop(Φ i ∗ bigSep (Finset.univ.erase i) Ψ) :=
    (bigSep_univ_split i).trans (congrArg (fun X => iprop(Φ i ∗ X)) (bigSep_congr fun j hj => h j (Finset.ne_of_mem_erase hj)))
  have h2 : bigSep Finset.univ Ψ = iprop(Ψ i ∗ bigSep (Finset.univ.erase i) Ψ) := bigSep_univ_split i
  rw [h1, h2]
  iintro ⟨H, Hr⟩
  isplitl [H]; · iexact H
  iintro H
  isplitl [H]; · iexact H
  iexact Hr

end Cert.Gather

end
-- ==== Proof.Steps.lean ====
/-
# One step of the kernel at a time

Each lemma takes the state before step `n` to the state after it, through the step's guarded block.
-/
module

public import proofs.«01_k».proof.Proof.State

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The state around one step -/

/-- At step `num k i` slot `i` goes from its phase `k` to the next, and no other slot moves. -/
theorem slot_open (c : Dev nD) (k : Fin 4) (i : Slot) {p p' : ℕ} (hp : k.val = p) (hp' : k.val + 1 = p') :
    (bigSep Finset.univ fun j : Slot => SlotSt m c j (ph (num k i) j))
      ⊢ iprop(SlotSt m c i p ∗ (SlotSt m c i p' -∗ bigSep Finset.univ fun j : Slot => SlotSt m c j (ph (num k i + 1) j))) := by
  have h := bigSep_swap (fun j : Slot => SlotSt m c j (ph (num k i) j)) (fun j : Slot => SlotSt m c j (ph (num k i + 1) j)) i
    (fun j hj => by rw [ph_other k i j hj])
  subst hp hp'
  rwa [ph_at, ph_succ] at h

theorem avail_at : ∀ i : Slot, avail (num 0 i) i = true ∧ avail (num 0 i + 1) i = false := by decide +kernel
theorem avail_send : ∀ i j : Slot, j ≠ i → avail (num 0 i) j = avail (num 0 i + 1) j := by decide +kernel
/-- The slot of the next hop. -/
def after (i : Slot) : Slot := (i.1, (⟨(i.2.1.val + 1) % 3, Nat.mod_lt _ (by decide)⟩, i.2.2))
theorem avail_recv : ∀ i j : Slot, (j ≠ after i ∨ i.2.1 = 2) → avail (num 1 i) j = avail (num 1 i + 1) j := by decide +kernel
theorem avail_after : ∀ i : Slot, i.2.1 ≠ 2 → avail (num 1 i) (after i) = false ∧ avail (num 1 i + 1) (after i) = true := by decide +kernel
theorem avail_wait : ∀ (k : Fin 4) (i j : Slot), (k = 2 ∨ k = 3) → avail (num k i) j = avail (num k i + 1) j := by decide +kernel

/-- A later hop sends what the hop before received. -/
theorem Src_after (i : Slot) (c : Dev nD) (h : i.2.1 ≠ 2) :
    Src m (after i).1 (after i).2.2 (after i).2.1.val c = if rcv i c then oPts fullShare.right (rb i c) c (G m c) else iprop(emp) := by
  obtain ⟨d, h', s⟩ := i
  match h', h with
  | 0, _ => rfl
  | 1, _ => rfl
  | 2, h => exact absurd rfl h

theorem src_send (c : Dev nD) (i : Slot) :
    (bigSep Finset.univ fun j : Slot => SrcSt m c (num 0 i) j)
      ⊢ iprop(Src m i.1 i.2.2 i.2.1.val c ∗ bigSep Finset.univ fun j : Slot => SrcSt m c (num 0 i + 1) j) := by
  have h := bigSep_swap (fun j : Slot => SrcSt m c (num 0 i) j) (fun j : Slot => SrcSt m c (num 0 i + 1) j) i
    (fun j hj => by unfold SrcSt; rw [avail_send i j hj])
  have h1 : SrcSt m c (num 0 i) i = Src m i.1 i.2.2 i.2.1.val c := by unfold SrcSt; rw [(avail_at i).1, if_pos rfl]
  have h2 : SrcSt m c (num 0 i + 1) i = iprop(emp) := by unfold SrcSt; rw [(avail_at i).2]; exact if_neg (by decide)
  rw [h1, h2] at h
  refine h.trans ?_
  iintro ⟨Hs, Hr⟩
  isplitl [Hs]; · iexact Hs
  iapply Hr
  iempintro

theorem src_recv (c : Dev nD) (i : Slot) :
    iprop((if rcv i c then oPts fullShare.right (rb i c) c (G m c) else iprop(emp)) ∗ bigSep Finset.univ fun j : Slot => SrcSt m c (num 1 i) j)
      ⊢ bigSep Finset.univ fun j : Slot => SrcSt m c (num 1 i + 1) j := by
  by_cases h2 : i.2.1 = 2
  · rw [bigSep_congr (Φ := fun j : Slot => SrcSt m c (num 1 i) j) (Ψ := fun j : Slot => SrcSt m c (num 1 i + 1) j)
      fun j _ => by unfold SrcSt; rw [avail_recv i j (Or.inr h2)]]
    iintro ⟨-, H⟩
    iexact H
  · have h := bigSep_swap (fun j : Slot => SrcSt m c (num 1 i) j) (fun j : Slot => SrcSt m c (num 1 i + 1) j) (after i)
      (fun j hj => by unfold SrcSt; rw [avail_recv i j (Or.inl hj)])
    have h1 : SrcSt m c (num 1 i + 1) (after i) = if rcv i c then oPts fullShare.right (rb i c) c (G m c) else iprop(emp) := by
      unfold SrcSt; rw [(avail_after i h2).2, if_pos rfl, Src_after m i c h2]
    rw [h1] at h
    iintro ⟨Hn, H⟩
    ihave H' := h $$ H
    icases H' with ⟨-, Hr⟩
    iapply Hr
    iexact Hn

theorem src_wait (c : Dev nD) (k : Fin 4) (i : Slot) (hk : k = 2 ∨ k = 3) :
    (bigSep Finset.univ fun j : Slot => SrcSt m c (num k i) j) = bigSep Finset.univ fun j : Slot => SrcSt m c (num k i + 1) j :=
  bigSep_congr fun j _ => by unfold SrcSt; rw [avail_wait k i j hk]

/-! ## The two effects of a step -/

/-- A transfer of slot `i` to device `c'`, from a source at hand into block `b`. -/
theorem send_core (K : Dev nD × CI → ℕ) {c c' : Dev nD} {k1 k2 : Fin 4} {i : Slot} {b : Fin 32} {sM : Memref sig .tc .hbm S2048x1024 .f32}
    {hsc : (ob b).view.ref.isScScratch = false} {hsrc : sM.view.WordExact} {hdst : (ob b).view.WordExact}
    {hsem : DmaTarget.Typed .hbm (.dma (gs k2 i)) (.remote (Dev.tc c') (ob b) (.dma (gs k1 i)) hsc)}
    (hu1 : use k1 i c = true) (hu2 : use k2 i c' = true)
    {q : PosShare TreeShare} {fs : Buf (Elt F) (sM.view.loc (c : Thread nD τ))} {fd : (main_v1 : Ref sig .tc).ty.Contents (Elt F)}
    {O : CellTallies nD τ sig Unit} {W : Waits sig Unit}
    (hp1 : (sM.view.loc (c : Thread nD τ) ↦[sM.view.set]{q} fs) ⊢ slotPay m k1 i c)
    (hp2 : ((ob b).view.loc (c' : Thread nD τ) ↦[(ob b).view.set]{fullShare} ((ob b).view.write (Elt F) fd (sM.view.read (Elt F) fs) Finset.univ)) ⊢ slotPay m k2 i c')
    {α : Type} {k : PUnit → Prog (TpuEff nD τ sig (Elt F) Λ₀ .tc) α} {Q : α → sProp 𝕄} :
    iprop(records m K ∗ (sM.view.loc (c : Thread nD τ) ↦[sM.view.set]{q} fs) ∗ oPts fullShare b c' fd
        ∗ owes (c : Thread nD τ) (O + tallyAt (cell k2 i c') () N) W ∗ tok k1 i c ∗ tok k2 i c')
      ⊢ iprop(((crd k1 i c ∗ owes (c : Thread nD τ) O W) -∗ WP c (k ⟨⟩) Q)
          -∗ WP c (.op (.enqueueDma sM (.remote (Dev.tc c') (ob b) (.dma (gs k1 i)) hsc) (.dma (gs k2 i)) hsrc hdst hsem) k) Q) := by
  have hcrd : crd (F := F) k1 i c = cred (tallyAt (cell k1 i c) () N) := by unfold crd; rw [hu1, if_pos rfl]
  have hW := Rounds.wp_send_pointsTo (defs := defs₀ (F := F)) (Q := Q) (Γ := []) 𝒱₀ ER (sched m) (c : Thread nD τ) none (c' := (c' : Thread nD τ)) (src := sM) (dst := ob b) (hsc := hsc)
    (sS := .dma (gs k1 i)) (sem := .dma (gs k2 i)) (hsrc := hsrc) (hdst := hdst) (hsem := hsem) (k := k) (q := q) (fs := fs) (fd := fd)
    (r₁ := 0) (r₂ := 0) (d₁ := 0) (d₂ := 0) (κ₁ := kS K k1 i c) (κ₂ := kS K k2 i c')
    (by rw [duties_cell m c k1 i hu1]; exact Finset.mem_singleton_self _) (by rw [duties_cell m c' k2 i hu2]; exact Finset.mem_singleton_self _)
    () () N (N_ob b) (amount_cell m c k1 i 0) (amount_cell m c' k2 i 0) O rfl (W := W)
    (by rw [payload_cell]; exact hp1) (by rw [payload_cell]; exact hp2) (Es := Set.univ)
  rw [hcrd]
  refine .trans ?_ hW
  iintro ⟨#HR, Hs, Hd, HO, Ht1, Ht2⟩
  ihave #Hc1 := (rec_inv m K k1 i c) $$ HR
  ihave #Hc2 := (rec_inv m K k2 i c') $$ HR
  ihave #Hr1 := (rec_reached m K k1 i c) $$ HR
  ihave #Hr2 := (rec_reached m K k2 i c') $$ HR
  unfold oPts
  isplitr; · iexact Hc1
  isplitr; · iexact Hc2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-- The wait for role `k` of slot `i`: it takes what the transfer handed over, and the semaphore is at zero for good. -/
theorem wait_core (K : Dev nD × CI → ℕ) {c : Dev nD} {k : Fin 4} {i : Slot} {sM dM : Memref sig .tc .hbm S2048x1024 .f32}
    {hsrc : sM.view.WordExact} {hdst : dM.view.WordExact} (hN : dM.view.dmaCredit = N)
    (hu : use k i c = true) {O : CellTallies nD τ sig Unit} {W : Waits sig Unit}
    {α : Type} {p : PUnit → Prog (TpuEff nD τ sig (Elt F) Λ₀ .tc) α} {Q : α → sProp 𝕄} :
    iprop(records m K ∗ crd k i c ∗ owes (c : Thread nD τ) O W ∗ MayWait (c : Thread nD τ) (.dma (gs k i)) () O ∗ pos k i c)
      ⊢ iprop((((∃ W, owes (c : Thread nD τ) O W) ∗ zero k i c ∗ slotPay m k i c) -∗ WP c (p ⟨⟩) Q)
          -∗ WP c (.op (.waitDma2 (gs k i) sM dM hsrc hdst) p) Q) := by
  have hcrd : crd (F := F) k i c = cred (tallyAt (cell k i c) () N) := by unfold crd; rw [hu, if_pos rfl]
  have hW := Rounds.wp_wait_rest_token (defs := defs₀ (F := F)) (Q := Q) 𝒱₀ ER (sched m) (c : Thread nD τ) none (κ := kS K k i c)
    (wpE_waitDma2_eq 𝒱₀ (c : Thread nD τ) none Set.univ (sem := gs k i) (src := sM) (dst := dM) (hsrc := hsrc) (hdst := hdst)) (Set.mem_univ _) (k := p) ()
    (O := O) (W := W) (R := 0) (m := 0) (T := ∅) (by rw [expect_cell m c k i hu, hN, Nat.zero_add])
  rw [hN, rest_cell m c k i hu] at hW
  rw [hcrd]
  iintro ⟨#HR, Hc, HO, HM, Hp⟩ Hk
  ihave #Hi := (rec_inv m K k i c) $$ HR
  iapply hW $$ [Hc HO HM Hp]
  · isplitr; · iexact Hi
    isplitl [Hc]; · iexact Hc
    isplitl [HO]; · iexact HO
    isplitl [HM]; · iexact HM
    iexact Hp
  iintro ⟨HO, Hp, -, Hpay⟩
  imod (cell_close ER (sched m) (Set.mem_univ (kS K k i c)) (fun h => h) (R := 0 + 1) (fun r hr => duties_later m (cell k i c) r (by omega))) $$ [Hp] with Hz
  · isplitr; · iexact Hi
    iexact Hp
  iapply Hk
  isplitl [HO]; · iexists _; iexact HO
  isplitl [Hz]; · iexact Hz
  iexact Hpay

/-- A cell not in use is at zero for good. -/
theorem close_unused (K : Dev nD × CI → ℕ) (c : Dev nD) (k : Fin 4) (i : Slot) (hu : use k i c = false) :
    iprop(records m K ∗ pos k i c) ⊢ iprop(|={Set.univ}=> zero k i c) := by
  iintro ⟨#HR, Hp⟩
  ihave #Hi := (rec_inv m K k i c) $$ HR
  iapply (cell_close ER (sched m) (Set.mem_univ (kS K k i c)) (fun h => h) (R := 0) (fun r _ => duties_unused m c k i hu r))
  isplitr; · iexact Hi
  iexact Hp

/-! ## A slot's four steps, taken or skipped -/

theorem src_hop0 : ∀ (i : Slot) (c : Dev nD), i.2.1 = 0 → snd i c = true → src (next i.1 c) (rb i (next i.1 c)).val = c ∧ (rb i (next i.1 c)).val % 8 = (xb i.2.2 c).val := by
  decide +kernel
theorem src_hop : ∀ (i : Slot) (c : Dev nD), i.2.1 ≠ 0 → snd i c = true →
    rcv (before i) c = true ∧ rb i (next i.1 c) = rb (before i) c ∧ src c (rb i (next i.1 c)).val = src (next i.1 c) (rb i (next i.1 c)).val := by
  decide +kernel
theorem src_partner : ∀ (i : Slot) (c : Dev nD), rcv i c = true → src c (rb i c).val = src (partner c) (rb i c).val := by decide +kernel

theorem owes_some (c : Dev nD) (O : CellTallies nD τ sig Unit) (W : Waits sig Unit) :
    (owes (c : Thread nD τ) O W : sProp 𝕄) ⊢ iprop(∃ W, owes (c : Thread nD τ) O W) := by
  iintro H; iexists W; iexact H

variable (K : Dev nD × CI → ℕ) (c : Dev nD) (i : Slot)

/-- The ring send of a slot in use. -/
theorem send_at {α : Type} {J : PUnit.{1} → Prog (TpuEff nD τ sig (Elt F) Λ₀ .tc) α} {Q : α → sProp 𝕄}
    {sM : Memref sig .tc .hbm S2048x1024 .f32}
    {hsc : (ob (rb i (next i.1 c))).view.ref.isScScratch = false} {hsrc : sM.view.WordExact} {hdst : (ob (rb i (next i.1 c))).view.WordExact}
    {hsem : DmaTarget.Typed .hbm (.dma (gs 1 i)) (.remote (Dev.tc (next i.1 c)) (ob (rb i (next i.1 c))) (.dma (gs 0 i)) hsc)}
    (hs : snd i c = true) {q : PosShare TreeShare} {fs : Buf (Elt F) (sM.view.loc (c : Thread nD τ))}
    (hp0 : Src m i.1 i.2.2 i.2.1.val c = (sM.view.loc (c : Thread nD τ) ↦[sM.view.set]{q} fs))
    (hp2 : ∀ fd, ∀ e ∈ (ob (rb i (next i.1 c))).view.set,
      (ob (rb i (next i.1 c))).view.write (Elt F) fd (sM.view.read (Elt F) fs) Finset.univ e = G m (next i.1 c) e)
    (h : St m K c (num 0 i + 1) ⊢ WP c (J ⟨⟩) Q) :
    St m K c (num 0 i) ⊢ WP c (.op (.enqueueDma sM (.remote (Dev.tc (next i.1 c)) (ob (rb i (next i.1 c))) (.dma (gs 0 i)) hsc) (.dma (gs 1 i)) hsrc hdst hsem) fun _ => J ⟨⟩) Q := by
  have hev : evS c i = tallyAt (cell 1 i (next i.1 c)) () N := by unfold evS; rw [hs, if_pos rfl]
  have hdn : dstN m i c = oPts fullShare (rb i (next i.1 c)) (next i.1 c) (m ((next i.1 c : Thread nD τ).loc main_v1)) := by unfold dstN; rw [hs, if_pos rfl]
  have hS := fun W => send_core m K (W := W) (c := c) (c' := next i.1 c) (k1 := 0) (k2 := 1) (i := i) (b := rb i (next i.1 c)) (sM := sM) (hsc := hsc) (hsrc := hsrc) (hdst := hdst) (hsem := hsem)
    hs hs (q := q) (fs := fs) (fd := m ((next i.1 c : Thread nD τ).loc main_v1)) (O := rest c (num 0 i + 1))
    (Entails.of_eq hp0.symm) (Entails.of_eq (pointsTo_congr (hp2 _))) (k := fun _ => J ⟨⟩) (Q := Q)
  unfold St
  rw [rest_send, hev]
  iintro ⟨#HR, #HL, ⟨%W, HO⟩, Hsl, Hsrc⟩
  ihave Hsl := (slot_open m c 0 i (p := 0) (p' := 1) rfl rfl) $$ Hsl
  icases Hsl with ⟨Hi, Hsl⟩
  ihave Hsrc := (src_send m c i) $$ Hsrc
  icases Hsrc with ⟨Hs, Hsrc⟩
  simp only [SlotSt, hdn, hp0]
  icases Hi with ⟨⟨Ht0, Ht1, Hd⟩, HX, HP, Hc1, Hc3⟩
  iapply (hS _) $$ [Hs Hd HO Ht0 Ht1]
  · isplitr; · iexact HR
    isplitl [Hs]; · iexact Hs
    isplitl [Hd]; · iexact Hd
    isplitl [HO]; · iexact HO
    isplitl [Ht0]; · iexact Ht0
    iexact Ht1
  iintro ⟨Hc0, HO⟩
  iapply h
  unfold St
  isplitr; · iexact HR
  isplitr; · iexact HL
  isplitl [HO]; · iapply (owes_some c _ W); iexact HO
  isplitr [Hsrc]
  · iapply Hsl
    isplitl [HX]; · iexact HX
    isplitl [HP]; · iexact HP
    isplitl [Hc0]; · iexact Hc0
    isplitl [Hc1]; · iexact Hc1
    iexact Hc3
  iexact Hsrc

/-- A ring send not taken. -/
theorem send_skip (hs : snd i c = false) : St m K c (num 0 i) ⊢ St m K c (num 0 i + 1) := by
  have hev : evS c i = 0 := by unfold evS; rw [hs]; exact if_neg (by decide)
  have hcr : crd (F := F) 0 i c = iprop(emp) := by unfold crd; rw [show use 0 i c = false from hs]; exact if_neg (by decide)
  unfold St
  rw [rest_send, hev, add_zero]
  iintro ⟨HR, HL, HO, Hsl, Hsrc⟩
  ihave Hsl := (slot_open m c 0 i (p := 0) (p' := 1) rfl rfl) $$ Hsl
  icases Hsl with ⟨Hi, Hsl⟩
  ihave Hsrc := (src_send m c i) $$ Hsrc
  icases Hsrc with ⟨-, Hsrc⟩
  isplitl [HR]; · iexact HR
  isplitl [HL]; · iexact HL
  isplitl [HO]; · iexact HO
  isplitr [Hsrc]
  · iapply Hsl
    simp only [SlotSt, hcr]
    icases Hi with ⟨-, HX, HP, Hc1, Hc3⟩
    isplitl [HX]; · iexact HX
    isplitl [HP]; · iexact HP
    isplitr; · iempintro
    isplitl [Hc1]; · iexact Hc1
    iexact Hc3
  iexact Hsrc

/-- The ring receive of a slot in use, and its passing on to the partner. -/
theorem recv_at {α : Type} {J : PUnit.{1} → Prog (TpuEff nD τ sig (Elt F) Λ₀ .tc) α} {Q : α → sProp 𝕄}
    {sM dM : Memref sig .tc .hbm S2048x1024 .f32} {hsrc : sM.view.WordExact} {hdst : dM.view.WordExact} (hN : dM.view.dmaCredit = N)
    {hsc : (ob (rb i c)).view.ref.isScScratch = false} {hsrc' hdst' : (ob (rb i c)).view.WordExact}
    {hsem : DmaTarget.Typed .hbm (.dma (gs 3 i)) (.remote (Dev.tc (partner c)) (ob (rb i c)) (.dma (gs 2 i)) hsc)}
    (hs : rcv i c = true) (h : St m K c (num 1 i + 1) ⊢ WP c (J ⟨⟩) Q) :
    St m K c (num 1 i) ⊢ WP c (.op (.waitDma2 (gs 1 i) sM dM hsrc hdst) fun _ =>
      .op (.enqueueDma (ob (rb i c)) (.remote (Dev.tc (partner c)) (ob (rb i c)) (.dma (gs 2 i)) hsc) (.dma (gs 3 i)) hsrc' hdst' hsem) fun _ => J ⟨⟩) Q := by
  have hev : evX c i = tallyAt (cell 3 i (partner c)) () N := by unfold evX; rw [hs, if_pos rfl]
  have hdp : dstP m i c = oPts fullShare (rb i c) (partner c) (m ((partner c : Thread nD τ).loc main_v1)) := by unfold dstP; rw [hs, if_pos rfl]
  have hS := fun W => send_core m K (W := W) (c := c) (c' := partner c) (k1 := 2) (k2 := 3) (i := i) (b := rb i c) (sM := ob (rb i c)) (hsc := hsc) (hsrc := hsrc') (hdst := hdst') (hsem := hsem)
    hs ((rcv_partner i c).trans hs) (q := fullShare.left) (fs := G m c) (fd := m ((partner c : Thread nD τ).loc main_v1)) (O := rest c (num 1 i + 1))
    (Entails.of_eq rfl) (Entails.of_eq (by
      show _ = oPts fullShare (rb i (partner (partner c))) (partner c) (G m (partner c))
      rw [partner_partner]
      exact pointsTo_congr (land_ob m c (partner c) (rb i c) (src_partner i c hs) _))) (k := fun _ => J ⟨⟩) (Q := Q)
  have hW := fun W => wait_core m K (W := W) (c := c) (k := 1) (i := i) (sM := sM) (dM := dM) (hsrc := hsrc) (hdst := hdst) hN hs (O := rest c (num 1 i))
    (p := fun _ => .op (.enqueueDma (ob (rb i c)) (.remote (Dev.tc (partner c)) (ob (rb i c)) (.dma (gs 2 i)) hsc) (.dma (gs 3 i)) hsrc' hdst' hsem) fun _ => J ⟨⟩) (Q := Q)
  have hsp : slotPay m 1 i c ⊢ iprop(((ob (rb i c)).view.loc (c : Thread nD τ) ↦[(ob (rb i c)).view.set]{fullShare.left} G m c) ∗ oPts fullShare.right (rb i c) c (G m c)) :=
    (pointsTo_share (PosShare.mem_left_op_right fullShare)).1
  unfold St
  iintro ⟨#HR, #HL, ⟨%W, HO⟩, Hsl, Hsrc⟩
  ihave Hsl := (slot_open m c 1 i (p := 1) (p' := 2) rfl rfl) $$ Hsl
  icases Hsl with ⟨Hi, Hsl⟩
  simp only [SlotSt, hdp]
  icases Hi with ⟨⟨Ht2, Ht3, Hd⟩, ⟨Hp0, Hp1, Hp2, Hp3⟩, Hc0, Hc1, Hc3⟩
  iapply (hW _) $$ [Hc1 HO Hp1]
  · isplitr; · iexact HR
    isplitl [Hc1]; · iexact Hc1
    isplitl [HO]; · iexact HO
    isplitr; · iapply (mayWait_recv c i); iexact HL
    iexact Hp1
  rw [rest_recv, hev]
  iintro ⟨⟨%W', HO⟩, Hz, Hpay⟩
  ihave Hpay := hsp $$ Hpay
  icases Hpay with ⟨Hl, Hr⟩
  iapply (hS _) $$ [Hl Hd HO Ht2 Ht3]
  · isplitr; · iexact HR
    isplitl [Hl]; · iexact Hl
    isplitl [Hd]; · iexact Hd
    isplitl [HO]; · iexact HO
    isplitl [Ht2]; · iexact Ht2
    iexact Ht3
  iintro ⟨Hc2, HO⟩
  ihave Hsrc := (src_recv m c i) $$ [Hr Hsrc]
  · isplitl [Hr]
    · rw [hs, if_pos rfl]; iexact Hr
    iexact Hsrc
  iapply h
  unfold St
  isplitr; · iexact HR
  isplitr; · iexact HL
  isplitl [HO]; · iapply (owes_some c _ W'); iexact HO
  isplitr [Hsrc]
  · iapply Hsl
    isplitl [Hp0 Hz Hp2 Hp3]
    · isplitl [Hp0]; · iexact Hp0
      isplitl [Hz]; · iexact Hz
      isplitl [Hp2]; · iexact Hp2
      iexact Hp3
    isplitl [Hc0]; · iexact Hc0
    isplitl [Hc2]; · iexact Hc2
    iexact Hc3
  iexact Hsrc

/-- A ring receive not taken. -/
theorem recv_skip (hs : rcv i c = false) : St m K c (num 1 i) ⊢ iprop(|={Set.univ}=> St m K c (num 1 i + 1)) := by
  have hev : evX c i = 0 := by unfold evX; rw [hs]; exact if_neg (by decide)
  have hcr : crd (F := F) 2 i c = iprop(emp) := by unfold crd; rw [show use 2 i c = false from hs]; exact if_neg (by decide)
  unfold St
  rw [rest_recv, hev, add_zero]
  iintro ⟨#HR, HL, HO, Hsl, Hsrc⟩
  ihave Hsl := (slot_open m c 1 i (p := 1) (p' := 2) rfl rfl) $$ Hsl
  icases Hsl with ⟨Hi, Hsl⟩
  ihave Hsrc := (src_recv m c i) $$ [Hsrc]
  · isplitr
    · rw [hs, if_neg (by decide)]; iempintro
    iexact Hsrc
  simp only [SlotSt, hcr]
  icases Hi with ⟨-, ⟨Hp0, Hp1, Hp2, Hp3⟩, Hc0, -, Hc3⟩
  imod (close_unused m K c 1 i hs) $$ [Hp1] with Hz
  · isplitr; · iexact HR
    iexact Hp1
  imodintro
  isplitr; · iexact HR
  isplitl [HL]; · iexact HL
  isplitl [HO]; · iexact HO
  isplitr [Hsrc]
  · iapply Hsl
    isplitl [Hp0 Hz Hp2 Hp3]
    · isplitl [Hp0]; · iexact Hp0
      isplitl [Hz]; · iexact Hz
      isplitl [Hp2]; · iexact Hp2
      iexact Hp3
    isplitl [Hc0]; · iexact Hc0
    isplitr; · iempintro
    iexact Hc3
  iexact Hsrc

theorem got_use (k : Fin 4) (h : use k i c = true) : got m k i c = slotPay m k i c := by unfold got; rw [h, if_pos rfl]
theorem got_unused (k : Fin 4) (h : use k i c = false) : got m k i c = iprop(emp) := by unfold got; rw [h]; exact if_neg (by decide)

/-- The wait for the exchange of a slot in use: the landing, then the device's own transfer. -/
theorem exch_at {α : Type} {J : PUnit.{1} → Prog (TpuEff nD τ sig (Elt F) Λ₀ .tc) α} {Q : α → sProp 𝕄}
    {sM dM sM' dM' : Memref sig .tc .hbm S2048x1024 .f32} {hsrc : sM.view.WordExact} {hdst : dM.view.WordExact}
    {hsrc' : sM'.view.WordExact} {hdst' : dM'.view.WordExact} (hN : dM.view.dmaCredit = N) (hN' : dM'.view.dmaCredit = N)
    (hs : rcv i c = true) (h : St m K c (num 2 i + 1) ⊢ WP c (J ⟨⟩) Q) :
    St m K c (num 2 i) ⊢ WP c (.op (.waitDma2 (gs 3 i) sM dM hsrc hdst) fun _ => .op (.waitDma2 (gs 2 i) sM' dM' hsrc' hdst') fun _ => J ⟨⟩) Q := by
  have hW := fun W => wait_core m K (W := W) (c := c) (k := 3) (i := i) (sM := sM) (dM := dM) (hsrc := hsrc) (hdst := hdst) hN hs (O := 0)
    (p := fun _ => .op (.waitDma2 (gs 2 i) sM' dM' hsrc' hdst') fun _ => J ⟨⟩) (Q := Q)
  have hW' := fun W => wait_core m K (W := W) (c := c) (k := 2) (i := i) (sM := sM') (dM := dM') (hsrc := hsrc') (hdst := hdst') hN' hs (O := 0) (p := fun _ => J ⟨⟩) (Q := Q)
  unfold St
  rw [rest_zero c (num_lt i).2.2.1, src_wait m c 2 i (Or.inl rfl)]
  iintro ⟨#HR, #HL, ⟨%W, HO⟩, Hsl, Hsrc⟩
  ihave Hsl := (slot_open m c 2 i (p := 2) (p' := 3) rfl rfl) $$ Hsl
  icases Hsl with ⟨Hi, Hsl⟩
  simp only [SlotSt]
  icases Hi with ⟨⟨Hp0, Hp1, Hp2, Hp3⟩, Hc0, Hc2, Hc3⟩
  iapply (hW _) $$ [Hc3 HO Hp3]
  · isplitr; · iexact HR
    isplitl [Hc3]; · iexact Hc3
    isplitl [HO]; · iexact HO
    isplitr; · rw [MayWait_zero]; iempintro
    iexact Hp3
  iintro ⟨⟨%W', HO⟩, Hz3, Hg3⟩
  iapply (hW' _) $$ [Hc2 HO Hp2]
  · isplitr; · iexact HR
    isplitl [Hc2]; · iexact Hc2
    isplitl [HO]; · iexact HO
    isplitr; · rw [MayWait_zero]; iempintro
    iexact Hp2
  iintro ⟨⟨%W'', HO⟩, Hz2, Hg2⟩
  iapply h
  unfold St
  rw [rest_zero c (Nat.le_succ_of_le (num_lt i).2.2.1)]
  isplitr; · iexact HR
  isplitr; · iexact HL
  isplitl [HO]; · iapply (owes_some c _ W''); iexact HO
  isplitr [Hsrc]
  · iapply Hsl
    simp only [SlotSt, got_use m c i 2 hs, got_use m c i 3 hs]
    isplitl [Hp0 Hp1 Hz2 Hz3]
    · isplitl [Hp0]; · iexact Hp0
      isplitl [Hp1]; · iexact Hp1
      isplitl [Hz2]; · iexact Hz2
      iexact Hz3
    isplitl [Hc0]; · iexact Hc0
    isplitl [Hg2]; · iexact Hg2
    iexact Hg3
  iexact Hsrc

/-- An exchange not taken. -/
theorem exch_skip (hs : rcv i c = false) : St m K c (num 2 i) ⊢ iprop(|={Set.univ}=> St m K c (num 2 i + 1)) := by
  unfold St
  rw [rest_zero c (num_lt i).2.2.1, rest_zero c (Nat.le_succ_of_le (num_lt i).2.2.1), src_wait m c 2 i (Or.inl rfl)]
  iintro ⟨#HR, HL, HO, Hsl, Hsrc⟩
  ihave Hsl := (slot_open m c 2 i (p := 2) (p' := 3) rfl rfl) $$ Hsl
  icases Hsl with ⟨Hi, Hsl⟩
  simp only [SlotSt, got_unused m c i 2 hs, got_unused m c i 3 hs]
  icases Hi with ⟨⟨Hp0, Hp1, Hp2, Hp3⟩, Hc0, -, -⟩
  imod (close_unused m K c 2 i hs) $$ [Hp2] with Hz2
  · isplitr; · iexact HR
    iexact Hp2
  imod (close_unused m K c 3 i hs) $$ [Hp3] with Hz3
  · isplitr; · iexact HR
    iexact Hp3
  imodintro
  isplitr; · iexact HR
  isplitl [HL]; · iexact HL
  isplitl [HO]; · iexact HO
  isplitr [Hsrc]
  · iapply Hsl
    isplitl [Hp0 Hp1 Hz2 Hz3]
    · isplitl [Hp0]; · iexact Hp0
      isplitl [Hp1]; · iexact Hp1
      isplitl [Hz2]; · iexact Hz2
      iexact Hz3
    isplitl [Hc0]; · iexact Hc0
    isplitr; · iempintro
    iempintro
  iexact Hsrc

/-- The wait for the ring send of a slot in use. -/
theorem sent_at {α : Type} {J : PUnit.{1} → Prog (TpuEff nD τ sig (Elt F) Λ₀ .tc) α} {Q : α → sProp 𝕄}
    {sM dM : Memref sig .tc .hbm S2048x1024 .f32} {hsrc : sM.view.WordExact} {hdst : dM.view.WordExact} (hN : dM.view.dmaCredit = N)
    (hs : snd i c = true) (h : St m K c (num 3 i + 1) ⊢ WP c (J ⟨⟩) Q) :
    St m K c (num 3 i) ⊢ WP c (.op (.waitDma2 (gs 0 i) sM dM hsrc hdst) fun _ => J ⟨⟩) Q := by
  have hW := fun W => wait_core m K (W := W) (c := c) (k := 0) (i := i) (sM := sM) (dM := dM) (hsrc := hsrc) (hdst := hdst) hN hs (O := 0) (p := fun _ => J ⟨⟩) (Q := Q)
  unfold St
  rw [rest_zero c (num_lt i).2.2.2, src_wait m c 3 i (Or.inr rfl)]
  iintro ⟨#HR, #HL, ⟨%W, HO⟩, Hsl, Hsrc⟩
  ihave Hsl := (slot_open m c 3 i (p := 3) (p' := 4) rfl rfl) $$ Hsl
  icases Hsl with ⟨Hi, Hsl⟩
  simp only [SlotSt]
  icases Hi with ⟨⟨Hp0, Hp⟩, Hc0, Hg⟩
  iapply (hW _) $$ [Hc0 HO Hp0]
  · isplitr; · iexact HR
    isplitl [Hc0]; · iexact Hc0
    isplitl [HO]; · iexact HO
    isplitr; · rw [MayWait_zero]; iempintro
    iexact Hp0
  iintro ⟨⟨%W', HO⟩, Hz, -⟩
  iapply h
  unfold St
  rw [rest_zero c (Nat.le_succ_of_le (num_lt i).2.2.2)]
  isplitr; · iexact HR
  isplitr; · iexact HL
  isplitl [HO]; · iapply (owes_some c _ W'); iexact HO
  isplitr [Hsrc]
  · iapply Hsl
    isplitl [Hp Hz]
    · isplitl [Hz]; · iexact Hz
      iexact Hp
    iexact Hg
  iexact Hsrc

/-- A ring send not waited for. -/
theorem sent_skip (hs : snd i c = false) : St m K c (num 3 i) ⊢ iprop(|={Set.univ}=> St m K c (num 3 i + 1)) := by
  unfold St
  rw [rest_zero c (num_lt i).2.2.2, rest_zero c (Nat.le_succ_of_le (num_lt i).2.2.2), src_wait m c 3 i (Or.inr rfl)]
  iintro ⟨#HR, HL, HO, Hsl, Hsrc⟩
  ihave Hsl := (slot_open m c 3 i (p := 3) (p' := 4) rfl rfl) $$ Hsl
  icases Hsl with ⟨Hi, Hsl⟩
  simp only [SlotSt]
  icases Hi with ⟨⟨Hp0, Hp⟩, -, Hg⟩
  imod (close_unused m K c 0 i hs) $$ [Hp0] with Hz
  · isplitr; · iexact HR
    iexact Hp0
  imodintro
  isplitr; · iexact HR
  isplitl [HL]; · iexact HL
  isplitl [HO]; · iexact HO
  isplitr [Hsrc]
  · iapply Hsl
    isplitl [Hp Hz]
    · isplitl [Hz]; · iexact Hz
      iexact Hp
    iexact Hg
  iexact Hsrc

end Cert.Gather

end
-- ==== Proof.Blocks.lean ====
/-
# The kernel's guarded blocks

Each step of the kernel is a guarded block: the lemmas here take any such block, given that its guard says the slot is in use,
that its offsets and devices are the slot's, and that its semaphores are the slot's.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev PG (F : FTy → Type) [FloatOps F] (α : Type) : Type _ := Prog (TpuEff nD τ sig (Elt F) Λ₀ .tc) α

/-- The block of 2048 rows at an offset of the gathered array, -/
abbrev oAt (off : Fin 2 → ℕ) (h : ∀ a, off a + S2048x1024.size a ≤ S65536x1024.size a) : Memref sig .tc .hbm S2048x1024 .f32 :=
  outM.slice (Rect.unit (s := S65536x1024) off S2048x1024.size h) (fun _ => rfl)
/-- and of a device's own array. -/
abbrev xAt (off : Fin 2 → ℕ) (h : ∀ a, off a + S2048x1024.size a ≤ S16384x1024.size a) : Memref sig .tc .hbm S2048x1024 .f32 :=
  xM.slice (Rect.unit (s := S16384x1024) off S2048x1024.size h) (fun _ => rfl)

/-- A guarded block: taken when the slot is in use, else the state moves by itself. -/
theorem guarded (K : Dev nD × CI → ℕ) (c : Dev nD) {cnd : BitVec 1} {u : Bool} {n n' : ℕ} {α : Type} {T : cnd = 1#1 → PG F α} {E : PG F α} {Q : α → sProp 𝕄}
    (hc : cnd = 1#1 ↔ u = true) (ht : u = true → ∀ h, St m K c n ⊢ WP c (T h) Q)
    (hs : u = false → St m K c n ⊢ iprop(|={Set.univ}=> St m K c n')) (h : St m K c n' ⊢ WP c E Q) :
    St m K c n ⊢ WP c (if h : cnd = 1#1 then T h else E) Q := by
  by_cases hh : cnd = 1#1
  · rw [dif_pos hh]; exact ht (hc.mp hh) hh
  · rw [dif_neg hh]
    have hu : u = false := by
      cases u
      · rfl
      · exact absurd (hc.mpr rfl) hh
    refine (hs hu).trans ?_
    iintro H
    imod H with H
    iapply h
    iexact H

/-- The slot of a step: the steps run through the directions within the slots of a hop within the hops. -/
def slotOf (n : ℕ) : Slot :=
  (⟨n % 2, Nat.mod_lt _ (by decide)⟩, ⟨n / 16 % 3, Nat.mod_lt _ (by decide)⟩, ⟨n / 4 % 4, Nat.mod_lt _ (by decide)⟩)

variable (K : Dev nD × CI → ℕ) (c : Dev nD) {i : Slot}

/-- The send of hop `0`, from the device's own array. -/
theorem step_send0 {cnd : Dev nD → BitVec 1} {dv : Dev nD → ℕ} {off offx : Dev nD → Fin 2 → ℕ} {sS sR : DmaSem sig}
    {hdv : cnd c = 1#1 → dv c < nD} {ho : cnd c = 1#1 → ∀ a, off c a + S2048x1024.size a ≤ S65536x1024.size a}
    {hx : cnd c = 1#1 → ∀ a, offx c a + S2048x1024.size a ≤ S16384x1024.size a}
    {n : ℕ} {α : Type} {E : PG F α} {Q : α → sProp 𝕄}
    (h : St m K c (n + 1) ⊢ WP c E Q)
    (hs : slotOf n = i := by rfl) (hn : num 0 i = n := by rfl) (hi : i.2.1 = 0 := by rfl) (hS : sS = gs 0 i := by rfl) (hR : sR = gs 1 i := by rfl)
    (hc : ∀ c, cnd c = 1#1 ↔ snd i c = true := by decide +kernel)
    (hd : ∀ c, cnd c = 1#1 → dv c = (next i.1 c).val := by decide +kernel)
    (hof : ∀ c, cnd c = 1#1 → off c = boff (rb i (next i.1 c)).val := by decide +kernel)
    (hox : ∀ c, cnd c = 1#1 → offx c = boff (xb i.2.2 c).val := by decide +kernel) :
    St m K c n ⊢ WP c (if hh : cnd c = 1#1 then
      (Prog.lift (.enqueueDma (xAt (offx c) (hx hh)) (.remote (Dev.tc (⟨dv c, hdv hh⟩ : Dev nD)) (oAt (off c) (ho hh)) (.dma sS)) (.dma sR)
        (View.wordExact_bits rfl) (View.wordExact_bits rfl) ⟨⟨rfl, Or.inl rfl⟩, trivial⟩) >>= fun _ => E) else E) Q := by
  subst hn hS hR
  refine guarded m K c (hc c) (fun hu hh => ?_) (fun hu => ?_) h
  · generalize hx hh = h1; generalize ho hh = h2; generalize hdv hh = h3
    have e1 := hd c hh; have e2 := hof c hh; have e3 := hox c hh
    revert h1 h2 h3
    generalize dv c = dv', off c = off', offx c = offx' at e1 e2 e3
    subst e1 e2 e3
    intro h1 h2 h3
    have hsrc := src_hop0 i c hi hu
    exact send_at m K c i (sM := xm (xb i.2.2 c)) hu (q := qx i.1) (fs := m ((c : Thread nD τ).loc main_arg0)) (by rw [hi]; rfl)
      (land_xm m c (next i.1 c) _ _ hsrc.1 hsrc.2) (J := fun _ => E) h
  · exact (send_skip m K c i hu).trans fupd_intro

theorem after_before : ∀ i : Slot, i.2.1 ≠ 0 → after (before i) = i ∧ (before i).2.1 ≠ 2 := by decide +kernel

/-- The send of a later hop, from the block received at the hop before. -/
theorem step_send {cnd : Dev nD → BitVec 1} {dv : Dev nD → ℕ} {off offx : Dev nD → Fin 2 → ℕ} {sS sR : DmaSem sig}
    {hdv : cnd c = 1#1 → dv c < nD} {ho : cnd c = 1#1 → ∀ a, off c a + S2048x1024.size a ≤ S65536x1024.size a}
    {hx : cnd c = 1#1 → ∀ a, offx c a + S2048x1024.size a ≤ S65536x1024.size a}
    {n : ℕ} {α : Type} {E : PG F α} {Q : α → sProp 𝕄}
    (h : St m K c (n + 1) ⊢ WP c E Q)
    (hs : slotOf n = i := by rfl) (hn : num 0 i = n := by rfl) (hi : i.2.1 ≠ 0 := by decide) (hS : sS = gs 0 i := by rfl) (hR : sR = gs 1 i := by rfl)
    (hc : ∀ c, cnd c = 1#1 ↔ snd i c = true := by decide +kernel)
    (hd : ∀ c, cnd c = 1#1 → dv c = (next i.1 c).val := by decide +kernel)
    (hof : ∀ c, cnd c = 1#1 → off c = boff (rb i (next i.1 c)).val := by decide +kernel)
    (hox : ∀ c, cnd c = 1#1 → offx c = boff (rb i (next i.1 c)).val := by decide +kernel) :
    St m K c n ⊢ WP c (if hh : cnd c = 1#1 then
      (Prog.lift (.enqueueDma (oAt (offx c) (hx hh)) (.remote (Dev.tc (⟨dv c, hdv hh⟩ : Dev nD)) (oAt (off c) (ho hh)) (.dma sS)) (.dma sR)
        (View.wordExact_bits rfl) (View.wordExact_bits rfl) ⟨⟨rfl, Or.inl rfl⟩, trivial⟩) >>= fun _ => E) else E) Q := by
  subst hn hS hR
  refine guarded m K c (hc c) (fun hu hh => ?_) (fun hu => ?_) h
  · generalize hx hh = h1; generalize ho hh = h2; generalize hdv hh = h3
    have e1 := hd c hh; have e2 := hof c hh; have e3 := hox c hh
    revert h1 h2 h3
    generalize dv c = dv', off c = off', offx c = offx' at e1 e2 e3
    subst e1 e2 e3
    intro h1 h2 h3
    have hsrc := src_hop i c hi hu
    have hp : Src m i.1 i.2.2 i.2.1.val c = oPts fullShare.right (rb i (next i.1 c)) c (G m c) := by
      have hb := (after_before i hi).1
      have hb2 := (after_before i hi).2
      have := Src_after m (before i) c hb2
      rw [hb, hsrc.1, if_pos rfl, ← hsrc.2.1] at this
      exact this
    exact send_at m K c i (sM := ob (rb i (next i.1 c))) hu (q := fullShare.right) (fs := G m c) hp
      (land_ob m c (next i.1 c) _ hsrc.2.2) (J := fun _ => E) h
  · exact (send_skip m K c i hu).trans fupd_intro

/-- The receive of a slot and its passing on. -/
theorem step_recv {cnd : Dev nD → BitVec 1} {dv : Dev nD → ℕ} {offs offd off off' : Dev nD → Fin 2 → ℕ} {sR sX sY : DmaSem sig}
    {hdv : cnd c = 1#1 → dv c < nD} {hos : cnd c = 1#1 → ∀ a, offs c a + S2048x1024.size a ≤ S65536x1024.size a}
    {hod : cnd c = 1#1 → ∀ a, offd c a + S2048x1024.size a ≤ S65536x1024.size a}
    {ho : cnd c = 1#1 → ∀ a, off c a + S2048x1024.size a ≤ S65536x1024.size a}
    {ho' : cnd c = 1#1 → ∀ a, off' c a + S2048x1024.size a ≤ S65536x1024.size a}
    {n : ℕ} {α : Type} {E : PG F α} {Q : α → sProp 𝕄} {P : cnd c = 1#1 → PG F PUnit}
    (h : St m K c (n + 1) ⊢ WP c E Q)
    (hP : P = fun hh => Prog.lift (.waitDma2 sR (oAt (offs c) (hos hh)) (oAt (offd c) (hod hh)) (View.wordExact_bits rfl) (View.wordExact_bits rfl)) >>= fun _ => pure ⟨⟩)
    (hs : slotOf n = i := by rfl) (hn : num 1 i = n := by rfl) (hS : sR = gs 1 i := by rfl) (hX : sX = gs 2 i := by rfl) (hY : sY = gs 3 i := by rfl)
    (hc : ∀ c, cnd c = 1#1 ↔ rcv i c = true := by decide +kernel)
    (hd : ∀ c, cnd c = 1#1 → dv c = (partner c).val := by decide +kernel)
    (hof : ∀ c, cnd c = 1#1 → off c = boff (rb i c).val := by decide +kernel)
    (hof' : ∀ c, cnd c = 1#1 → off' c = boff (rb i c).val := by decide +kernel) :
    St m K c n ⊢ WP c (if hh : cnd c = 1#1 then
      (P hh >>= fun _ => Prog.lift (.enqueueDma (oAt (off c) (ho hh)) (.remote (Dev.tc (⟨dv c, hdv hh⟩ : Dev nD)) (oAt (off' c) (ho' hh)) (.dma sX)) (.dma sY)
        (View.wordExact_bits rfl) (View.wordExact_bits rfl) ⟨⟨rfl, Or.inl rfl⟩, trivial⟩) >>= fun _ => E) else E) Q := by
  subst hn hS hX hY hP
  refine guarded m K c (hc c) (fun hu hh => ?_) (fun hu => recv_skip m K c i hu) h
  dsimp only
  generalize hos hh = h0; generalize hod hh = h0'
  generalize ho hh = h1; generalize ho' hh = h2; generalize hdv hh = h3
  have e1 := hd c hh; have e2 := hof c hh; have e3 := hof' c hh
  revert h1 h2 h3
  generalize dv c = dv', off c = off₁, off' c = off₂ at e1 e2 e3
  subst e1 e2 e3
  intro h1 h2 h3
  exact recv_at m K c i (sM := oAt (offs c) h0) (dM := oAt (offd c) h0') rfl hu (J := fun _ => E) h

/-- The two waits for the exchange of a slot. -/
theorem step_exch {cnd : Dev nD → BitVec 1} {offs offd offs' offd' : Dev nD → Fin 2 → ℕ} {sX sY : DmaSem sig}
    {hos : cnd c = 1#1 → ∀ a, offs c a + S2048x1024.size a ≤ S65536x1024.size a}
    {hod : cnd c = 1#1 → ∀ a, offd c a + S2048x1024.size a ≤ S65536x1024.size a}
    {hos' : cnd c = 1#1 → ∀ a, offs' c a + S2048x1024.size a ≤ S65536x1024.size a}
    {hod' : cnd c = 1#1 → ∀ a, offd' c a + S2048x1024.size a ≤ S65536x1024.size a}
    {n : ℕ} {α : Type} {E : PG F α} {Q : α → sProp 𝕄}
    (h : St m K c (n + 1) ⊢ WP c E Q)
    (hs : slotOf n = i := by rfl) (hn : num 2 i = n := by rfl) (hX : sX = gs 2 i := by rfl) (hY : sY = gs 3 i := by rfl)
    (hc : ∀ c, cnd c = 1#1 ↔ rcv i c = true := by decide +kernel) :
    St m K c n ⊢ WP c (if hh : cnd c = 1#1 then
      (Prog.lift (.waitDma2 sY (oAt (offs c) (hos hh)) (oAt (offd c) (hod hh)) (View.wordExact_bits rfl) (View.wordExact_bits rfl)) >>= fun _ =>
        Prog.lift (.waitDma2 sX (oAt (offs' c) (hos' hh)) (oAt (offd' c) (hod' hh)) (View.wordExact_bits rfl) (View.wordExact_bits rfl)) >>= fun _ => E) else E) Q := by
  subst hn hX hY
  exact guarded m K c (hc c) (fun hu hh => exch_at m K c i rfl rfl hu (J := fun _ => E) h) (fun hu => exch_skip m K c i hu) h

/-- The wait for the ring send of a slot. -/
theorem step_sent {cnd : Dev nD → BitVec 1} {offs offd : Dev nD → Fin 2 → ℕ} {sS : DmaSem sig}
    {hos : cnd c = 1#1 → ∀ a, offs c a + S2048x1024.size a ≤ S65536x1024.size a}
    {hod : cnd c = 1#1 → ∀ a, offd c a + S2048x1024.size a ≤ S65536x1024.size a}
    {n : ℕ} {α : Type} {E : PG F α} {Q : α → sProp 𝕄}
    (h : St m K c (n + 1) ⊢ WP c E Q)
    (hs : slotOf n = i := by rfl) (hn : num 3 i = n := by rfl) (hS : sS = gs 0 i := by rfl)
    (hc : ∀ c, cnd c = 1#1 ↔ snd i c = true := by decide +kernel) :
    St m K c n ⊢ WP c (if hh : cnd c = 1#1 then
      (Prog.lift (.waitDma2 sS (oAt (offs c) (hos hh)) (oAt (offd c) (hod hh)) (View.wordExact_bits rfl) (View.wordExact_bits rfl)) >>= fun _ => E) else E) Q := by
  subst hn hS
  exact guarded m K c (hc c) (fun hu hh => sent_at m K c i rfl hu (J := fun _ => E) h) (fun hu => sent_skip m K c i hu) h

/-- A part ends. -/
theorem step_ret {n : ℕ} {α : Type} {a : α} : St m K c n ⊢ WP c (Prog.ret a) (fun _ => St m K c n) := by
  rw [show WP c (Prog.ret a) (fun _ => St m K c n) = iprop(|={Set.univ}=> St m K c n) from wp_ret ..]
  exact fupd_intro

end Cert.Gather

end
-- ==== Proof.Parts.lean ====
/-
# The kernel's parts

The kernel's body is cut into parts; each carries the state from its first step to the step after its last.
-/
module

public import proofs.«01_k».proof.Proof.Blocks

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local irreducible] wp

variable (K : Dev nD × CI → ℕ) (c : Dev nD) (h0 : (Memref.whole main_arg0).IsWhole) (h1 : (Memref.whole main_v1).IsWhole)

/-- The first slot of hop 0, -/
theorem part28_at (v2 v5 v8 v9 v10 v72 v73 v75 v77 v87 v97 c4_i32_63 : BitVec 32) (v98 : BitVec 1) :
    St m K c 0 ⊢ WP c (k0_part28 (F := F) (Memref.whole main_arg0) h0 (Memref.whole main_v1) h1 cc0_scratch0 cc0_scratch1 cc0_scratch2
      cc0_scratch3 cc0_scratch4 cc0_scratch5 cc0_scratch6 cc0_scratch7 cc0_scratch8 c v2 v5 v8 v9 v10 v72 v73 v75 v77 v87 v97 c4_i32_63 v98)
      (fun _ => St m K c 4) := by
  rw [k0_part28_eq_skeleton]
  unfold k0_part28_skel
  iterate 2 refine step_send0 m K c ?_
  iterate 2 refine step_recv m K c ?_ rfl
  exact step_ret m K c

/-- the rest of hop 0, -/
theorem part29_at (v2 v5 v8 v9 v10 v87 v97 v107 v117 v134 : BitVec 32) (v120 v123 v124 v125 : BitVec 1) :
    St m K c 4 ⊢ WP c (k0_part29 (F := F) (Memref.whole main_arg0) h0 (Memref.whole main_v1) h1 cc0_scratch0 cc0_scratch1 cc0_scratch2
      cc0_scratch3 cc0_scratch4 cc0_scratch5 cc0_scratch6 cc0_scratch7 cc0_scratch8 c v2 v5 v8 v9 v10 v87 v97 v107 v117 v120 v123 v124 v125 v134)
      (fun _ => St m K c 16) := by
  rw [k0_part29_eq_skeleton]
  unfold k0_part29_skel
  iterate 3
    iterate 2 refine step_send0 m K c ?_
    iterate 2 refine step_recv m K c ?_ rfl
  exact step_ret m K c

/-- nothing but numbers, -/
theorem part30_at (v158 v159 v161 v163 c4_i32_103 : BitVec 32) :
    St m K c 16 ⊢ WP c (k0_part30 (F := F) (Memref.whole main_arg0) h0 (Memref.whole main_v1) h1 cc0_scratch0 cc0_scratch1 cc0_scratch2
      cc0_scratch3 cc0_scratch4 cc0_scratch5 cc0_scratch6 cc0_scratch7 cc0_scratch8 v158 v159 v161 v163 c4_i32_103)
      (fun _ => St m K c 16) := by
  rw [k0_part30_eq_skeleton]
  unfold k0_part30_skel
  exact step_ret m K c

/-- hop 1 up to its third slot, -/
theorem part31_at (v2 v5 v8 v9 v10 v158 v159 v161 v163 v173 v183 v193 v195 v196 : BitVec 32) (v197 v200 : BitVec 1) :
    St m K c 16 ⊢ WP c (k0_part31 (F := F) (Memref.whole main_arg0) h0 (Memref.whole main_v1) h1 cc0_scratch0 cc0_scratch1 cc0_scratch2
      cc0_scratch3 cc0_scratch4 cc0_scratch5 cc0_scratch6 cc0_scratch7 cc0_scratch8 c v2 v5 v8 v9 v10 v158 v159 v161 v163 v173 v183 v193 v195 v196 v197 v200)
      (fun _ => St m K c 26) := by
  rw [k0_part31_eq_skeleton]
  unfold k0_part31_skel
  iterate 2
    iterate 2 refine step_send m K c ?_
    iterate 2 refine step_recv m K c ?_ rfl
  iterate 2 refine step_send m K c ?_
  exact step_ret m K c

/-- the rest of hop 1, -/
theorem part32_at (v2 v5 v8 v9 v10 v173 v183 v193 v203 : BitVec 32) (v206 v209 v210 v211 : BitVec 1) :
    St m K c 26 ⊢ WP c (k0_part32 (F := F) (Memref.whole main_arg0) h0 (Memref.whole main_v1) h1 cc0_scratch0 cc0_scratch1 cc0_scratch2
      cc0_scratch3 cc0_scratch4 cc0_scratch5 cc0_scratch6 cc0_scratch7 cc0_scratch8 c v2 v5 v8 v9 v10 v173 v183 v193 v203 v206 v209 v210 v211)
      (fun _ => St m K c 32) := by
  rw [k0_part32_eq_skeleton]
  unfold k0_part32_skel
  iterate 2 refine step_recv m K c ?_ rfl
  iterate 2 refine step_send m K c ?_
  iterate 2 refine step_recv m K c ?_ rfl
  exact step_ret m K c

/-- the first sends of hop 2, -/
theorem part33_at (v2 v5 v8 v10 v244 v245 v247 v249 v259 v261 v262 c0_i32_166 : BitVec 32) (v263 v264 : BitVec 1) :
    St m K c 32 ⊢ WP c (k0_part33 (F := F) (Memref.whole main_arg0) h0 (Memref.whole main_v1) h1 cc0_scratch0 cc0_scratch1 cc0_scratch2
      cc0_scratch3 cc0_scratch4 cc0_scratch5 cc0_scratch6 cc0_scratch7 cc0_scratch8 c v2 v5 v8 v10 v244 v245 v247 v249 v259 v261 v262 v263 v264 c0_i32_166)
      (fun _ => St m K c 34) := by
  rw [k0_part33_eq_skeleton]
  unfold k0_part33_skel
  iterate 2 refine step_send m K c ?_
  exact step_ret m K c

/-- the rest of hop 2, -/
theorem part34_at (v2 v5 v8 v9 v10 v259 v269 v279 v289 v302 : BitVec 32) (v292 v295 v296 v297 : BitVec 1) :
    St m K c 34 ⊢ WP c (k0_part34 (F := F) (Memref.whole main_arg0) h0 (Memref.whole main_v1) h1 cc0_scratch0 cc0_scratch1 cc0_scratch2
      cc0_scratch3 cc0_scratch4 cc0_scratch5 cc0_scratch6 cc0_scratch7 cc0_scratch8 c v2 v5 v8 v9 v10 v259 v269 v279 v289 v292 v295 v296 v297 v302)
      (fun _ => St m K c 48) := by
  rw [k0_part34_eq_skeleton]
  unfold k0_part34_skel
  iterate 3
    iterate 2 refine step_recv m K c ?_ rfl
    iterate 2 refine step_send m K c ?_
  iterate 2 refine step_recv m K c ?_ rfl
  exact step_ret m K c

/-- the first wait for an exchange, -/
theorem part35_at (v5 v8 v9 v10 v11 v331 c1_i32_203 : BitVec 32) :
    St m K c 48 ⊢ WP c (k0_part35 (F := F) (Memref.whole main_arg0) h0 (Memref.whole main_v1) h1 cc0_scratch0 cc0_scratch1 cc0_scratch2
      cc0_scratch3 cc0_scratch4 cc0_scratch5 cc0_scratch6 cc0_scratch7 cc0_scratch8 c v5 v8 v9 v10 v11 v331 c1_i32_203)
      (fun _ => St m K c 49) := by
  rw [k0_part35_eq_skeleton]
  unfold k0_part35_skel
  refine step_exch m K c ?_
  exact step_ret m K c

/-- the rest of the waits for hop 0, -/
theorem part36_at (v5 v8 v9 v10 v11 v343 v353 : BitVec 32) (v354 v355 v359 v363 : BitVec 1) :
    St m K c 49 ⊢ WP c (k0_part36 (F := F) (Memref.whole main_arg0) h0 (Memref.whole main_v1) h1 cc0_scratch0 cc0_scratch1 cc0_scratch2
      cc0_scratch3 cc0_scratch4 cc0_scratch5 cc0_scratch6 cc0_scratch7 cc0_scratch8 c v5 v8 v9 v10 v11 v343 v353 v354 v355 v359 v363)
      (fun _ => St m K c 64) := by
  rw [k0_part36_eq_skeleton]
  unfold k0_part36_skel
  refine step_exch m K c ?_
  iterate 3
    iterate 2 refine step_sent m K c ?_
    iterate 2 refine step_exch m K c ?_
  iterate 2 refine step_sent m K c ?_
  exact step_ret m K c

/-- the first wait of hop 1, -/
theorem part37_at (v5 v8 v9 v10 v11 v396 c1_i32_242 : BitVec 32) :
    St m K c 64 ⊢ WP c (k0_part37 (F := F) (Memref.whole main_arg0) h0 (Memref.whole main_v1) h1 cc0_scratch0 cc0_scratch1 cc0_scratch2
      cc0_scratch3 cc0_scratch4 cc0_scratch5 cc0_scratch6 cc0_scratch7 cc0_scratch8 c v5 v8 v9 v10 v11 v396 c1_i32_242)
      (fun _ => St m K c 65) := by
  rw [k0_part37_eq_skeleton]
  unfold k0_part37_skel
  refine step_exch m K c ?_
  exact step_ret m K c

/-- the rest of the waits for hop 1, -/
theorem part38_at (v5 v8 v9 v10 v11 v409 v419 v432 : BitVec 32) (v420 v421 v425 v429 : BitVec 1) :
    St m K c 65 ⊢ WP c (k0_part38 (F := F) (Memref.whole main_arg0) h0 (Memref.whole main_v1) h1 cc0_scratch0 cc0_scratch1 cc0_scratch2
      cc0_scratch3 cc0_scratch4 cc0_scratch5 cc0_scratch6 cc0_scratch7 cc0_scratch8 c v5 v8 v9 v10 v11 v409 v419 v420 v421 v425 v429 v432)
      (fun _ => St m K c 80) := by
  rw [k0_part38_eq_skeleton]
  unfold k0_part38_skel
  refine step_exch m K c ?_
  iterate 3
    iterate 2 refine step_sent m K c ?_
    iterate 2 refine step_exch m K c ?_
  iterate 2 refine step_sent m K c ?_
  exact step_ret m K c

/-- nothing but numbers, -/
theorem part39_at (v8 c1_i32_281 : BitVec 32) :
    St m K c 80 ⊢ WP c (k0_part39 (F := F) (Memref.whole main_arg0) h0 (Memref.whole main_v1) h1 cc0_scratch0 cc0_scratch1 cc0_scratch2
      cc0_scratch3 cc0_scratch4 cc0_scratch5 cc0_scratch6 cc0_scratch7 cc0_scratch8 v8 c1_i32_281)
      (fun _ => St m K c 80) := by
  rw [k0_part39_eq_skeleton]
  unfold k0_part39_skel
  exact step_ret m K c

/-- and the waits for hop 2, but for the last. -/
theorem part40_at (v5 v8 v9 v10 v11 v475 v485 : BitVec 32) (v486 v487 v491 v495 : BitVec 1) :
    St m K c 80 ⊢ WP c (k0_part40 (F := F) (Memref.whole main_arg0) h0 (Memref.whole main_v1) h1 cc0_scratch0 cc0_scratch1 cc0_scratch2
      cc0_scratch3 cc0_scratch4 cc0_scratch5 cc0_scratch6 cc0_scratch7 cc0_scratch8 c v5 v8 v9 v10 v11 v475 v485 v486 v487 v491 v495)
      (fun _ => St m K c 95) := by
  rw [k0_part40_eq_skeleton]
  unfold k0_part40_skel
  iterate 3
    iterate 2 refine step_exch m K c ?_
    iterate 2 refine step_sent m K c ?_
  iterate 2 refine step_exch m K c ?_
  refine step_sent m K c ?_
  exact step_ret m K c

end Cert.Gather

end
-- ==== Proof.Body.lean ====
/-
# The kernel's run on one device

Before its first step a device signals its column and its partner, waits for their four signals, and starts copying its own
array into its own chunk; after its last step it waits for that copy. In between stand the parts.
-/
module

public import proofs.«01_k».proof.Proof.Parts

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device starts and ends with -/

/-- The unit signal `k` adds to the barrier of the device it goes to. -/
abbrev sigT (k : Fin 4) (c : Dev nD) : CellTallies nD τ sig Unit := tallyAt (barCell (sigTo k c)) () 1
/-- What a device owes at launch: the slots' transfers and the four signals, the first signal last. -/
def O₀ (c : Dev nD) : CellTallies nD τ sig Unit := (((rest c 0 + sigT 0 c) + sigT 3 c) + sigT 2 c) + sigT 1 c

/-- What signal `k` needs: its token, and what it hands over. -/
def sgn (k : Fin 4) (c : Dev nD) : sProp 𝕄 := iprop(dutyTok ER (barCell (sigTo k c)) 0 k ∗ barPay m (sigTo k c) k)
/-- What the barrier's wait needs. -/
def bar (c : Dev nD) : sProp 𝕄 := iprop(cred (tallyAt (barCell c) () 4) ∗ atPos ER (barCell c) 0 ∅ 0)
/-- What the local copy needs: its token and position, the own chunk at its launch contents, half of the own array. -/
def copyPre (c : Dev nD) : sProp 𝕄 :=
  iprop((dutyTok ER (copyCell c) 0 0 ∗ atPos ER (copyCell c) 0 ∅ 0)
    ∗ ((cm c).view.loc (c : Thread nD τ) ↦[(cm c).view.set]{fullShare} m ((c : Thread nD τ).loc main_v1))
    ∗ (xM.view.loc (c : Thread nD τ) ↦[xM.view.set]{fullShare.left} m ((c : Thread nD τ).loc main_arg0)))
/-- What slot `i` starts with, but for the blocks it writes on other devices. -/
def slot0 (c : Dev nD) (i : Slot) : sProp 𝕄 :=
  iprop((tok 0 i c ∗ tok 1 i (next i.1 c)) ∗ (tok 2 i c ∗ tok 3 i (partner c))
    ∗ (pos 0 i c ∗ pos 1 i c ∗ pos 2 i c ∗ pos 3 i c) ∗ crd 1 i c ∗ crd 3 i c)

/-- What the body starts with. -/
def Pre (K : Dev nD × CI → ℕ) (c : Dev nD) : sProp 𝕄 :=
  iprop(records m K ∗ levAts L lv ∗ (sgn m 1 c ∗ sgn m 2 c ∗ sgn m 3 c ∗ sgn m 0 c) ∗ bar c ∗ copyPre m c
    ∗ (bigSep Finset.univ fun i : Slot => slot0 c i) ∗ bigSep Finset.univ fun i : Slot => SrcSt m c 0 i)

/-- The local copy under way, the barrier done. -/
def copying (c : Dev nD) : sProp 𝕄 :=
  iprop(cred (tallyAt (copyCell c) () NC) ∗ atPos ER (copyCell c) 0 ∅ 0 ∗ semVal (barCell c) 0)

/-- What the body ends with: the own chunk, both halves of every other chunk, every semaphore at zero. -/
def Post (c : Dev nD) : sProp 𝕄 :=
  iprop((copyPay m c ∗ bigSep Finset.univ fun i : Slot => iprop(got m 2 i c ∗ got m 3 i c))
    ∗ semVal (barCell c) 0 ∗ semVal (copyCell c) 0 ∗ bigSep Finset.univ fun x : Fin 4 × Slot => zero x.1 x.2 c)

/-! ## The start -/

/-- Signal `k`. -/
theorem sig_core (K : Dev nD × CI → ℕ) (c : Dev nD) (k : Fin 4) (O : CellTallies nD τ sig Unit) {α : Type} {E : PG F α} {Q : α → sProp 𝕄} :
    iprop(records m K ∗ (∃ W, owes (c : Thread nD τ) (O + sigT k c) W) ∗ sgn m k c)
      ⊢ iprop(((∃ W, owes (c : Thread nD τ) O W) -∗ WP c E Q)
          -∗ WP c (.op (.semSignal ((sigTo k c : Dev nD) : Thread nD τ) barS ((1 : ℕ) : ℤ)) fun _ => E) Q) := by
  have hS := fun W => Rounds.wp_signal (defs := defs₀ (F := F)) (Q := Q) (Γ := []) 𝒱₀ ER (sched m) (c : Thread nD τ) none
    (dst := ((sigTo k c : Dev nD) : Thread nD τ)) (sem := barS) (k := fun _ => E) (Es := Set.univ) (κ := K (sigTo k c, .inl ())) (r := 0) (d := k) (k' := 1) (W := W)
    (by rw [duties_bar]; exact Finset.mem_univ _) (amount_bar m (sigTo k c) k) () O rfl
  unfold sgn
  iintro ⟨#HR, ⟨%W, HO⟩, Ht, Hp⟩ Hk
  ihave #Hi := (records_inv m K (sigTo k c, .inl ())) $$ HR
  ihave #Hr := (records_reached m K (sigTo k c, .inl ())) $$ HR
  iapply (hS W) $$ [HO Ht Hp]
  · isplitr; · iexact Hi
    isplitl [HO]; · iexact HO
    isplitl [Ht]; · iexact Ht
    isplitl [Hp]; · rw [payload_bar]; iexact Hp
    iexact Hr
  iintro HO
  iapply Hk
  iexists W; iexact HO

/-- The blocks the barrier hands over, slot by slot. -/
theorem bar_blocks (c : Dev nD) :
    iprop(barPay m c 0 ∗ barPay m c 1 ∗ barPay m c 2 ∗ barPay m c 3)
      ⊢ iprop((bigSep Finset.univ fun i : Slot => dstN m i c) ∗ bigSep Finset.univ fun i : Slot => dstP m i c) := by
  have h : (bigSep Finset.univ fun i : Slot => dstN m i c)
      = iprop((bigSep Finset.univ fun i : Fin 3 × Fin 4 => dstN m (0, i) c) ∗ bigSep Finset.univ fun i : Fin 3 × Fin 4 => dstN m (1, i) c) := by
    rw [bigSep_univ_prod, bigSep_fin_two]; rfl
  have e0 : barPay m c 0 = bigSep Finset.univ fun i : Slot => dstP m i c := if_pos rfl
  have e1 : barPay m c 1 = bigSep Finset.univ fun i : Fin 3 × Fin 4 => dstN m (1, i) c := (if_neg (by decide)).trans (if_pos rfl)
  have e3 : barPay m c 3 = bigSep Finset.univ fun i : Fin 3 × Fin 4 => dstN m (0, i) c :=
    (if_neg (by decide)).trans ((if_neg (by decide)).trans (if_pos rfl))
  rw [h, e0, e1, e3]
  iintro ⟨H0, H1, -, H3⟩
  isplitr [H0]
  · isplitl [H3]; · iexact H3
    iexact H1
  iexact H0

theorem ph_zero : ∀ i : Slot, ph 0 i = 0 := by decide +kernel
theorem ph_last : ∀ i : Slot, ph 96 i = 4 := by decide +kernel

/-- A slot at its start. -/
theorem slots_start (c : Dev nD) :
    iprop((bigSep Finset.univ fun i : Slot => dstN m i c) ∗ (bigSep Finset.univ fun i : Slot => dstP m i c) ∗ bigSep Finset.univ fun i : Slot => slot0 c i)
      ⊢ bigSep Finset.univ fun i : Slot => SlotSt m c i (ph 0 i) := by
  rw [← bigSep_sep', ← bigSep_sep']
  refine bigSep_mono fun i _ => ?_
  rw [ph_zero]
  unfold slot0
  show _ ⊢ iprop((tok 0 i c ∗ tok 1 i (next i.1 c) ∗ dstN m i c) ∗ (tok 2 i c ∗ tok 3 i (partner c) ∗ dstP m i c)
      ∗ (pos 0 i c ∗ pos 1 i c ∗ pos 2 i c ∗ pos 3 i c) ∗ crd 1 i c ∗ crd 3 i c)
  iintro ⟨HN, HP, ⟨H0, H1⟩, ⟨H2, H3⟩, Hr⟩
  isplitl [HN H0 H1]
  · isplitl [H0]; · iexact H0
    isplitl [H1]; · iexact H1
    iexact HN
  isplitl [HP H2 H3]
  · isplitl [H2]; · iexact H2
    isplitl [H3]; · iexact H3
    iexact HP
  iexact Hr

/-- The barrier's wait. -/
theorem bar_core (K : Dev nD × CI → ℕ) (c : Dev nD) {α : Type} {E : PG F α} {Q : α → sProp 𝕄} :
    iprop(records m K ∗ levAts L lv ∗ (∃ W, owes (c : Thread nD τ) (rest c 0) W) ∗ bar c)
      ⊢ iprop((((∃ W, owes (c : Thread nD τ) (rest c 0) W) ∗ semVal (barCell c) 0
              ∗ (bigSep Finset.univ fun i : Slot => dstN m i c) ∗ bigSep Finset.univ fun i : Slot => dstP m i c) -∗ WP c E Q)
          -∗ WP c (.op (.semWait barS ((4 : ℕ) : ℤ)) fun _ => E) Q) := by
  have hS := fun W => Rounds.wp_wait_rest_token (defs := defs₀ (F := F)) (Q := Q) 𝒱₀ ER (sched m) (c : Thread nD τ) none (κ := K (c, .inl ()))
    (wpE_semWait_eq 𝒱₀ (c : Thread nD τ) none Set.univ (sem := barS) (k := 4)) (Set.mem_univ _) (k := fun _ => E) ()
    (O := rest c 0) (W := W) (R := 0) (m := 0) (T := ∅) (by rw [expect_bar])
  unfold bar
  iintro ⟨#HR, #HL, ⟨%W, HO⟩, Hc, Hp⟩ Hk
  ihave #Hi := (records_inv m K (c, .inl ())) $$ HR
  iapply (hS W) $$ [HO Hc Hp]
  · isplitr; · iexact Hi
    isplitl [Hc]; · iexact Hc
    isplitl [HO]; · iexact HO
    isplitr; · iapply (mayWait_bar c); iexact HL
    iexact Hp
  iintro ⟨HO, Hp, -, Hpay⟩
  imod (cell_close ER (sched m) (Set.mem_univ (K (c, .inl ()))) (fun h => h) (R := 0 + 1) (fun r hr => duties_later m (barCell c) r (by omega))) $$ [Hp] with Hz
  · isplitr; · iexact Hi
    iexact Hp
  ihave Hb := ((Entails.of_eq (rest_bar m c)).trans (bar_blocks m c)) $$ Hpay
  iapply Hk
  isplitl [HO]; · iexists _; iexact HO
  isplitl [Hz]; · iexact Hz
  iexact Hb

/-- The start of the local copy. -/
theorem copy_core (K : Dev nD × CI → ℕ) (c : Dev nD) {α : Type} {E : PG F α} {Q : α → sProp 𝕄}
    {hsrc : xM.view.WordExact} {hdst : (cm c).view.WordExact} {hsem : DmaTarget.Typed (nD := nD) (τ := τ) (p := .tc) .hbm (.dma copyS) (.here (cm c))} :
    iprop(records m K ∗ copyPre m c)
      ⊢ iprop(((cred (tallyAt (copyCell c) () NC) ∗ atPos ER (copyCell c) 0 ∅ 0) -∗ WP c E Q)
          -∗ WP c (.op (.enqueueDma xM (.here (cm c)) (.dma copyS) hsrc hdst hsem) fun _ => E) Q) := by
  have hS := Rounds.wp_copy_pointsTo (defs := defs₀ (F := F)) (Q := Q) (Γ := []) 𝒱₀ ER (sched m) (c : Thread nD τ) none (src := xM) (dst := cm c) (sem := .dma copyS)
    (hsrc := hsrc) (hdst := hdst) (hsem := hsem) (k := fun _ => E) (Es := Set.univ)
    (q := fullShare.left) (fs := m ((c : Thread nD τ).loc main_arg0)) (fd := m ((c : Thread nD τ).loc main_v1)) (r := 0) (d := 0) (κ := K (c, .inr (.inl ())))
    (by rw [duties_copy]; exact Finset.mem_singleton_self _) () NC (NC_cm c) (amount_copy m c 0)
    (by rw [payload_copy]; unfold copyPay; rw [pointsTo_congr (land_cm m c _)])
  unfold copyPre
  iintro ⟨#HR, ⟨Ht, Hp⟩, Hd, Hx⟩ Hk
  ihave #Hi := (records_inv m K (c, .inr (.inl ()))) $$ HR
  ihave #Hr := (records_reached m K (c, .inr (.inl ()))) $$ HR
  iapply hS $$ [Ht Hd Hx]
  · isplitr; · iexact Hi
    isplitl [Hx]; · iexact Hx
    isplitl [Hd]; · iexact Hd
    isplitl [Ht]; · iexact Ht
    iexact Hr
  iintro Hc
  iapply Hk
  isplitl [Hc]; · iexact Hc
  iexact Hp

/-- From the launch to the first step. -/
theorem start (K : Dev nD × CI → ℕ) (c : Dev nD) {d1 d2 d3 d4 : Dev nD} {off : Fin 2 → ℕ} {ho : ∀ a, off a + S16384x1024.size a ≤ S65536x1024.size a}
    {hsrc : xM.view.WordExact} {sem : DmaSem sig}
    {α : Type} {E : PG F α} {Q : α → sProp 𝕄} (h : iprop(St m K c 0 ∗ copying c) ⊢ WP c E Q)
    (h1 : d1 = sigTo 1 c) (h2 : d2 = sigTo 2 c) (h3 : d3 = sigTo 3 c) (h4 : d4 = sigTo 0 c) (hoff : off = coff (c.val % 4)) (hsem : sem = copyS) :
    iprop(Pre m K c ∗ ∃ W, owes (c : Thread nD τ) (O₀ c) W)
      ⊢ WP c (.op (.semSignal (d1 : Thread nD τ) barS ((1 : ℕ) : ℤ)) fun _ => .op (.semSignal (d2 : Thread nD τ) barS ((1 : ℕ) : ℤ)) fun _ =>
          .op (.semSignal (d3 : Thread nD τ) barS ((1 : ℕ) : ℤ)) fun _ => .op (.semSignal (d4 : Thread nD τ) barS ((1 : ℕ) : ℤ)) fun _ =>
          .op (.semWait barS ((4 : ℕ) : ℤ)) fun _ =>
          .op (.enqueueDma xM (.here (outM.slice (Rect.unit (s := S65536x1024) off S16384x1024.size ho) (fun _ => rfl))) (.dma sem) hsrc (View.wordExact_bits rfl) ⟨Or.inl rfl, trivial⟩) fun _ => E) Q := by
  subst h1 h2 h3 h4 hoff hsem
  unfold Pre O₀
  iintro ⟨⟨#HR, #HL, ⟨H1, H2, H3, H0⟩, Hb, Hc, Hs, Hsrc⟩, HO⟩
  iapply (sig_core m K c 1 _) $$ [HO H1]
  · isplitr; · iexact HR
    isplitl [HO] <;> iassumption
  iintro HO
  iapply (sig_core m K c 2 _) $$ [HO H2]
  · isplitr; · iexact HR
    isplitl [HO] <;> iassumption
  iintro HO
  iapply (sig_core m K c 3 _) $$ [HO H3]
  · isplitr; · iexact HR
    isplitl [HO] <;> iassumption
  iintro HO
  iapply (sig_core m K c 0 _) $$ [HO H0]
  · isplitr; · iexact HR
    isplitl [HO] <;> iassumption
  iintro HO
  iapply (bar_core m K c) $$ [HO Hb]
  · isplitr; · iexact HR
    isplitr; · iexact HL
    isplitl [HO] <;> iassumption
  iintro ⟨HO, Hz, HN, HP⟩
  iapply (copy_core m K c) $$ [Hc]
  · isplitr; · iexact HR
    iexact Hc
  iintro ⟨Hc, Hp⟩
  iapply h
  unfold St copying
  isplitl [HO HN HP Hs Hsrc]
  · isplitr; · iexact HR
    isplitr; · iexact HL
    isplitl [HO]; · iexact HO
    isplitr [Hsrc]
    · iapply (slots_start m c)
      isplitl [HN]; · iexact HN
      isplitl [HP]; · iexact HP
      iexact Hs
    iexact Hsrc
  isplitl [Hc]; · iexact Hc
  isplitl [Hp]; · iexact Hp
  iexact Hz

/-! ## The end -/

/-- The slots at their end: their semaphores at zero, and what their transfers left. -/
theorem slots_end (c : Dev nD) :
    (bigSep Finset.univ fun i : Slot => SlotSt m c i (ph 96 i))
      ⊢ iprop((bigSep Finset.univ fun i : Slot => iprop(got m 2 i c ∗ got m 3 i c)) ∗ bigSep Finset.univ fun x : Fin 4 × Slot => zero x.1 x.2 c) := by
  have h4 (Φ : Fin 4 → sProp 𝕄) : bigSep Finset.univ Φ = iprop(Φ 0 ∗ Φ 1 ∗ Φ 2 ∗ Φ 3) := bigSep_univ_eq_bigSepL [0, 1, 2, 3] (by decide) (by decide) Φ
  have h : (bigSep Finset.univ fun x : Fin 4 × Slot => (zero x.1 x.2 c : sProp 𝕄))
      = bigSep Finset.univ fun i : Slot => iprop(zero 0 i c ∗ zero 1 i c ∗ zero 2 i c ∗ zero 3 i c) := by
    rw [bigSep_univ_prod, h4, bigSep_sep', bigSep_sep', bigSep_sep']
  rw [h, ← bigSep_sep']
  refine bigSep_mono fun i _ => ?_
  rw [ph_last]
  show iprop((zero 0 i c ∗ zero 1 i c ∗ zero 2 i c ∗ zero 3 i c) ∗ got m 2 i c ∗ got m 3 i c) ⊢ _
  iintro ⟨Hz, Hg⟩
  isplitl [Hg]; · iexact Hg
  iexact Hz

/-- From the last step to the end. -/
theorem finish (K : Dev nD × CI → ℕ) (c : Dev nD) {off : Fin 2 → ℕ} {ho : ∀ a, off a + S16384x1024.size a ≤ S65536x1024.size a}
    {hsrc : xM.view.WordExact} {sem : DmaSem sig} (hsem : sem = copyS) :
    iprop(St m K c 96 ∗ copying c)
      ⊢ WP c (.op (.waitDma2 sem xM (outM.slice (Rect.unit (s := S65536x1024) off S16384x1024.size ho) (fun _ => rfl)) hsrc (View.wordExact_bits rfl)) fun _ => Prog.ret PUnit.unit)
        (fun _ : PUnit.{1} => iprop(Post m c ∗ ∃ W, owes (c : Thread nD τ) 0 W)) := by
  subst hsem
  have hS := fun W => Rounds.wp_wait_rest_token (defs := defs₀ (F := F)) (Q := fun _ : PUnit.{1} => iprop(Post m c ∗ ∃ W, owes (c : Thread nD τ) 0 W)) 𝒱₀ ER (sched m) (c : Thread nD τ) none (κ := K (c, .inr (.inl ())))
    (wpE_waitDma2_eq 𝒱₀ (c : Thread nD τ) none Set.univ (sem := copyS) (src := xM)
      (dst := outM.slice (Rect.unit (s := S65536x1024) off S16384x1024.size ho) (fun _ => rfl)) (hsrc := hsrc) (hdst := View.wordExact_bits rfl)) (Set.mem_univ _)
    (k := fun _ => Prog.ret PUnit.unit) ()
    (O := 0) (W := W) (R := 0) (m := 0) (T := ∅) (by rw [expect_copy, Nat.zero_add]; rfl)
  unfold St copying
  rw [rest_zero c (by decide)]
  iintro ⟨⟨#HR, -, ⟨%W, HO⟩, Hs, -⟩, Hc, Hp, Hz⟩
  ihave #Hi := (records_inv m K (c, .inr (.inl ()))) $$ HR
  iapply (hS W) $$ [HO Hc Hp]
  · isplitr; · iexact Hi
    isplitl [Hc]; · iexact Hc
    isplitl [HO]; · iexact HO
    isplitr; · rw [MayWait_zero]; iempintro
    iexact Hp
  iintro ⟨HO, Hp, -, Hpay⟩
  imod (cell_close ER (sched m) (Set.mem_univ (K (c, .inr (.inl ())))) (fun h => h) (R := 0 + 1) (fun r hr => duties_later m (copyCell c) r (by omega))) $$ [Hp] with Hzc
  · isplitr; · iexact Hi
    iexact Hp
  ihave Hpay := (Entails.of_eq (rest_copy m c)) $$ Hpay
  ihave Hs := (slots_end m c) $$ Hs
  icases Hs with ⟨Hg, Hzs⟩
  rw [wp_ret]
  imodintro
  unfold Post
  isplitr [HO]
  · isplitl [Hpay Hg]
    · isplitl [Hpay] <;> iassumption
    isplitl [Hz]; · iexact Hz
    isplitl [Hzc] <;> iassumption
  iexists _; iexact HO

/-! ## The whole body -/

/-- A part and what comes after it, beside what the part leaves alone. -/
theorem seq (c : Dev nD) {A B R : sProp 𝕄} {α β : Type} {p : PG F α} {k : α → PG F β} {Q : β → sProp 𝕄}
    (h1 : A ⊢ WP c p (fun _ => B)) (h2 : ∀ a, iprop(B ∗ R) ⊢ WP c (k a) Q) : iprop(A ∗ R) ⊢ WP c (p >>= k) Q := by
  rw [show WP c (p >>= k) Q = WP c p (fun a => WP c (k a) Q) from wp_bind ..]
  exact (sep_mono_left h1).trans ((wp_frame_r _ _ _).trans (wp_mono _ _ _ h2))

/-- The same for a guarded block. -/
theorem seq_if (c : Dev nD) {A B R : sProp 𝕄} {β : Type} {cnd : BitVec 1} {T : cnd = 1#1 → PG F PUnit} {E : PG F β} {Q : β → sProp 𝕄}
    (h1 : A ⊢ WP c (if h : cnd = 1#1 then T h >>= fun _ => Prog.ret PUnit.unit else Prog.ret PUnit.unit) (fun _ => B)) (h2 : iprop(B ∗ R) ⊢ WP c E Q) :
    iprop(A ∗ R) ⊢ WP c (if h : cnd = 1#1 then T h >>= fun _ => E else E) Q := by
  have he : (if h : cnd = 1#1 then T h >>= fun _ => E else E)
      = (if h : cnd = 1#1 then T h >>= fun _ => Prog.ret PUnit.unit else Prog.ret PUnit.unit) >>= fun _ : PUnit => E := by
    split
    · rw [bind_assoc]; rfl
    · rfl
  rw [he]
  exact seq c h1 fun _ => h2

theorem dev1_eq : ∀ (c : Dev nD) (h), (⟨k0_dev1 c, h⟩ : Dev nD) = sigTo 1 c := by decide +kernel
theorem dev2_eq : ∀ (c : Dev nD) (h), (⟨k0_dev2 c, h⟩ : Dev nD) = sigTo 2 c := by decide +kernel
theorem dev3_eq : ∀ (c : Dev nD) (h), (⟨k0_dev3 c, h⟩ : Dev nD) = sigTo 3 c := by decide +kernel
theorem dev4_eq : ∀ (c : Dev nD) (h), (⟨k0_dev4 c, h⟩ : Dev nD) = sigTo 0 c := by decide +kernel
theorem off1_eq : ∀ c : Dev nD, k0_off1 c = coff (c.val % 4) := by decide +kernel

attribute [local irreducible] wp

/-- The body of device `c`. -/
theorem body_at (K : Dev nD × CI → ℕ) (c : Dev nD) (h0 : (Memref.whole main_arg0).IsWhole) (h1 : (Memref.whole main_v1).IsWhole) :
    iprop(Pre m K c ∗ ∃ W, owes (c : Thread nD τ) (O₀ c) W)
      ⊢ WP c (cc0_body (F := F) (Memref.whole main_arg0) h0 (Memref.whole main_v1) h1 cc0_scratch0 cc0_scratch1 cc0_scratch2
          cc0_scratch3 cc0_scratch4 cc0_scratch5 cc0_scratch6 cc0_scratch7 cc0_scratch8)
        (fun _ => iprop(Post m c ∗ ∃ W, owes (c : Thread nD τ) 0 W)) := by
  rw [cc0_body_eq_skeleton]
  unfold cc0_body_skel
  rw [k0_part25_eq_skeleton, k0_part26_eq_skeleton, k0_part27_eq_skeleton]
  unfold k0_part25_skel k0_part26_skel k0_part27_skel
  simp only [semSignalWord, semWaitWord, Prog.lift, Prog.bind_op, Prog.bind_ret, Prog.pure_eq_ret, wp_deviceId]
  refine start m K c ?_ (dev1_eq c _) (dev2_eq c _) (dev3_eq c _) (dev4_eq c _) (off1_eq c) rfl
  refine seq c (part28_at m K c h0 h1 _ _ _ _ _ _ _ _ _ _ _ _ _) fun ⟨_, _, _, _, _, _, _⟩ => ?_
  refine seq c (part29_at m K c h0 h1 _ _ _ _ _ _ _ _ _ _ _ _ _ _) fun ⟨_, _, _, _, _⟩ => ?_
  refine seq c (part30_at m K c h0 h1 _ _ _ _ _) fun ⟨_, _, _, _, _, _, _⟩ => ?_
  refine seq c (part31_at m K c h0 h1 _ _ _ _ _ _ _ _ _ _ _ _ _ _ _ _) fun ⟨_, _, _, _, _⟩ => ?_
  refine seq c (part32_at m K c h0 h1 _ _ _ _ _ _ _ _ _ _ _ _ _) fun ⟨_, _, _, _, _, _, _, _, _, _⟩ => ?_
  refine seq c (part33_at m K c h0 h1 _ _ _ _ _ _ _ _ _ _ _ _ _ _) fun ⟨_, _, _, _, _, _, _, _⟩ => ?_
  refine seq c (part34_at m K c h0 h1 _ _ _ _ _ _ _ _ _ _ _ _ _ _) fun ⟨_, _⟩ => ?_
  refine seq c (part35_at m K c h0 h1 _ _ _ _ _ _ _) fun ⟨_, _, _, _, _, _⟩ => ?_
  refine seq c (part36_at m K c h0 h1 _ _ _ _ _ _ _ _ _ _ _) fun ⟨_, _⟩ => ?_
  refine seq c (part37_at m K c h0 h1 _ _ _ _ _ _ _) fun ⟨_, _, _, _, _, _, _⟩ => ?_
  refine seq c (part38_at m K c h0 h1 _ _ _ _ _ _ _ _ _ _ _ _) fun _ => ?_
  refine seq c (part39_at m K c h0 h1 _ _) fun ⟨_, _, _, _, _, _⟩ => ?_
  refine seq c (part40_at m K c h0 h1 _ _ _ _ _ _ _ _ _ _ _) fun _ => ?_
  refine seq_if c (step_sent m K c (step_ret m K c)) ?_
  exact finish m K c rfl

end Cert.Gather

end
-- ==== Proof.Deal.lean ====
/-
# Dealing the cells at launch

The launch funds one round for every semaphore of every device. Here the duty tokens are dealt to the devices that pay them
and the invariants of all cells are set up, so that each device gets its share: the records of every cell, its own positions
and the tokens of its own duties.
-/
module

public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Cells and tokens -/

theorem csem_injective : Function.Injective csem := by
  rintro (_ | _ | ⟨k, i⟩) (_ | _ | ⟨k', i'⟩) h
  · rfl
  · exact absurd h (by intro h'; cases h')
  · exact absurd h (by intro h'; cases h')
  · exact absurd h (by intro h'; cases h')
  · rfl
  · exact absurd (SemLoc.dma.inj h).symm (gs_ne_copy k' i')
  · exact absurd h (by intro h'; cases h')
  · exact absurd (SemLoc.dma.inj h) (gs_ne_copy k i)
  · have h1 : dec (gs k i) = dec (gs k' i') := congrArg dec (SemLoc.dma.inj h)
    rw [dec_gs, dec_gs] at h1
    rw [h1]
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]
/-- Every cell of the kernel. -/
def allCells : Finset (GSem nD τ sig) := Finset.univ.map ⟨kcell, kcell_injective⟩

/-- A device's duties: the four of its barrier, the local copy's, the transfers'. -/
abbrev TJ : Type := Fin 4 ⊕ (Unit ⊕ (Fin 4 × Slot))
/-- The token of a duty. -/
abbrev tokOf (x : Dev nD × TJ) : GSem nD τ sig × ℕ × Fin 4 :=
  match x.2 with
  | .inl k => (barCell x.1, 0, k)
  | .inr y => (kcell (x.1, .inr y), 0, 0)
theorem tokOf_injective : Function.Injective tokOf := by
  rintro ⟨c, k | y⟩ ⟨c', k' | y'⟩ h
  · have h1 : c = c' := congrArg (fun g : GSem nD τ sig × ℕ × Fin 4 => g.1.1.1) h
    have h2 : k = k' := congrArg (fun g : GSem nD τ sig × ℕ × Fin 4 => g.2.2) h
    rw [h1, h2]
  · have h1 : csem (.inl ()) = csem (.inr y') := congrArg (fun g : GSem nD τ sig × ℕ × Fin 4 => g.1.2) h
    exact absurd (csem_injective h1) (by intro h'; cases h')
  · have h1 : csem (.inr y) = csem (.inl ()) := congrArg (fun g : GSem nD τ sig × ℕ × Fin 4 => g.1.2) h
    exact absurd (csem_injective h1) (by intro h'; cases h')
  · have h1 := kcell_injective (congrArg (fun g : GSem nD τ sig × ℕ × Fin 4 => g.1) h)
    cases h1; rfl
def allToks : Finset (GSem nD τ sig × ℕ × Fin 4) := Finset.univ.map ⟨tokOf, tokOf_injective⟩

/-- The element the launch starts from. -/
def u₀ : UU := (initOf (Pipeline.cells cfgs cellOf_inj) (Pipeline.launchToks cfgs cellOf_inj), initOf allCells allToks)

/-- The tokens of the duties of a device's own cells. -/
def toks (c : Dev nD) : sProp 𝕄 :=
  iprop((bigSep Finset.univ fun k : Fin 4 => dutyTok ER (barCell c) 0 k) ∗ dutyTok ER (copyCell c) 0 0
    ∗ bigSep Finset.univ fun x : Fin 4 × Slot => tok x.1 x.2 c)
/-- What the launch funds for a device. -/
def funded (c : Dev nD) : sProp 𝕄 :=
  iprop((bigSep Finset.univ fun k : CI => roundState ER (sched m) (kcell (c, k)) 0)
    ∗ (bigSep Finset.univ fun k : CI => iprop(atPos ER (kcell (c, k)) 0 ∅ 0 ∗ reached ER (kcell (c, k)) 0)) ∗ toks c)

theorem fund_all : BI.own (ER (initOf allCells allToks)) ⊢ (|==> bigSep Finset.univ (funded m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    rw [bigSep_univ_sum, bigSep_univ_sum, bigSep_univ_of_subsingleton ()]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold funded; simp only [bigSep_sep']
  isplitl [Hst']; · iexact Hst'
  isplitl [Hat' Hr']
  · isplitl [Hat'] <;> iassumption
  iexact Htok'

/-! ## The semaphores at launch -/

/-- The kernel's own semaphores: the local copy's and the transfers'. -/
def osem : Unit ⊕ (Fin 4 × Slot) → SemLoc sig := fun y => csem (.inr y)

theorem ownSemFacts : Pipeline.OwnSemFacts cfg0.spec osem := by decide +kernel

/-- The barrier's is the one semaphore a launch does not scope. -/
theorem unscoped_eq (c : Dev nD) : (unscopedSems0 c : sProp 𝕄) = semVal (barCell c) 0 := by
  unfold unscopedSems0; rw [bigSep_eq_bigSepL_of_eq [SemLoc.reg barS] (by decide +kernel) (by decide)]; rfl

/-- Every semaphore of a device at zero is the kernel's own and the barrier's at zero. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  have ho : (Pipeline.ownSems0 (Ix := Unit) (Name := ℕ) (U := UU) (Lvl := ℕ) (Val := Elt F) (τ := τ) osem c : sProp 𝕄)
      = bigSep Finset.univ fun y : Unit ⊕ (Fin 4 × Slot) => semVal (kcell (c, .inr y)) 0 := rfl
  rw [unscoped_eq, ho, bigSep_univ_sum (fun k : CI => (semVal (kcell (c, k)) 0 : sProp 𝕄)), bigSep_univ_of_subsingleton ()]
  show _ ⊢ iprop(_ ∗ _)
  iintro ⟨HO, HB⟩
  isplitl [HB]; · iexact HB
  iexact HO

/-! ## The invariants and the dealing -/

/-- The invariants of one device's cells. -/
theorem cells_alloc (c : Dev nD) :
    iprop(Pipeline.ownSems0 (Ix := Unit) (Name := ℕ) (U := UU) (Lvl := ℕ) (Val := Elt F) (τ := τ) osem c ∗ unscopedSems0 c ∗ funded m c)
      ⊢ |={Set.univ}=> iprop((bigSep Finset.univ fun k : CI => iprop(∃ κ : ℕ, cellInv ER (sched m) κ (kcell (c, k))))
          ∗ (bigSep Finset.univ fun k : CI => iprop(atPos ER (kcell (c, k)) 0 ∅ 0 ∗ reached ER (kcell (c, k)) 0)) ∗ toks c) := by
  have h : iprop((bigSep Finset.univ fun k : CI => semVal (kcell (c, k)) 0) ∗ bigSep Finset.univ fun k : CI => roundState ER (sched m) (kcell (c, k)) 0)
      ⊢ (|={Set.univ}=> bigSep Finset.univ fun k : CI => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold funded
  iintro ⟨Ho, Hu, Hst, Hrest⟩
  ihave Hv := (sems_eq (F := F) c) $$ [Ho Hu]
  · isplitl [Ho] <;> iassumption
  imod h $$ [Hv Hst] with Hinv
  · isplitl [Hv] <;> iassumption
  imodintro
  isplitl [Hinv]; · iexact Hinv
  iexact Hrest

/-- A device's positions on its semaphores. -/
def places (c : Dev nD) : sProp 𝕄 :=
  iprop(atPos ER (barCell c) 0 ∅ 0 ∗ atPos ER (copyCell c) 0 ∅ 0
    ∗ bigSep Finset.univ fun i : Slot => iprop(pos 0 i c ∗ pos 1 i c ∗ pos 2 i c ∗ pos 3 i c))
/-- The tokens of the duties a device pays. -/
def pays (c : Dev nD) : sProp 𝕄 :=
  iprop((bigSep Finset.univ fun k : Fin 4 => dutyTok ER (barCell (sigTo k c)) 0 k) ∗ dutyTok ER (copyCell c) 0 0
    ∗ (bigSep Finset.univ fun i : Slot => tok 0 i c) ∗ (bigSep Finset.univ fun i : Slot => tok 1 i (next i.1 c))
    ∗ (bigSep Finset.univ fun i : Slot => tok 2 i c) ∗ bigSep Finset.univ fun i : Slot => tok 3 i (partner c))
/-- What a device is dealt. -/
def dealt (c : Dev nD) : sProp 𝕄 := iprop(∃ K, records m K ∗ places c ∗ pays c)

theorem bigSep_roles (Φ : Fin 4 × Slot → sProp 𝕄) :
    bigSep Finset.univ Φ = iprop((bigSep Finset.univ fun i : Slot => Φ (0, i)) ∗ (bigSep Finset.univ fun i : Slot => Φ (1, i))
      ∗ (bigSep Finset.univ fun i : Slot => Φ (2, i)) ∗ bigSep Finset.univ fun i : Slot => Φ (3, i)) := by
  rw [bigSep_univ_prod]; exact bigSep_univ_eq_bigSepL [0, 1, 2, 3] (by decide) (by decide) _

/-- A family over devices and a second index, moved along a permutation of the devices for each value of the index. -/
theorem bigSep_move {I : Type} [Fintype I] (e : I → (Dev nD ≃ Dev nD)) (Φ : I → Dev nD → sProp 𝕄) :
    (bigSep Finset.univ fun c : Dev nD => bigSep Finset.univ fun i : I => Φ i c)
      = bigSep Finset.univ fun c : Dev nD => bigSep Finset.univ fun i : I => Φ i (e i c) := by
  rw [bigSep_univ_comm, bigSep_univ_comm (fun c i => Φ i (e i c))]
  exact bigSep_congr fun i _ => bigSep_univ_equiv (e i) (Φ i)

/-- The tokens, from the devices whose cells they are of to the devices that pay them. -/
theorem toks_dealt : (bigSep Finset.univ fun c : Dev nD => (toks c : sProp 𝕄)) ⊢ bigSep Finset.univ fun c : Dev nD => pays c := by
  have h : (bigSep Finset.univ fun c : Dev nD => (toks c : sProp 𝕄)) = bigSep Finset.univ fun c : Dev nD => pays c := by
    unfold toks pays
    simp only [bigSep_roles, bigSep_sep']
    rw [bigSep_move sigE (fun k c => dutyTok ER (barCell c) 0 k),
      bigSep_move (fun i : Slot => nextE i.1) (fun i c => tok 1 i c), bigSep_move (fun _ : Slot => partnerE) (fun i c => tok 3 i c)]
    rfl
  exact Entails.of_eq h

theorem bigSep_with_records {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

/-- From every device's invariants, positions and tokens to what each is dealt. -/
theorem regroup :
    (bigSep Finset.univ fun c : Dev nD => iprop((bigSep Finset.univ fun k : CI => iprop(∃ κ : ℕ, cellInv ER (sched m) κ (kcell (c, k))))
          ∗ (bigSep Finset.univ fun k : CI => iprop(atPos ER (kcell (c, k)) 0 ∅ 0 ∗ reached ER (kcell (c, k)) 0)) ∗ toks c) : sProp 𝕄)
      ⊢ bigSep Finset.univ (dealt m) := by
  classical
  have hp (c : Dev nD) : (bigSep Finset.univ fun k : CI => (atPos ER (kcell (c, k)) 0 ∅ 0 : sProp 𝕄)) = places c := by
    unfold places
    rw [bigSep_univ_sum, bigSep_univ_of_subsingleton (), bigSep_univ_sum, bigSep_univ_of_subsingleton (), bigSep_roles]
    simp only [bigSep_sep']
    rfl
  rw [bigSep_sep', bigSep_sep', ← bigSep_univ_prod (fun x : Dev nD × CI => iprop(∃ κ : ℕ, cellInv ER (sched m) κ (kcell x))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun x : Dev nD × CI => (reached ER (kcell x) 0 : sProp 𝕄)), bigSep_congr (s := Finset.univ) (fun c _ => hp c)]
  iintro ⟨HI, ⟨Hat, #HR⟩, Htok⟩
  ihave HK := (BI.bigSep_exists_pi Finset.univ (fun (x : Dev nD × CI) (κ : ℕ) => (cellInv ER (sched m) κ (kcell x) : sProp 𝕄))) $$ HI
  icases HK with ⟨%K, #HI⟩
  ihave Htk := (toks_dealt (F := F)) $$ Htok
  have hd : ∀ c : Dev nD, iprop(records m K ∗ (places c ∗ pays c)) ⊢ dealt m c := fun c => by
    unfold dealt
    iintro H
    iexists K
    iexact H
  iapply (bigSep_with_records (R := records m K) hd)
  isplitr
  · unfold records; isplitl; · iexact HI
    iexact HR
  · rw [bigSep_sep']
    isplitl [Hat]; · iexact Hat
    iexact Htk

/-- The step all devices take together. -/
theorem deal : (bigSep Finset.univ fun c => iprop(Pipeline.ownSems0 (Ix := Unit) (Name := ℕ) (U := UU) (Lvl := ℕ) (Val := Elt F) (τ := τ) osem c
      ∗ unscopedSems0 c ∗ funded m c) : sProp 𝕄)
    ⊢ |={Set.univ}=> bigSep Finset.univ (dealt m) :=
  ((bigSep_mono fun c _ => cells_alloc m c).trans (bigSep_fupd _ _)).trans (BI.fupd_mono (regroup m))

end Cert.Gather

end
-- ==== Proof.Split.lean ====
/-
# The arrays cut into blocks

At launch a device's gathered array is cut into its own chunk and the blocks other devices write, which it hands to them
through the barrier; its own array into the part the local copy reads and the blocks the first hop sends. At the end the
pieces are read back against the memory.
-/
module

public import proofs.«01_k».proof.Proof.Deal

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Which blocks -/

/-- A block of a device's gathered array another device writes: that of slot `x.1`, from the ring or, where `x.2`, from the
    partner. -/
abbrev Piece : Type := Slot × Bool
/-- The number of the block. -/
def blk (c : Dev nD) (x : Piece) : Fin 32 := if x.2 then rb x.1 (partner c) else rb x.1 c
/-- The pieces in use on a device. -/
def pieces (c : Dev nD) : Finset Piece := Finset.univ.filter fun x => rcv x.1 c = true

theorem blk_injective : ∀ (c : Dev nD) (x y : Piece), rcv x.1 c = true → rcv y.1 c = true → blk c x = blk c y → x = y := by decide +kernel
theorem blk_other : ∀ (c : Dev nD) (x : Piece), rcv x.1 c = true → (blk c x).val / 8 ≠ c.val % 4 := by decide +kernel
theorem blk_all : ∀ (c : Dev nD) (b : Fin 32), b.val / 8 ≠ c.val % 4 → ∃ x : Piece, rcv x.1 c = true ∧ blk c x = b := by decide +kernel

theorem mem_ob (b : Fin 32) (i : S65536x1024.Idx) : i ∈ (ob b).view.set ↔ (i (0 : Fin 2)).val / 2048 = b.val := by
  rw [show (ob b).view.set = (Rect.unit (s := S65536x1024) (boff b.val) S2048x1024.size (boff_inb b)).set from View.set_slice_whole _ _, Rect.mem_set_unit]
  have h1 : (i (1 : Fin 2)).val < 1024 := (i (1 : Fin 2)).isLt
  constructor
  · intro h
    have h0 := h (0 : Fin 2)
    have : 2048 * b.val ≤ (i (0 : Fin 2)).val ∧ (i (0 : Fin 2)).val < 2048 * b.val + 2048 := h0
    omega
  · intro h a
    match a with
    | ⟨0, _⟩ => show 2048 * b.val ≤ (i (0 : Fin 2)).val ∧ (i (0 : Fin 2)).val < 2048 * b.val + 2048; omega
    | ⟨1, _⟩ => show 0 ≤ (i (1 : Fin 2)).val ∧ (i (1 : Fin 2)).val < 0 + 1024; omega
theorem mem_cm (c : Dev nD) (i : S65536x1024.Idx) : i ∈ (cm c).view.set ↔ (i (0 : Fin 2)).val / 16384 = c.val % 4 := by
  rw [show (cm c).view.set = (Rect.unit (s := S65536x1024) (coff (c.val % 4)) S16384x1024.size (coff_inb c)).set from View.set_slice_whole _ _, Rect.mem_set_unit]
  have h1 : (i (1 : Fin 2)).val < 1024 := (i (1 : Fin 2)).isLt
  constructor
  · intro h
    have h0 := h (0 : Fin 2)
    have : 16384 * (c.val % 4) ≤ (i (0 : Fin 2)).val ∧ (i (0 : Fin 2)).val < 16384 * (c.val % 4) + 16384 := h0
    omega
  · intro h a
    match a with
    | ⟨0, _⟩ => show 16384 * (c.val % 4) ≤ (i (0 : Fin 2)).val ∧ (i (0 : Fin 2)).val < 16384 * (c.val % 4) + 16384; omega
    | ⟨1, _⟩ => show 0 ≤ (i (1 : Fin 2)).val ∧ (i (1 : Fin 2)).val < 0 + 1024; omega
theorem mem_xm (b : Fin 8) (i : S16384x1024.Idx) : i ∈ (xm b).view.set ↔ (i (0 : Fin 2)).val / 2048 = b.val := by
  rw [show (xm b).view.set = (Rect.unit (s := S16384x1024) (boff b.val) S2048x1024.size (xoff_inb b)).set from View.set_slice_whole _ _, Rect.mem_set_unit]
  have h1 : (i (1 : Fin 2)).val < 1024 := (i (1 : Fin 2)).isLt
  constructor
  · intro h
    have h0 := h (0 : Fin 2)
    have : 2048 * b.val ≤ (i (0 : Fin 2)).val ∧ (i (0 : Fin 2)).val < 2048 * b.val + 2048 := h0
    omega
  · intro h a
    match a with
    | ⟨0, _⟩ => show 2048 * b.val ≤ (i (0 : Fin 2)).val ∧ (i (0 : Fin 2)).val < 2048 * b.val + 2048; omega
    | ⟨1, _⟩ => show 0 ≤ (i (1 : Fin 2)).val ∧ (i (1 : Fin 2)).val < 0 + 1024; omega

/-- Every place of the gathered array is in a device's own chunk or in a piece in use. -/
theorem covered (c : Dev nD) (i : S65536x1024.Idx) :
    i ∈ (cm c).view.set ∨ ∃ x : Piece, rcv x.1 c = true ∧ i ∈ (ob (blk c x)).view.set := by
  have h0 : (i (0 : Fin 2)).val < 65536 := (i (0 : Fin 2)).isLt
  by_cases h : (i (0 : Fin 2)).val / 16384 = c.val % 4
  · exact Or.inl ((mem_cm c i).mpr h)
  · obtain ⟨x, hx, hb⟩ := blk_all c ⟨(i (0 : Fin 2)).val / 2048, by omega⟩ (by show (i (0 : Fin 2)).val / 2048 / 8 ≠ _; omega)
    exact Or.inr ⟨x, hx, (mem_ob _ i).mpr (by rw [hb])⟩

/-- Outside the own chunk lie exactly the pieces. -/
theorem outside (c : Dev nD) : (Finset.univ \ (cm c).view.set : Finset S65536x1024.Idx) = (pieces c).biUnion fun x => (ob (blk c x)).view.set := by
  ext i
  rw [Finset.mem_sdiff, Finset.mem_biUnion, mem_cm]
  constructor
  · rintro ⟨-, h⟩
    rcases covered c i with hc | ⟨x, hx, hi⟩
    · exact absurd ((mem_cm c i).mp hc) h
    · exact ⟨x, Finset.mem_filter.mpr ⟨Finset.mem_univ _, hx⟩, hi⟩
  · rintro ⟨x, hx, hi⟩
    have hx := (Finset.mem_filter.mp hx).2
    have hb := (mem_ob _ i).mp hi
    have := blk_other c x hx
    exact ⟨Finset.mem_univ _, by omega⟩

theorem disjoint_ob {b b' : Fin 32} (h : b ≠ b') : Disjoint (ob b).view.set (ob b').view.set :=
  Finset.disjoint_left.mpr fun i hi hi' => h (Fin.ext (((mem_ob b i).mp hi).symm.trans ((mem_ob b' i).mp hi')))
theorem disjoint_xm {b b' : Fin 8} (h : b ≠ b') : Disjoint (xm b).view.set (xm b').view.set :=
  Finset.disjoint_left.mpr fun i hi hi' => h (Fin.ext (((mem_xm b i).mp hi).symm.trans ((mem_xm b' i).mp hi')))

/-! ## The gathered array at launch -/

theorem next_zsh_one : ∀ c : Dev nD, next 1 (zsh 1 c) = c := by decide +kernel
theorem next_zsh_three : ∀ c : Dev nD, next 0 (zsh 3 c) = c := by decide +kernel

/-- Slot `i`'s block of a device's own gathered array at its launch contents, to be written by the ring, -/
def lendR (c : Dev nD) (i : Slot) : sProp 𝕄 := if rcv i c then oPts fullShare (rb i c) c (m ((c : Thread nD τ).loc main_v1)) else iprop(emp)
/-- and the one to be written by the partner. -/
def lendP (c : Dev nD) (i : Slot) : sProp 𝕄 := if rcv i c then oPts fullShare (rb i (partner c)) c (m ((c : Thread nD τ).loc main_v1)) else iprop(emp)

/-- What the signal to the partner hands over are the signaller's own blocks; -/
theorem pay_partner (c : Dev nD) : barPay m (sigTo 0 c) 0 = bigSep Finset.univ fun i : Slot => lendP m c i := by
  unfold barPay
  rw [if_pos rfl]
  refine bigSep_congr fun i _ => ?_
  show dstP m i (partner c) = _
  unfold dstP lendP
  rw [rcv_partner, partner_partner]
/-- so are those the signals along `z` hand over. -/
theorem pay_up (c : Dev nD) : barPay m (sigTo 1 c) 1 = bigSep Finset.univ fun i : Fin 3 × Fin 4 => lendR m c (1, i) := by
  unfold barPay
  rw [if_neg (by decide), if_pos rfl]
  refine bigSep_congr fun i _ => ?_
  show dstN m (1, i) (zsh 1 c) = _
  unfold dstN lendR snd
  rw [next_zsh_one]
theorem pay_two (c : Dev nD) : barPay m (sigTo 2 c) 2 = iprop(emp) :=
  (if_neg (by decide)).trans ((if_neg (by decide)).trans (if_neg (by decide)))
theorem pay_down (c : Dev nD) : barPay m (sigTo 3 c) 3 = bigSep Finset.univ fun i : Fin 3 × Fin 4 => lendR m c (0, i) := by
  unfold barPay
  rw [if_neg (by decide), if_neg (by decide), if_pos rfl]
  refine bigSep_congr fun i _ => ?_
  show dstN m (0, i) (zsh 3 c) = _
  unfold dstN lendR snd
  rw [next_zsh_three]

/-- The gathered array at launch is the own chunk and what the signals hand over. -/
theorem out_split (c : Dev nD) :
    (((c : Thread nD τ).loc main_v1) ↦{fullShare} m ((c : Thread nD τ).loc main_v1) : sProp 𝕄)
      ⊢ iprop(((cm c).view.loc (c : Thread nD τ) ↦[(cm c).view.set]{fullShare} m ((c : Thread nD τ).loc main_v1))
        ∗ barPay m (sigTo 1 c) 1 ∗ barPay m (sigTo 2 c) 2 ∗ barPay m (sigTo 3 c) 3 ∗ barPay m (sigTo 0 c) 0) := by
  have h : (((c : Thread nD τ).loc main_v1) ↦[(Finset.univ \ (cm c).view.set : Finset S65536x1024.Idx)]{fullShare} m ((c : Thread nD τ).loc main_v1) : sProp 𝕄)
      = bigSep Finset.univ fun i : Slot => iprop(lendR m c i ∗ lendP m c i) := by
    have hb : (((c : Thread nD τ).loc main_v1) ↦[(pieces c).biUnion fun x => (ob (blk c x)).view.set]{fullShare} m ((c : Thread nD τ).loc main_v1) : sProp 𝕄)
        = bigSep (pieces c) fun x => oPts fullShare (blk c x) c (m ((c : Thread nD τ).loc main_v1)) :=
      pointsTo_biUnion _ _ fun x hx y hy hxy => disjoint_ob fun hb =>
        hxy (blk_injective c x y (Finset.mem_filter.mp hx).2 (Finset.mem_filter.mp hy).2 hb)
    rw [outside]
    refine hb.trans ?_
    unfold pieces
    rw [bigSep_filter, bigSep_univ_prod]
    refine bigSep_congr fun i _ => ?_
    rw [bigSep_univ_eq_bigSepL [false, true] (by decide) (by decide)]
    rfl
  have h2 : (bigSep Finset.univ fun i : Slot => lendR m c i)
      = iprop((bigSep Finset.univ fun i : Fin 3 × Fin 4 => lendR m c (0, i)) ∗ bigSep Finset.univ fun i : Fin 3 × Fin 4 => lendR m c (1, i)) := by
    rw [bigSep_univ_prod, bigSep_fin_two]; rfl
  rw [pay_up, pay_two, pay_down, pay_partner]
  refine (pointsTo_split_subset (Finset.subset_univ (cm c).view.set)).1.trans ?_
  rw [h, bigSep_sep', h2]
  iintro ⟨Hc, ⟨H0, H1⟩, HP⟩
  isplitl [Hc]; · iexact Hc
  isplitl [H1]; · iexact H1
  isplitr; · iempintro
  isplitl [H0]; · iexact H0
  iexact HP

/-! ## The own array at launch -/

theorem xb_injective : ∀ (c : Dev nD) (s s' : Fin 4), xb s c = xb s' c → s = s' := by decide +kernel

/-- What direction `d` sends at the first hop. -/
theorem src_start (c : Dev nD) (d : Fin 2) :
    (bigSep Finset.univ fun s : Fin 4 => xPts m (qx d) (xb s c) c) ⊢ bigSep Finset.univ fun i : Fin 3 × Fin 4 => SrcSt m c 0 (d, i) := by
  have h3 (Φ : Fin 3 → sProp 𝕄) : bigSep Finset.univ Φ = iprop(Φ 0 ∗ Φ 1 ∗ Φ 2) := bigSep_univ_eq_bigSepL [0, 1, 2] (by decide) (by decide) Φ
  have h0 (s : Fin 4) : SrcSt m c 0 (d, 0, s) = xPts m (qx d) (xb s c) c := if_pos (by clear * -; revert d s; decide +kernel)
  have h1 (s : Fin 4) : SrcSt m c 0 (d, 1, s) = iprop(emp) := if_neg (by clear * -; revert d s; decide +kernel)
  have h2 (s : Fin 4) : SrcSt m c 0 (d, 2, s) = iprop(emp) := if_neg (by clear * -; revert d s; decide +kernel)
  rw [bigSep_univ_prod, h3]
  simp only [h0, h1, h2]
  have he : (bigSep Finset.univ fun _ : Fin 4 => (iprop(emp) : sProp 𝕄)) = iprop(emp) := BI.bigSep_emp_const _
  rw [he]
  iintro H
  isplitl [H]; · iexact H
  isplitr <;> iempintro

/-- The own array at launch is the local copy's half and the blocks of the first hop. -/
theorem x_split (c : Dev nD) :
    (((c : Thread nD τ).loc main_arg0) ↦{fullShare} m ((c : Thread nD τ).loc main_arg0) : sProp 𝕄)
      ⊢ iprop((xM.view.loc (c : Thread nD τ) ↦[xM.view.set]{fullShare.left} m ((c : Thread nD τ).loc main_arg0))
        ∗ bigSep Finset.univ fun i : Slot => SrcSt m c 0 i) := by
  have hb : ((((c : Thread nD τ).loc main_arg0) ↦[(Finset.univ : Finset (Fin 4)).biUnion fun s => (xm (xb s c)).view.set]{fullShare.right} m ((c : Thread nD τ).loc main_arg0)) : sProp 𝕄)
      = bigSep Finset.univ fun s : Fin 4 => xPts m fullShare.right (xb s c) c :=
    pointsTo_biUnion _ _ fun s _ s' _ hs => disjoint_xm fun h => hs (xb_injective c s s' h)
  have hc : (((c : Thread nD τ).loc main_arg0) ↦{fullShare.right} m ((c : Thread nD τ).loc main_arg0) : sProp 𝕄)
      ⊢ (((c : Thread nD τ).loc main_arg0) ↦[(Finset.univ : Finset (Fin 4)).biUnion fun s => (xm (xb s c)).view.set]{fullShare.right} m ((c : Thread nD τ).loc main_arg0)) :=
    (pointsTo_split_subset (Finset.subset_univ _)).1.trans sep_elim_left
  have hq (s : Fin 4) : xPts m fullShare.right (xb s c) c ⊢ iprop(xPts m (qx 0) (xb s c) c ∗ xPts m (qx 1) (xb s c) c) :=
    (pointsTo_share (PosShare.mem_left_op_right fullShare.right)).1
  have hs : (bigSep Finset.univ fun i : Slot => SrcSt m c 0 i)
      = iprop((bigSep Finset.univ fun i : Fin 3 × Fin 4 => SrcSt m c 0 (0, i)) ∗ bigSep Finset.univ fun i : Fin 3 × Fin 4 => SrcSt m c 0 (1, i)) := by
    rw [bigSep_univ_prod, bigSep_fin_two]; rfl
  have hw : xM.view.set = Finset.univ := View.set_whole _
  rw [hs, hw]
  refine (pointsTo_share (PosShare.mem_left_op_right fullShare)).1.trans (sep_mono_right ?_)
  refine (hc.trans (Entails.of_eq hb)).trans ?_
  refine (bigSep_mono fun s _ => hq s).trans ?_
  rw [bigSep_sep']
  exact BIClass.sep_mono (src_start m c 0) (src_start m c 1)

end Cert.Gather

end
-- ==== Proof.Run.lean ====
/-
# The run

What every device owes at launch against what every device's semaphores are credited with, the launch's other side
conditions, and the run itself: from any memory with zero counters every device ends with the whole gathered array, its own
array unchanged and every semaphore at zero.
-/
module

public import proofs.«01_k».proof.Proof.Split
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Credits -/

/-- The credits of role `k` of device `c`'s slots. -/
def slotCr (k : Fin 4) (c : Dev nD) : CellTallies nD τ sig Unit := ∑ i : Slot, if rcv i c then tallyAt (cell k i c) () N else 0
/-- What a device's semaphores are credited with by the other devices. -/
def allCr (c : Dev nD) : CellTallies nD τ sig Unit := tallyAt (barCell c) () 4 + (slotCr 1 c + slotCr 3 c)

theorem sum_sig (k : Fin 4) : (∑ c : Dev nD, sigT k c) = ∑ c : Dev nD, (tallyAt (barCell c) () 1 : CellTallies nD τ sig Unit) :=
  Equiv.sum_comp (sigE k) fun c => (tallyAt (barCell c) () 1 : CellTallies nD τ sig Unit)
theorem sum_evS : (∑ c : Dev nD, ∑ i : Slot, evS c i) = ∑ c : Dev nD, slotCr 1 c := by
  unfold slotCr
  rw [Finset.sum_comm, Finset.sum_comm (s := (Finset.univ : Finset (Dev nD)))]
  refine Finset.sum_congr rfl fun i _ => ?_
  exact Equiv.sum_comp (nextE i.1) fun c => (if rcv i c then tallyAt (cell 1 i c) () N else 0 : CellTallies nD τ sig Unit)
theorem sum_evX : (∑ c : Dev nD, ∑ i : Slot, evX c i) = ∑ c : Dev nD, slotCr 3 c := by
  unfold slotCr
  rw [Finset.sum_comm, Finset.sum_comm (s := (Finset.univ : Finset (Dev nD)))]
  refine Finset.sum_congr rfl fun i _ => ?_
  rw [← Equiv.sum_comp partnerE fun c => (if rcv i c then tallyAt (cell 3 i c) () N else 0 : CellTallies nD τ sig Unit)]
  refine Finset.sum_congr rfl fun c _ => ?_
  show evX c i = if rcv i (partner c) then tallyAt (cell 3 i (partner c)) () N else 0
  unfold evX
  rw [rcv_partner]
theorem rest_start (c : Dev nD) : rest c 0 = (∑ i : Slot, evS c i) + ∑ i : Slot, evX c i := by
  unfold rest
  simp only [Nat.zero_le, if_true]

/-- What all devices owe is what all semaphores are credited with. -/
theorem sum_owed : (∑ c : Dev nD, O₀ c) = ∑ c : Dev nD, allCr c := by
  have h4 : (∑ c : Dev nD, (tallyAt (barCell c) () 4 : CellTallies nD τ sig Unit))
      = (∑ c : Dev nD, (tallyAt (barCell c) () 1 : CellTallies nD τ sig Unit)) + (∑ c : Dev nD, (tallyAt (barCell c) () 1 : CellTallies nD τ sig Unit))
        + (∑ c : Dev nD, (tallyAt (barCell c) () 1 : CellTallies nD τ sig Unit)) + ∑ c : Dev nD, (tallyAt (barCell c) () 1 : CellTallies nD τ sig Unit) := by
    rw [← Finset.sum_add_distrib, ← Finset.sum_add_distrib, ← Finset.sum_add_distrib]
    refine Finset.sum_congr rfl fun c _ => ?_
    rw [tallyAt_add, tallyAt_add, tallyAt_add]
  unfold O₀ allCr
  simp only [rest_start, Finset.sum_add_distrib]
  rw [sum_sig, sum_sig, sum_sig, sum_sig, sum_evS, sum_evX, h4]
  ac_rfl

/-- A device's credits are on its own semaphores. -/
theorem allCr_own (c : Dev nD) (g : GSem nD τ sig) (h : allCr c g ≠ 0) : g.1 = (c : Thread nD τ) := by
  by_contra hg
  refine h ?_
  have h0 (sm : SemLoc sig) (n : ℕ) : (tallyAt ((c : Thread nD τ), sm) () n : CellTallies nD τ sig Unit) g = 0 :=
    tallyAt_ne_cell (fun h' => hg (congrArg Prod.fst h')) () n
  have hs (k : Fin 4) : slotCr k c g = 0 := by
    unfold slotCr
    rw [Finset.sum_apply]
    refine Finset.sum_eq_zero fun i _ => ?_
    split
    · exact h0 _ _
    · rfl
  unfold allCr
  rw [Pi.add_apply, Pi.add_apply, hs, hs, h0, add_zero, add_zero]

/-- The credits the launch gives a device. -/
theorem credits (c : Dev nD) :
    (Pipeline.launchCred O₀ c : sProp 𝕄)
      ⊢ iprop(cred (tallyAt (barCell c) () 4) ∗ (bigSep Finset.univ fun i : Slot => crd 1 i c) ∗ bigSep Finset.univ fun i : Slot => crd 3 i c) := by
  classical
  have hk (k : Fin 4) (h : ∀ i, use k i c = rcv i c) : (cred (slotCr k c) : sProp 𝕄) = bigSep Finset.univ fun i : Slot => crd k i c := by
    unfold slotCr
    rw [Pipeline.cred_finsetSum]
    refine bigSep_congr fun i _ => ?_
    unfold crd
    rw [h]
    split
    · rfl
    · rw [cred_zero]
  rw [Pipeline.launchCred_of_sum O₀ allCr sum_owed allCr_own c, ← hk 1 fun _ => rfl, ← hk 3 fun _ => rfl]
  unfold allCr
  exact (cred_add _ _).1.trans (sep_mono_right (cred_add _ _).1)

/-! ## The kernel's one call -/

/-- The memory at launch. -/
def s₀ : MemSt nD τ sig (Elt F) := ⟨m, fun _ => 0, ρ⟩

/-- What a device brings to the body. -/
def begins (c : Dev nD) : sProp 𝕄 := iprop(∃ K, Pre m K c)

/-- The call's data: no windows, what the body needs before it and leaves after it, what is owed before and after. -/
def dats (_ : Fin 1) (c : Dev nD) : Pipeline.Dat τ (Elt F) Unit ℕ UU ℕ cfg0 c where
  A w := w.elim0
  after w _ := w.elim0
  Φ t := match t with
    | ⟨0, _⟩ => begins m c
    | ⟨_ + 1, _⟩ => Post m c
  q _ := fullShare
  owed t := match t with
    | ⟨0, _⟩ => O₀ c
    | ⟨_ + 1, _⟩ => 0

theorem no_windows (Φ : Fin cfg0.W → sProp 𝕄) : bigSep Finset.univ Φ = iprop(emp) := by
  rw [show (Finset.univ : Finset (Fin cfg0.W)) = ∅ from rfl, bigSep_empty]; rfl

theorem body_obligation (c : Dev nD) : Pipeline.BodyObligation (dats (F := F) m 0 c) (defs₀ (F := F)) 𝒱₀ () Set.univ := fun t => by
  rw [fin_N0 t, no_windows, no_windows]
  show iprop(begins m c ∗ (dats m 0 c).owesAt () t0_0.castSucc ∗ emp)
    ⊢ WP c (cc0_body (F := F) (Memref.whole main_arg0) (Memref.isWhole_whole _) (Memref.whole main_v1) (Memref.isWhole_whole _) cc0_scratch0 cc0_scratch1 cc0_scratch2
          cc0_scratch3 cc0_scratch4 cc0_scratch5 cc0_scratch6 cc0_scratch7 cc0_scratch8)
        (fun _ => iprop(Post m c ∗ (dats m 0 c).owesAt () t0_0.succ ∗ emp))
  unfold begins Pipeline.Dat.owesAt Pipeline.owesWithin
  have hpost : iprop(Post m c ∗ ∃ W, owes (c : Thread nD τ) 0 W)
      ⊢ iprop(Post m c ∗ (∃ W, ⌜↑W ⊆ (dats m 0 c).bound () t0_0.succ⌝ ∗ owes (c : Thread nD τ) ((dats m 0 c).owed t0_0.succ) W) ∗ emp) := by
    iintro ⟨HP, ⟨%W, HO⟩⟩
    isplitl [HP]; · iexact HP
    isplitl [HO]
    · iexists W
      isplitr
      · ipureintro; exact fun _ _ => Or.inl trivial
      iexact HO
    iempintro
  iintro ⟨⟨%K, HP⟩, ⟨%W, -, HO⟩, -⟩
  iapply ((body_at m K c (Memref.isWhole_whole _) (Memref.isWhole_whole _)).trans (wp_mono _ _ _ fun _ => hpost))
  isplitl [HP]; · iexact HP
  iexists W
  iexact HO

/-! ## Before and after the body -/

/-- What a device is dealt, its credits and its arrays are what the body needs. -/
theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(begins m c ∗ emp) := by
  have h4 (Φ : Fin 4 → sProp 𝕄) : bigSep Finset.univ Φ = iprop(Φ 0 ∗ Φ 1 ∗ Φ 2 ∗ Φ 3) := bigSep_univ_eq_bigSepL [0, 1, 2, 3] (by decide) (by decide) Φ
  have hslot : (bigSep Finset.univ fun i : Slot => (slot0 c i : sProp 𝕄))
      = iprop(((bigSep Finset.univ fun i : Slot => tok 0 i c) ∗ bigSep Finset.univ fun i : Slot => tok 1 i (next i.1 c))
        ∗ ((bigSep Finset.univ fun i : Slot => tok 2 i c) ∗ bigSep Finset.univ fun i : Slot => tok 3 i (partner c))
        ∗ (bigSep Finset.univ fun i : Slot => iprop(pos 0 i c ∗ pos 1 i c ∗ pos 2 i c ∗ pos 3 i c))
        ∗ (bigSep Finset.univ fun i : Slot => crd 1 i c) ∗ bigSep Finset.univ fun i : Slot => crd 3 i c) := by
    unfold slot0
    rw [bigSep_sep', bigSep_sep', bigSep_sep', bigSep_sep', bigSep_sep', bigSep_sep' (Φ := fun i : Slot => crd 1 i c)]
  rw [Pipeline.unscopedRestP_none, unscopedRest0_eq]
  unfold dealt places pays
  rw [h4]
  iintro ⟨⟨Hx, Ho⟩, Hlev, Hcr, -, ⟨%K, HR, ⟨HpB, HpC, Hp⟩, ⟨Ht0, Ht1, Ht2, Ht3⟩, HtC, Hk0, Hk1, Hk2, Hk3⟩⟩
  ihave Hc := (credits (F := F) c) $$ Hcr
  icases Hc with ⟨HcB, Hc1, Hc3⟩
  ihave Hx := (x_split m c) $$ Hx
  icases Hx with ⟨HxL, Hsrc⟩
  ihave Ho := (out_split m c) $$ Ho
  icases Ho with ⟨Hcm, Hb1, Hb2, Hb3, Hb0⟩
  imodintro
  isplitl
  · unfold begins Pre
    iexists K
    isplitl [HR]; · iexact HR
    isplitl [Hlev]; · iexact Hlev
    isplitl [Ht0 Ht1 Ht2 Ht3 Hb0 Hb1 Hb2 Hb3]
    · unfold sgn
      isplitl [Ht1 Hb1]; · isplitl [Ht1] <;> iassumption
      isplitl [Ht2 Hb2]; · isplitl [Ht2] <;> iassumption
      isplitl [Ht3 Hb3]; · isplitl [Ht3] <;> iassumption
      isplitl [Ht0] <;> iassumption
    isplitl [HcB HpB]
    · unfold bar; isplitl [HcB] <;> iassumption
    isplitl [HtC HpC Hcm HxL]
    · unfold copyPre
      isplitl [HtC HpC]; · isplitl [HtC] <;> iassumption
      isplitl [Hcm] <;> iassumption
    isplitr [Hsrc]
    · rw [hslot]
      isplitl [Hk0 Hk1]; · isplitl [Hk0] <;> iassumption
      isplitl [Hk2 Hk3]; · isplitl [Hk2] <;> iassumption
      isplitl [Hp]; · iexact Hp
      isplitl [Hc1] <;> iassumption
    iexact Hsrc
  · iempintro

/-- What the pieces say at the end. -/
def ended (c : Dev nD) : sProp 𝕄 := iprop((copyPay m c ∗ bigSep Finset.univ fun i : Slot => iprop(got m 2 i c ∗ got m 3 i c)) ∗ semVal (barCell c) 0)

theorem exit_split (c : Dev nD) :
    (dats m 0 c).Φ (Fin.last cfg0.N) ⊢ iprop(ended m c ∗ Pipeline.ownSems0 osem c ∗ Pipeline.scopedRest cfg0.spec c) := by
  have ho : (Pipeline.ownSems0 (Ix := Unit) (Name := ℕ) (U := UU) (Lvl := ℕ) (Val := Elt F) (τ := τ) osem c : sProp 𝕄)
      = iprop(semVal (copyCell c) 0 ∗ bigSep Finset.univ fun x : Fin 4 × Slot => zero x.1 x.2 c) := by
    unfold Pipeline.ownSems0
    rw [bigSep_univ_sum, bigSep_univ_of_subsingleton ()]; rfl
  rw [show (dats m 0 c).Φ (Fin.last cfg0.N) = Post m c from rfl, scopedRest0_eq, ho]
  unfold Post ended
  iintro ⟨Hg, HB, HC, HZ⟩
  isplitl [Hg HB]; · isplitl [Hg] <;> iassumption
  isplitl [HC HZ]; · isplitl [HC] <;> iassumption
  iempintro

theorem got_ring (c : Dev nD) (i : Slot) (h : rcv i c = true) : got m 2 i c = oPts fullShare.left (rb i c) c (G m c) := if_pos h
theorem got_exch (c : Dev nD) (i : Slot) (h : rcv i c = true) : got m 3 i c = oPts fullShare (rb i (partner c)) c (G m c) := if_pos h

/-- A block held at contents `f` pins the memory there. -/
theorem block_read {q : PosShare TreeShare} {b : Fin 32} {c : Dev nD} {f} (s' : Phys nD τ sig (Elt F)) (i : S65536x1024.Idx) (hi : i ∈ (ob b).view.set) :
    iprop(oPts q b c f ∗ SI s') ⊢ (⌜s'.mem.mem ((c : Thread nD τ).loc main_v1) i = f i⌝ : sProp 𝕄) := by
  unfold oPts
  iintro ⟨H, HSI⟩
  ihave %h := (SI_pointsTo_agree (st := s')) $$ [HSI H]
  · isplitl [HSI] <;> iassumption
  ipureintro
  exact h i hi

/-- The pieces pin every place of the gathered array -/
theorem out_read (c : Dev nD) (s' : Phys nD τ sig (Elt F)) (i : S65536x1024.Idx) :
    iprop(ended m c ∗ SI s') ⊢ (⌜s'.mem.mem ((c : Thread nD τ).loc main_v1) i = G m c i⌝ : sProp 𝕄) := by
  classical
  unfold ended copyPay
  rcases covered c i with hc | ⟨⟨j, p⟩, hx, hi⟩
  · iintro ⟨⟨⟨⟨H, -⟩, -⟩, -⟩, HSI⟩
    ihave %h := (SI_pointsTo_agree (st := s')) $$ [HSI H]
    · isplitl [HSI] <;> iassumption
    ipureintro
    exact h i hc
  · have he : (bigSep Finset.univ fun i : Slot => iprop(got m 2 i c ∗ got m 3 i c)) ⊢ iprop(got m 2 j c ∗ got m 3 j c) :=
      bigSep_elim (Φ := fun i : Slot => iprop(got m 2 i c ∗ got m 3 i c)) (Finset.mem_univ j)
    rw [got_ring m c j hx, got_exch m c j hx] at he
    iintro ⟨⟨⟨-, H⟩, -⟩, HSI⟩
    ihave H := he $$ H
    icases H with ⟨H2, H3⟩
    cases p
    · iapply (block_read (q := fullShare.left) (b := rb j c) (f := G m c) s' i hi)
      isplitl [H2] <;> iassumption
    · iapply (block_read (q := fullShare) (b := rb j (partner c)) (f := G m c) s' i hi)
      isplitl [H3] <;> iassumption

/-- and of the own array. -/
theorem x_read (c : Dev nD) (s' : Phys nD τ sig (Elt F)) (i : S16384x1024.Idx) :
    iprop(ended m c ∗ SI s') ⊢ (⌜s'.mem.mem ((c : Thread nD τ).loc main_arg0) i = m ((c : Thread nD τ).loc main_arg0) i⌝ : sProp 𝕄) := by
  unfold ended copyPay
  iintro ⟨⟨⟨⟨-, H⟩, -⟩, -⟩, HSI⟩
  ihave %h := (SI_pointsTo_agree (st := s')) $$ [HSI H]
  · isplitl [HSI] <;> iassumption
  ipureintro
  exact h i (by rw [show xM.view.set = Finset.univ from View.set_whole _]; exact Finset.mem_univ i)

/-- What a device's memory holds at the end. -/
def Final (c : Dev nD) (s : MemSt nD τ sig (Elt F)) : Prop :=
  s.mem ((c : Thread nD τ).loc main_v1) = G m c ∧ s.mem ((c : Thread nD τ).loc main_arg0) = m ((c : Thread nD τ).loc main_arg0)

theorem final_read (c : Dev nD) (s' : Phys nD τ sig (Elt F)) : iprop(ended m c ∗ SI s') ⊢ (⌜Final m c s'.mem⌝ : sProp 𝕄) := by
  have h1 : iprop(ended m c ∗ SI s') ⊢ (⌜∀ i, s'.mem.mem ((c : Thread nD τ).loc main_v1) i = G m c i⌝ : sProp 𝕄) :=
    (forall_intro fun i => out_read m c s' i).trans pure_forall.2
  have h2 : iprop(ended m c ∗ SI s') ⊢ (⌜∀ i, s'.mem.mem ((c : Thread nD τ).loc main_arg0) i = m ((c : Thread nD τ).loc main_arg0) i⌝ : sProp 𝕄) :=
    (forall_intro fun i => x_read m c s' i).trans pure_forall.2
  refine (persistent_entails_left h1).trans ((sep_mono_left h2).trans ?_)
  iintro ⟨%ha, %hb⟩
  ipureintro
  exact ⟨funext hb, funext ha⟩

theorem end_read (c : Dev nD) (s' : Phys nD τ sig (Elt F)) :
    iprop(ended m c ∗ emp ∗ SI s')
      ⊢ |={Set.univ}=> iprop(⌜Final m c s'.mem ∧ ∀ sm : SemLoc sig, sm.isScoped .tc = false → s'.mem.sem ((c : Thread nD τ), sm) = 0⌝ ∗ SI s') := by
  have hz : ended m c ⊢ |={Set.univ}=> (unscopedSems0 c : sProp 𝕄) := by
    rw [unscoped_eq]
    unfold ended
    iintro ⟨-, H⟩
    imodintro
    iexact H
  have h0 : iprop(ended m c ∗ emp ∗ SI s') ⊢ iprop(ended m c ∗ SI s') := by
    iintro ⟨H, -, HSI⟩
    isplitl [H] <;> iassumption
  refine h0.trans ((persistent_entails_left (final_read m c s')).trans ?_)
  iintro ⟨H, %hf⟩
  imod (Pipeline.unscopedSems0_read hz s') $$ H with ⟨%hs, HSI⟩
  imodintro
  isplitr
  · ipureintro; exact ⟨hf, hs⟩
  iexact HSI

/-! ## The run -/

set_option maxRecDepth 8000 in
/-- From any memory with zero counters, every execution of the kernel on all devices ends, and in every final state each
    device's gathered array holds `G`, its own array is unchanged and every semaphore is at zero. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne)
    (hwaits := fun c => Pipeline.cellsWaits_intro cfgs (dats m) () 0 c fun w s t => w.elim0)
    (G := funded m) (G' := dealt m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := deal m)
    (hA := fun _ w => w.elim0) (hpf := fun _ k => k.elim0)
    (X := begins m) (Y := ended m) (Z := fun _ => iprop(emp))
    (hX := begin_intro m ρ)
    (hin := fun c => by
      rw [show (dats m 0 c).Φ 0 = begins m c from rfl]
      iintro ⟨H, -, -⟩
      iexact H)
    (hout := exit_split m)
    (QY := fun c s => Final m c s ∧ ∀ sm : SemLoc sig, sm.isScoped .tc = false → s.sem ((c.tc : Thread nD τ), sm) = 0)
    (hY := end_read m)
    (hQ := fun _ h hs => ⟨fun c => (h c).2.2.1, sem_eq_zero hs fun c => (h c).2.2.2⟩)

end Cert.Gather

end
-- ==== Proof.Value.lean ====
/-
# What the run gives

The gathered array of every device is the whole array whose blocks the devices hold, and each of the claims.
-/
module

public import proofs.«01_k».proof.Proof.Run
public import proofs.«01_k».proof.Defs
public import proofs.«01_k».proof.Proof.Gen.Kernel
public import proofs.«01_k».proof.Proof.Gen.ReferenceIdeal
public import Idealize.ShloMosaic.Lib.StableHlo.Run

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- If every device's own array is the block of the whole array `v` that its `z` names, what device `c` gathers is `v`. -/
theorem gathered {F : FTy → Type} [FloatOps F] (m : (ℓ : Loc nD τ sig) → Buf (Elt F) ℓ) (v : (⟨2, ![65536, 1024]⟩ : Shape).Idx → Elt F .f32)
    (h : ∀ c : Dev nD, m ((c : Thread nD τ).loc main_arg0) = Layout.blockN ⟨2, ![16384, 1024]⟩ ⟨2, ![65536, 1024]⟩ (Layout.meshBlock [2, 4, 4] ![[2], []] c) v)
    (c : Dev nD) : G m c = v := by
  funext i
  have h0 : (i (0 : Fin 2)).val < 65536 := (i (0 : Fin 2)).isLt
  have h1 : (i (1 : Fin 2)).val < 1024 := (i (1 : Fin 2)).isLt
  have hz : (src c ((i (0 : Fin 2)).val / 2048)).val % 4 = (i (0 : Fin 2)).val / 16384 := by
    unfold src
    split
    · omega
    · show (16 * _ + 4 * _ + _) % 4 = _
      omega
  unfold G
  rw [h, Layout.blockN_apply]
  refine congrArg v (funext fun a => Fin.ext ?_)
  rw [Layout.TilesN.idx_val]
  match a with
  | ⟨0, _⟩ =>
    show ((src c ((i (0 : Fin 2)).val / 2048)).val / 1 % 4 * 1 + 0) * 16384 + (i (0 : Fin 2)).val % 16384 = (i (0 : Fin 2)).val
    omega
  | ⟨1, _⟩ =>
    show 0 * 1024 + (i (1 : Fin 2)).val % 1024 = (i (1 : Fin 2)).val
    omega

/-- The kernel as written runs from any memory, keeps its argument and leaves every semaphore at zero, -/
theorem frame_kernel : Cert.quiescent_Kernel := fun m ρ _ =>
  (θ_run Cert.Kernel.defs _ _).mono (fun _ h => ⟨fun c => (h.1 c).2, h.2⟩) (run_main (F := Bits) m ρ)

/-- and so does the kernel read at the extended reals. -/
theorem frame_ideal : Cert.quiescent_KernelIdeal := fun m ρ _ =>
  (θ_run Cert.KernelIdeal.defs _ _).mono (fun _ h => ⟨fun c => (h.1 c).2, h.2⟩) (run_main (F := Ideal) m ρ)

open Idealize.ShloMosaic.StableHlo in
/-- The reference returns its argument: its run is that of no operation, so its memory ends as it began. -/
theorem run_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r =>
      ∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) :=
  (θ_run Cert.ReferenceIdeal.defs _ _).mono (fun _ h c => h c Cert.ReferenceIdeal.main_arg0)
    (run_seq (by decide) (by decide) Cert.ReferenceIdeal.defs Cert.ReferenceIdeal.main (fun _ => []) (fun _ => rfl) (fun _ => trivial) m ρ)

/-- The reference keeps its argument; it has no semaphore to leave. -/
theorem frame_reference : Cert.quiescent_ReferenceIdeal := fun m ρ _ =>
  (θ_run Cert.ReferenceIdeal.defs _ _).mono (fun _ h => ⟨h, sem_eq_zero_of_no_sems (by decide) _⟩) (run_reference m ρ)

/-- Every device's result is the reference's: the whole array. -/
theorem same_value : Cert.algebraic_KernelIdeal_ReferenceIdeal := fun m ρ m' ρ' _ h =>
  ⟨_, (θ_run Cert.KernelIdeal.defs _ _).mono (fun _ hr c => ⟨(hr.1 c).1.trans (gathered m _ h c), (hr.1 c).2⟩) (run_main (F := Ideal) m ρ),
    (θ_run Cert.ReferenceIdeal.defs _ _).mono (fun _ hr => ⟨hr 0, hr 0⟩) (run_reference m' ρ')⟩

end Cert.Gather

end
-- ==== Proof.lean ====
/-
The proof of the certificate's claims. The launch, the run and the value are in the modules under `Proof/`; here they are
put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value

@[expose] public section

noncomputable section

namespace Cert.Proof

/-- Every claim: the three runs, the idealization that changes nothing, and the value. -/
theorem claim : Cert.Claim := ⟨Cert.Kernel.Gen.facts, Cert.KernelIdeal.Gen.facts, Cert.ReferenceIdeal.Gen.facts,
  Cert.Gather.frame_kernel, Cert.Gather.frame_ideal, Cert.Gather.frame_reference, trivial, Cert.Gather.same_value⟩

end Cert.Proof

end
